-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_finite_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x512x4x64 : S_.BroadcastsInDim S2x512x4x64 (![] : Fin 0 → Fin S2x512x4x64.rank)

variable [Facts]

def fn {F : FTy → Type} [FloatOps F] (main_arg0 : FVec F S2x128x512 .f32) (main_arg1 : FVec F S512x256 .f32) (main_arg2 : FVec F S2x512x4x64 .f32) (main_arg3 : FVec F S2x512x4x64 .f32) (main_arg4 : FVec F S256x512 .f32) : IVec S2x128x512 1 × IVec S512x256 1 × IVec S2x512x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x512x4x64 .f32 := Host.absf main_arg2
  let main_cst_1 : FVec F S_ .f32 := constant S_ .f32 0x7F800000#32
  let main_v7 : FVec F S2x512x4x64 .f32 := broadcastInDim S2x512x4x64 ![] bcast_S_S2x512x4x64 main_cst_1
  let main_v8 : IVec S2x512x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x128x256 : Shape := ⟨3, ![2, 128, 256]⟩
abbrev S2x2x128x256 : Shape := ⟨4, ![2, 2, 128, 256]⟩
abbrev S4x2x128x128 : Shape := ⟨4, ![4, 2, 128, 128]⟩
abbrev S4x2x128x64 : Shape := ⟨4, ![4, 2, 128, 64]⟩
abbrev S3 : Shape := ⟨1, ![3]⟩
abbrev S4 : Shape := ⟨1, ![4]⟩
abbrev S6 : Shape := ⟨1, ![6]⟩
abbrev S4x2 : Shape := ⟨2, ![4, 2]⟩
abbrev S_ : Shape := ⟨0, ![]⟩
abbrev S1x2x128x256 : Shape := ⟨4, ![1, 2, 128, 256]⟩
abbrev S2x64x128 : Shape := ⟨3, ![2, 64, 128]⟩
abbrev S1x2x64x128 : Shape := ⟨4, ![1, 2, 64, 128]⟩
abbrev S1 : Shape := ⟨1, ![1]⟩
abbrev S1x2x128x128 : Shape := ⟨4, ![1, 2, 128, 128]⟩
abbrev S2x128x128 : Shape := ⟨3, ![2, 128, 128]⟩
abbrev S2x1x128x128 : Shape := ⟨4, ![2, 1, 128, 128]⟩
abbrev S2x1x64x128 : Shape := ⟨4, ![2, 1, 64, 128]⟩
abbrev S128x512 : Shape := ⟨2, ![128, 512]⟩
abbrev S512x128 : Shape := ⟨2, ![512, 128]⟩
abbrev S128x128 : Shape := ⟨2, ![128, 128]⟩
abbrev S128x64 : Shape := ⟨2, ![128, 64]⟩
abbrev S1x1x128x64 : Shape := ⟨4, ![1, 1, 128, 64]⟩
abbrev S128 : Shape := ⟨1, ![128]⟩
abbrev S128x1 : Shape := ⟨2, ![128, 1]⟩
abbrev S1x1 : Shape := ⟨2, ![1, 1]⟩
abbrev S64x512 : Shape := ⟨2, ![64, 512]⟩

abbrev nBuf : Space → Nat
  | .hbm => 10
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S256x512, .f32⟩
  | .hbm, ⟨6, _⟩ => ⟨S2x128x256, .f32⟩
  | .hbm, ⟨7, _⟩ => ⟨S2x128x256, .f32⟩
  | .hbm, ⟨8, _⟩ => ⟨S256x512, .f32⟩
  | .hbm, ⟨9, _⟩ => ⟨S2x128x512, .f32⟩
  | .local _ .vmem, ⟨0, _⟩ => ⟨S256x512, .f32⟩
  | .local _ .vmem, ⟨1, _⟩ => ⟨S512x256, .f32⟩
  | .local _ .vmem, ⟨2, _⟩ => ⟨S2x128x256, .f32⟩
  | .local _ .vmem, ⟨3, _⟩ => ⟨S2x128x256, .f32⟩
  | .local _ .vmem, ⟨4, _⟩ => ⟨S256x512, .f32⟩
  | .local _ .vmem, ⟨5, _⟩ => ⟨S256x512, .f32⟩
  | .local _ .vmem, ⟨6, _⟩ => ⟨S2x2x128x256, .bf16⟩
  | .local _ .vmem, ⟨7, _⟩ => ⟨S4x2x128x128, .bf16⟩
  | .local _ .vmem, ⟨8, _⟩ => ⟨S4x2x128x64, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_12 : BitVec 32 := 1#32
  let v32 : BitVec 32 := Scalar.addi v2 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_20 : BitVec 32 := 1#32
  let v43 : BitVec 32 := Scalar.muli v42 c1_i32_20
  let v44 : BitVec 32 := Scalar.addi c0_i32_21 v43
  v44.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_22 : BitVec 32 := 2#32
  let v45 : BitVec 32 := Scalar.addi v2 c2_i32_22
  let c4_i32_23 : BitVec 32 := 4#32
  let c0_i32_24 : BitVec 32 := 0#32
  let v46 : BitVec 1 := Scalar.cmpi .eq c4_i32_23 c0_i32_24
  let c1_i32_25 : BitVec 32 := 1#32
  let v47 : BitVec 32 := Scalar.select v46 c1_i32_25 c4_i32_23
  let v48 : BitVec 32 := Scalar.remsi v45 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  let c1_i32_30 : BitVec 32 := 1#32
  let v56 : BitVec 32 := Scalar.muli v55 c1_i32_30
  let v57 : BitVec 32 := Scalar.addi c0_i32_31 v56
  v57.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v58 : BitVec 32 := Scalar.addi v2 c3_i32
  let c4_i32_32 : BitVec 32 := 4#32
  let c0_i32_33 : BitVec 32 := 0#32
  let v59 : BitVec 1 := Scalar.cmpi .eq c4_i32_32 c0_i32_33
  let c1_i32_34 : BitVec 32 := 1#32
  let v60 : BitVec 32 := Scalar.select v59 c1_i32_34 c4_i32_32
  let v61 : BitVec 32 := Scalar.remsi v58 v60
  let c0_i32_36 : BitVec 32 := 0#32
  let v63 : BitVec 1 := Scalar.cmpi .slt v61 c0_i32_36
  let c0_i32_37 : BitVec 32 := 0#32
  let v64 : BitVec 1 := Scalar.cmpi .slt v60 c0_i32_37
  let v65 : BitVec 1 := Scalar.xori v63 v64
  let c0_i32_35 : BitVec 32 := 0#32
  let v62 : BitVec 1 := Scalar.cmpi .ne v61 c0_i32_35
  let v66 : BitVec 1 := Scalar.andi v65 v62
  let v67 : BitVec 32 := Scalar.addi v61 v60
  let v68 : BitVec 32 := Scalar.select v66 v67 v61
  let c1_i32_39 : BitVec 32 := 1#32
  let v69 : BitVec 32 := Scalar.muli v68 c1_i32_39
  let v70 : BitVec 32 := Scalar.addi c0_i32_40 v69
  v70.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_60 : BitVec 32 := 2#32
  let v91 : BitVec 1 := Scalar.cmpi .slt v2 c2_i32_60
  let v92 : BitVec 32 := Scalar.extui v91
  let c0_i32_61 : BitVec 32 := 0#32
  let v93 : BitVec 1 := Scalar.cmpi .ne v92 c0_i32_61
  v93

def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_639 : BitVec 32 := 0#32
  let c0_i32_640 : BitVec 32 := 0#32
  let c0_i32_641 : BitVec 32 := 0#32
  ![v2.toNat, 0, 0, 0]
def k0_off3 (d0 : Dev nD) (c1_i32_570 : BitVec 32) : Fin 4 → Nat :=
  let c0_i32_642 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c0_i32_643 : BitVec 32 := 0#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 0, v829.toNat]
def k0_dev4 (d0 : Dev nD) : Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_570 : BitVec 32 := 1#32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c1_i32_637 : BitVec 32 := 1#32
  let v910 : BitVec 32 := Scalar.muli v800 c1_i32_637
  let v911 : BitVec 32 := Scalar.addi c0_i32_638 v910
  v911.toNat
def k0_dev5 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_592 : BitVec 32 := 2#32
  let v830 : BitVec 32 := Scalar.addi v2 c2_i32_592
  let c4_i32_593 : BitVec 32 := 4#32
  let c0_i32_594 : BitVec 32 := 0#32
  let v831 : BitVec 1 := Scalar.cmpi .eq c4_i32_593 c0_i32_594
  let c1_i32_595 : BitVec 32 := 1#32
  let v832 : BitVec 32 := Scalar.select v831 c1_i32_595 c4_i32_593
  let v833 : BitVec 32 := Scalar.remsi v830 v832
  let c0_i32_597 : BitVec 32 := 0#32
  let v835 : BitVec 1 := Scalar.cmpi .slt v833 c0_i32_597
  let c0_i32_598 : BitVec 32 := 0#32
  let v836 : BitVec 1 := Scalar.cmpi .slt v832 c0_i32_598
  let v837 : BitVec 1 := Scalar.xori v835 v836
  let c0_i32_596 : BitVec 32 := 0#32
  let v834 : BitVec 1 := Scalar.cmpi .ne v833 c0_i32_596
  let v838 : BitVec 1 := Scalar.andi v837 v834
  let v839 : BitVec 32 := Scalar.addi v833 v832
  let v840 : BitVec 32 := Scalar.select v838 v839 v833
  let c1_i32_645 : BitVec 32 := 1#32
  let v920 : BitVec 32 := Scalar.muli v840 c1_i32_645
  let v921 : BitVec 32 := Scalar.addi c0_i32_646 v920
  v921.toNat
def k0_dev6 (d0 : Dev nD) : Nat :=
  let c0_i32_654 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_614 : BitVec 32 := 3#32
  let v870 : BitVec 32 := Scalar.addi v2 c3_i32_614
  let c4_i32_615 : BitVec 32 := 4#32
  let c0_i32_616 : BitVec 32 := 0#32
  let v871 : BitVec 1 := Scalar.cmpi .eq c4_i32_615 c0_i32_616
  let c1_i32_617 : BitVec 32 := 1#32
  let v872 : BitVec 32 := Scalar.select v871 c1_i32_617 c4_i32_615
  let v873 : BitVec 32 := Scalar.remsi v870 v872
  let c0_i32_619 : BitVec 32 := 0#32
  let v875 : BitVec 1 := Scalar.cmpi .slt v873 c0_i32_619
  let c0_i32_620 : BitVec 32 := 0#32
  let v876 : BitVec 1 := Scalar.cmpi .slt v872 c0_i32_620
  let v877 : BitVec 1 := Scalar.xori v875 v876
  let c0_i32_618 : BitVec 32 := 0#32
  let v874 : BitVec 1 := Scalar.cmpi .ne v873 c0_i32_618
  let v878 : BitVec 1 := Scalar.andi v877 v874
  let v879 : BitVec 32 := Scalar.addi v873 v872
  let v880 : BitVec 32 := Scalar.select v878 v879 v873
  let c1_i32_653 : BitVec 32 := 1#32
  let v930 : BitVec 32 := Scalar.muli v880 c1_i32_653
  let v931 : BitVec 32 := Scalar.addi c0_i32_654 v930
  v931.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_62 : BitVec 32 := 2#32
  let v94 : BitVec 1 := Scalar.cmpi .eq v2 c2_i32_62
  let v95 : BitVec 32 := Scalar.extui v94
  let c0_i32_63 : BitVec 32 := 0#32
  let v96 : BitVec 1 := Scalar.cmpi .ne v95 c0_i32_63
  v96

def k0_off4 (d0 : Dev nD) (c1_i32_570 : BitVec 32) : Fin 4 → Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c64_i32_645 : BitVec 32 := 64#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 64, v829.toNat]
def k0_dev7 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_570 : BitVec 32 := 1#32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c1_i32_639 : BitVec 32 := 1#32
  let v910 : BitVec 32 := Scalar.muli v800 c1_i32_639
  let v911 : BitVec 32 := Scalar.addi c0_i32_640 v910
  v911.toNat
def k0_dev8 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_592 : BitVec 32 := 2#32
  let v830 : BitVec 32 := Scalar.addi v2 c2_i32_592
  let c4_i32_593 : BitVec 32 := 4#32
  let c0_i32_594 : BitVec 32 := 0#32
  let v831 : BitVec 1 := Scalar.cmpi .eq c4_i32_593 c0_i32_594
  let c1_i32_595 : BitVec 32 := 1#32
  let v832 : BitVec 32 := Scalar.select v831 c1_i32_595 c4_i32_593
  let v833 : BitVec 32 := Scalar.remsi v830 v832
  let c0_i32_597 : BitVec 32 := 0#32
  let v835 : BitVec 1 := Scalar.cmpi .slt v833 c0_i32_597
  let c0_i32_598 : BitVec 32 := 0#32
  let v836 : BitVec 1 := Scalar.cmpi .slt v832 c0_i32_598
  let v837 : BitVec 1 := Scalar.xori v835 v836
  let c0_i32_596 : BitVec 32 := 0#32
  let v834 : BitVec 1 := Scalar.cmpi .ne v833 c0_i32_596
  let v838 : BitVec 1 := Scalar.andi v837 v834
  let v839 : BitVec 32 := Scalar.addi v833 v832
  let v840 : BitVec 32 := Scalar.select v838 v839 v833
  let c1_i32_649 : BitVec 32 := 1#32
  let v920 : BitVec 32 := Scalar.muli v840 c1_i32_649
  let v921 : BitVec 32 := Scalar.addi c0_i32_650 v920
  v921.toNat
def k0_dev9 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_614 : BitVec 32 := 3#32
  let v870 : BitVec 32 := Scalar.addi v2 c3_i32_614
  let c4_i32_615 : BitVec 32 := 4#32
  let c0_i32_616 : BitVec 32 := 0#32
  let v871 : BitVec 1 := Scalar.cmpi .eq c4_i32_615 c0_i32_616
  let c1_i32_617 : BitVec 32 := 1#32
  let v872 : BitVec 32 := Scalar.select v871 c1_i32_617 c4_i32_615
  let v873 : BitVec 32 := Scalar.remsi v870 v872
  let c0_i32_619 : BitVec 32 := 0#32
  let v875 : BitVec 1 := Scalar.cmpi .slt v873 c0_i32_619
  let c0_i32_620 : BitVec 32 := 0#32
  let v876 : BitVec 1 := Scalar.cmpi .slt v872 c0_i32_620
  let v877 : BitVec 1 := Scalar.xori v875 v876
  let c0_i32_618 : BitVec 32 := 0#32
  let v874 : BitVec 1 := Scalar.cmpi .ne v873 c0_i32_618
  let v878 : BitVec 1 := Scalar.andi v877 v874
  let v879 : BitVec 32 := Scalar.addi v873 v872
  let v880 : BitVec 32 := Scalar.select v878 v879 v873
  let c1_i32_659 : BitVec 32 := 1#32
  let v930 : BitVec 32 := Scalar.muli v880 c1_i32_659
  let v931 : BitVec 32 := Scalar.addi c0_i32_660 v930
  v931.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v97 : BitVec 1 := Scalar.cmpi .eq v2 c3_i32_64
  let v98 : BitVec 32 := Scalar.extui v97
  let c0_i32_65 : BitVec 32 := 0#32
  let v99 : BitVec 1 := Scalar.cmpi .ne v98 c0_i32_65
  v99

def k0_off5 (d0 : Dev nD) (c1_i32_570 : BitVec 32) : Fin 4 → Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c0_i32_645 : BitVec 32 := 0#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 0, v829.toNat]
def k0_dev10 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_570 : BitVec 32 := 1#32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c1_i32_639 : BitVec 32 := 1#32
  let v910 : BitVec 32 := Scalar.muli v800 c1_i32_639
  let v911 : BitVec 32 := Scalar.addi c0_i32_640 v910
  v911.toNat
def k0_dev11 (d0 : Dev nD) : Nat :=
  let c0_i32_650 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_592 : BitVec 32 := 2#32
  let v830 : BitVec 32 := Scalar.addi v2 c2_i32_592
  let c4_i32_593 : BitVec 32 := 4#32
  let c0_i32_594 : BitVec 32 := 0#32
  let v831 : BitVec 1 := Scalar.cmpi .eq c4_i32_593 c0_i32_594
  let c1_i32_595 : BitVec 32 := 1#32
  let v832 : BitVec 32 := Scalar.select v831 c1_i32_595 c4_i32_593
  let v833 : BitVec 32 := Scalar.remsi v830 v832
  let c0_i32_597 : BitVec 32 := 0#32
  let v835 : BitVec 1 := Scalar.cmpi .slt v833 c0_i32_597
  let c0_i32_598 : BitVec 32 := 0#32
  let v836 : BitVec 1 := Scalar.cmpi .slt v832 c0_i32_598
  let v837 : BitVec 1 := Scalar.xori v835 v836
  let c0_i32_596 : BitVec 32 := 0#32
  let v834 : BitVec 1 := Scalar.cmpi .ne v833 c0_i32_596
  let v838 : BitVec 1 := Scalar.andi v837 v834
  let v839 : BitVec 32 := Scalar.addi v833 v832
  let v840 : BitVec 32 := Scalar.select v838 v839 v833
  let c1_i32_649 : BitVec 32 := 1#32
  let v920 : BitVec 32 := Scalar.muli v840 c1_i32_649
  let v921 : BitVec 32 := Scalar.addi c0_i32_650 v920
  v921.toNat
def k0_dev12 (d0 : Dev nD) : Nat :=
  let c0_i32_660 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_614 : BitVec 32 := 3#32
  let v870 : BitVec 32 := Scalar.addi v2 c3_i32_614
  let c4_i32_615 : BitVec 32 := 4#32
  let c0_i32_616 : BitVec 32 := 0#32
  let v871 : BitVec 1 := Scalar.cmpi .eq c4_i32_615 c0_i32_616
  let c1_i32_617 : BitVec 32 := 1#32
  let v872 : BitVec 32 := Scalar.select v871 c1_i32_617 c4_i32_615
  let v873 : BitVec 32 := Scalar.remsi v870 v872
  let c0_i32_619 : BitVec 32 := 0#32
  let v875 : BitVec 1 := Scalar.cmpi .slt v873 c0_i32_619
  let c0_i32_620 : BitVec 32 := 0#32
  let v876 : BitVec 1 := Scalar.cmpi .slt v872 c0_i32_620
  let v877 : BitVec 1 := Scalar.xori v875 v876
  let c0_i32_618 : BitVec 32 := 0#32
  let v874 : BitVec 1 := Scalar.cmpi .ne v873 c0_i32_618
  let v878 : BitVec 1 := Scalar.andi v877 v874
  let v879 : BitVec 32 := Scalar.addi v873 v872
  let v880 : BitVec 32 := Scalar.select v878 v879 v873
  let c1_i32_659 : BitVec 32 := 1#32
  let v930 : BitVec 32 := Scalar.muli v880 c1_i32_659
  let v931 : BitVec 32 := Scalar.addi c0_i32_660 v930
  v931.toNat
def k0_off6 (d0 : Dev nD) : Fin 4 → Nat :=
  let c0_66 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v101 : Index := Scalar.indexCast v19
  let c0_67 : Index := 0#32
  let c2_i32_11 : BitVec 32 := 2#32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c2_i32_11 v29
  let c64_i32 : BitVec 32 := 64#32
  let v100 : BitVec 32 := Scalar.muli v30 c64_i32
  let v102 : Index := Scalar.indexCast v100
  ![0, v101.toNat, 0, v102.toNat]
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v105 : Index := Scalar.indexCast v2
  let c0_68 : Index := 0#32
  let c0_69 : Index := 0#32
  let c0_70 : Index := 0#32
  ![v105.toNat, 0, 0, 0]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c128_i32 : BitVec 32 := 128#32
  let v109 : BitVec 32 := Scalar.muli v19 c128_i32
  let v110 : Index := Scalar.indexCast v109
  let c0_71 : Index := 0#32
  ![v110.toNat, 0]
def k0_off9 (d0 : Dev nD) : Fin 2 → Nat :=
  let c0_73 : Index := 0#32
  let c2_i32_11 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c2_i32_11 v29
  let c64_i32_72 : BitVec 32 := 64#32
  let v113 : BitVec 32 := Scalar.muli v30 c64_i32_72
  let v114 : Index := Scalar.indexCast v113
  ![0, v114.toNat]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v257 : Index := Scalar.indexCast v2
  let c0_151 : Index := 0#32
  let c0_152 : Index := 0#32
  let c0_153 : Index := 0#32
  ![v257.toNat, 0, 0, 0]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_163 : BitVec 32 := 0#32
  ![v2.toNat, 0]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_162 : BitVec 32 := 0#32
  let c0_i32_167 : BitVec 32 := 0#32
  let c0_i32_168 : BitVec 32 := 0#32
  ![v2.toNat, 0, 0, 0]
def k0_dev13 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_154 : BitVec 32 := 1#32
  let v261 : BitVec 32 := Scalar.addi v2 c1_i32_154
  let c4_i32_155 : BitVec 32 := 4#32
  let c0_i32_156 : BitVec 32 := 0#32
  let v262 : BitVec 1 := Scalar.cmpi .eq c4_i32_155 c0_i32_156
  let c1_i32_157 : BitVec 32 := 1#32
  let v263 : BitVec 32 := Scalar.select v262 c1_i32_157 c4_i32_155
  let v264 : BitVec 32 := Scalar.remsi v261 v263
  let c0_i32_159 : BitVec 32 := 0#32
  let v266 : BitVec 1 := Scalar.cmpi .slt v264 c0_i32_159
  let c0_i32_160 : BitVec 32 := 0#32
  let v267 : BitVec 1 := Scalar.cmpi .slt v263 c0_i32_160
  let v268 : BitVec 1 := Scalar.xori v266 v267
  let c0_i32_158 : BitVec 32 := 0#32
  let v265 : BitVec 1 := Scalar.cmpi .ne v264 c0_i32_158
  let v269 : BitVec 1 := Scalar.andi v268 v265
  let v270 : BitVec 32 := Scalar.addi v264 v263
  let v271 : BitVec 32 := Scalar.select v269 v270 v264
  let c1_i32_165 : BitVec 32 := 1#32
  let v272 : BitVec 32 := Scalar.muli v271 c1_i32_165
  let v273 : BitVec 32 := Scalar.addi c0_i32_166 v272
  v273.toNat
def k0_dev14 (d0 : Dev nD) : Nat :=
  let c0_i32_183 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_171 : BitVec 32 := 2#32
  let v282 : BitVec 32 := Scalar.addi v2 c2_i32_171
  let c4_i32_172 : BitVec 32 := 4#32
  let c0_i32_173 : BitVec 32 := 0#32
  let v283 : BitVec 1 := Scalar.cmpi .eq c4_i32_172 c0_i32_173
  let c1_i32_174 : BitVec 32 := 1#32
  let v284 : BitVec 32 := Scalar.select v283 c1_i32_174 c4_i32_172
  let v285 : BitVec 32 := Scalar.remsi v282 v284
  let c0_i32_176 : BitVec 32 := 0#32
  let v287 : BitVec 1 := Scalar.cmpi .slt v285 c0_i32_176
  let c0_i32_177 : BitVec 32 := 0#32
  let v288 : BitVec 1 := Scalar.cmpi .slt v284 c0_i32_177
  let v289 : BitVec 1 := Scalar.xori v287 v288
  let c0_i32_175 : BitVec 32 := 0#32
  let v286 : BitVec 1 := Scalar.cmpi .ne v285 c0_i32_175
  let v290 : BitVec 1 := Scalar.andi v289 v286
  let v291 : BitVec 32 := Scalar.addi v285 v284
  let v292 : BitVec 32 := Scalar.select v290 v291 v285
  let c1_i32_182 : BitVec 32 := 1#32
  let v293 : BitVec 32 := Scalar.muli v292 c1_i32_182
  let v294 : BitVec 32 := Scalar.addi c0_i32_183 v293
  v294.toNat
def k0_dev15 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_188 : BitVec 32 := 3#32
  let v303 : BitVec 32 := Scalar.addi v2 c3_i32_188
  let c4_i32_189 : BitVec 32 := 4#32
  let c0_i32_190 : BitVec 32 := 0#32
  let v304 : BitVec 1 := Scalar.cmpi .eq c4_i32_189 c0_i32_190
  let c1_i32_191 : BitVec 32 := 1#32
  let v305 : BitVec 32 := Scalar.select v304 c1_i32_191 c4_i32_189
  let v306 : BitVec 32 := Scalar.remsi v303 v305
  let c0_i32_193 : BitVec 32 := 0#32
  let v308 : BitVec 1 := Scalar.cmpi .slt v306 c0_i32_193
  let c0_i32_194 : BitVec 32 := 0#32
  let v309 : BitVec 1 := Scalar.cmpi .slt v305 c0_i32_194
  let v310 : BitVec 1 := Scalar.xori v308 v309
  let c0_i32_192 : BitVec 32 := 0#32
  let v307 : BitVec 1 := Scalar.cmpi .ne v306 c0_i32_192
  let v311 : BitVec 1 := Scalar.andi v310 v307
  let v312 : BitVec 32 := Scalar.addi v306 v305
  let v313 : BitVec 32 := Scalar.select v311 v312 v306
  let c1_i32_199 : BitVec 32 := 1#32
  let v314 : BitVec 32 := Scalar.muli v313 c1_i32_199
  let v315 : BitVec 32 := Scalar.addi c0_i32_200 v314
  v315.toNat
def k0_off13 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v376 : Index := Scalar.indexCast v2
  let c1_251 : Index := 1#32
  let c0_252 : Index := 0#32
  let c0_253 : Index := 0#32
  ![v376.toNat, 1, 0, 0]
def k0_off14 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_263 : BitVec 32 := 1#32
  ![v2.toNat, 1]
def k0_off15 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_262 : BitVec 32 := 1#32
  let c0_i32_267 : BitVec 32 := 0#32
  let c0_i32_268 : BitVec 32 := 0#32
  ![v2.toNat, 1, 0, 0]
def k0_dev16 (d0 : Dev nD) : Nat :=
  let c0_i32_266 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_254 : BitVec 32 := 1#32
  let v380 : BitVec 32 := Scalar.addi v2 c1_i32_254
  let c4_i32_255 : BitVec 32 := 4#32
  let c0_i32_256 : BitVec 32 := 0#32
  let v381 : BitVec 1 := Scalar.cmpi .eq c4_i32_255 c0_i32_256
  let c1_i32_257 : BitVec 32 := 1#32
  let v382 : BitVec 32 := Scalar.select v381 c1_i32_257 c4_i32_255
  let v383 : BitVec 32 := Scalar.remsi v380 v382
  let c0_i32_259 : BitVec 32 := 0#32
  let v385 : BitVec 1 := Scalar.cmpi .slt v383 c0_i32_259
  let c0_i32_260 : BitVec 32 := 0#32
  let v386 : BitVec 1 := Scalar.cmpi .slt v382 c0_i32_260
  let v387 : BitVec 1 := Scalar.xori v385 v386
  let c0_i32_258 : BitVec 32 := 0#32
  let v384 : BitVec 1 := Scalar.cmpi .ne v383 c0_i32_258
  let v388 : BitVec 1 := Scalar.andi v387 v384
  let v389 : BitVec 32 := Scalar.addi v383 v382
  let v390 : BitVec 32 := Scalar.select v388 v389 v383
  let c1_i32_265 : BitVec 32 := 1#32
  let v391 : BitVec 32 := Scalar.muli v390 c1_i32_265
  let v392 : BitVec 32 := Scalar.addi c0_i32_266 v391
  v392.toNat
def k0_dev17 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_271 : BitVec 32 := 2#32
  let v401 : BitVec 32 := Scalar.addi v2 c2_i32_271
  let c4_i32_272 : BitVec 32 := 4#32
  let c0_i32_273 : BitVec 32 := 0#32
  let v402 : BitVec 1 := Scalar.cmpi .eq c4_i32_272 c0_i32_273
  let c1_i32_274 : BitVec 32 := 1#32
  let v403 : BitVec 32 := Scalar.select v402 c1_i32_274 c4_i32_272
  let v404 : BitVec 32 := Scalar.remsi v401 v403
  let c0_i32_276 : BitVec 32 := 0#32
  let v406 : BitVec 1 := Scalar.cmpi .slt v404 c0_i32_276
  let c0_i32_277 : BitVec 32 := 0#32
  let v407 : BitVec 1 := Scalar.cmpi .slt v403 c0_i32_277
  let v408 : BitVec 1 := Scalar.xori v406 v407
  let c0_i32_275 : BitVec 32 := 0#32
  let v405 : BitVec 1 := Scalar.cmpi .ne v404 c0_i32_275
  let v409 : BitVec 1 := Scalar.andi v408 v405
  let v410 : BitVec 32 := Scalar.addi v404 v403
  let v411 : BitVec 32 := Scalar.select v409 v410 v404
  let c1_i32_282 : BitVec 32 := 1#32
  let v412 : BitVec 32 := Scalar.muli v411 c1_i32_282
  let v413 : BitVec 32 := Scalar.addi c0_i32_283 v412
  v413.toNat
def k0_dev18 (d0 : Dev nD) : Nat :=
  let c0_i32_299 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_288 : BitVec 32 := 3#32
  let v422 : BitVec 32 := Scalar.addi v2 c3_i32_288
  let c4_i32_289 : BitVec 32 := 4#32
  let c0_i32_290 : BitVec 32 := 0#32
  let v423 : BitVec 1 := Scalar.cmpi .eq c4_i32_289 c0_i32_290
  let c1_i32_291 : BitVec 32 := 1#32
  let v424 : BitVec 32 := Scalar.select v423 c1_i32_291 c4_i32_289
  let v425 : BitVec 32 := Scalar.remsi v422 v424
  let c0_i32_293 : BitVec 32 := 0#32
  let v427 : BitVec 1 := Scalar.cmpi .slt v425 c0_i32_293
  let c0_i32_294 : BitVec 32 := 0#32
  let v428 : BitVec 1 := Scalar.cmpi .slt v424 c0_i32_294
  let v429 : BitVec 1 := Scalar.xori v427 v428
  let c0_i32_292 : BitVec 32 := 0#32
  let v426 : BitVec 1 := Scalar.cmpi .ne v425 c0_i32_292
  let v430 : BitVec 1 := Scalar.andi v429 v426
  let v431 : BitVec 32 := Scalar.addi v425 v424
  let v432 : BitVec 32 := Scalar.select v430 v431 v425
  let c1_i32_298 : BitVec 32 := 1#32
  let v433 : BitVec 32 := Scalar.muli v432 c1_i32_298
  let v434 : BitVec 32 := Scalar.addi c0_i32_299 v433
  v434.toNat
def k0_off16 (d0 : Dev nD) : Fin 2 → Nat :=
  let c1_i32_305 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let v444 : BitVec 32 := Scalar.subi c1_i32_305 v19
  let c128_i32_306 : BitVec 32 := 128#32
  let v445 : BitVec 32 := Scalar.muli v444 c128_i32_306
  let v446 : Index := Scalar.indexCast v445
  let c0_307 : Index := 0#32
  ![v446.toNat, 0]
def k0_off17 (d0 : Dev nD) (c0_i32_311 : BitVec 32) : Fin 2 → Nat :=
  let c2_i32_11 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_5 : BitVec 32 := 2#32
  let c0_i32_6 : BitVec 32 := 0#32
  let v20 : BitVec 1 := Scalar.cmpi .eq c2_i32_5 c0_i32_6
  let c1_i32_7 : BitVec 32 := 1#32
  let v21 : BitVec 32 := Scalar.select v20 c1_i32_7 c2_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c2_i32_11 v29
  let v452 : BitVec 32 := Scalar.addi v30 c0_i32_311
  let c64_i32_312 : BitVec 32 := 64#32
  let v453 : BitVec 32 := Scalar.muli v452 c64_i32_312
  let v454 : Index := Scalar.indexCast v453
  let c0_313 : Index := 0#32
  ![v454.toNat, 0]
def k0_off18 (d0 : Dev nD) (c1_i32_327 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c0_i32_350 : BitVec 32 := 0#32
  ![v488.toNat, 0]
def k0_off19 (d0 : Dev nD) (c1_i32_327 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c0_i32_349 : BitVec 32 := 0#32
  let c0_i32_354 : BitVec 32 := 0#32
  let c0_i32_355 : BitVec 32 := 0#32
  ![v488.toNat, 0, 0, 0]
def k0_off20 (d0 : Dev nD) (c1_i32_327 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c0_i32_335 : BitVec 32 := 0#32
  let v490 : BitVec 1 := Scalar.cmpi .sgt v488 c0_i32_335
  let v491 : BitVec 32 := Scalar.extui v490
  let c0_i32_336 : BitVec 32 := 0#32
  let v492 : BitVec 1 := Scalar.cmpi .slt v488 c0_i32_336
  let v493 : BitVec 32 := Scalar.extui v492
  let v494 : BitVec 32 := Scalar.subi v491 v493
  let c2_i32_334 : BitVec 32 := 2#32
  let c0_i32_337 : BitVec 32 := 0#32
  let v495 : BitVec 1 := Scalar.cmpi .sgt c2_i32_334 c0_i32_337
  let v496 : BitVec 32 := Scalar.extui v495
  let c0_i32_338 : BitVec 32 := 0#32
  let v497 : BitVec 1 := Scalar.cmpi .slt c2_i32_334 c0_i32_338
  let v498 : BitVec 32 := Scalar.extui v497
  let v499 : BitVec 32 := Scalar.subi v496 v498
  let v500 : BitVec 1 := Scalar.cmpi .ne v494 v499
  let v501 : BitVec 32 := Scalar.remsi v488 c2_i32_334
  let c0_i32_339 : BitVec 32 := 0#32
  let v502 : BitVec 1 := Scalar.cmpi .ne v501 c0_i32_339
  let v503 : BitVec 1 := Scalar.andi v500 v502
  let v489 : BitVec 32 := Scalar.divsi v488 c2_i32_334
  let c1_i32_340 : BitVec 32 := 1#32
  let v504 : BitVec 32 := Scalar.subi v489 c1_i32_340
  let v505 : BitVec 32 := Scalar.select v503 v504 v489
  let c128_i32_358 : BitVec 32 := 128#32
  let v525 : BitVec 32 := Scalar.muli v505 c128_i32_358
  let v526 : Index := Scalar.indexCast v525
  let c0_359 : Index := 0#32
  ![v526.toNat, 0]
def k0_off21 (d0 : Dev nD) (c1_i32_327 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let v529 : Index := Scalar.indexCast v488
  let c0_360 : Index := 0#32
  let c0_361 : Index := 0#32
  let c0_362 : Index := 0#32
  ![v529.toNat, 0, 0, 0]
def k0_off22 (d0 : Dev nD) (c1_i32_327 : BitVec 32) (c0_i32_363 : BitVec 32) : Fin 2 → Nat :=
  let c2_i32_347 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c2_i32_341 : BitVec 32 := 2#32
  let c0_i32_342 : BitVec 32 := 0#32
  let v506 : BitVec 1 := Scalar.cmpi .eq c2_i32_341 c0_i32_342
  let c1_i32_343 : BitVec 32 := 1#32
  let v507 : BitVec 32 := Scalar.select v506 c1_i32_343 c2_i32_341
  let v508 : BitVec 32 := Scalar.remsi v488 v507
  let c0_i32_345 : BitVec 32 := 0#32
  let v510 : BitVec 1 := Scalar.cmpi .slt v508 c0_i32_345
  let c0_i32_346 : BitVec 32 := 0#32
  let v511 : BitVec 1 := Scalar.cmpi .slt v507 c0_i32_346
  let v512 : BitVec 1 := Scalar.xori v510 v511
  let c0_i32_344 : BitVec 32 := 0#32
  let v509 : BitVec 1 := Scalar.cmpi .ne v508 c0_i32_344
  let v513 : BitVec 1 := Scalar.andi v512 v509
  let v514 : BitVec 32 := Scalar.addi v508 v507
  let v515 : BitVec 32 := Scalar.select v513 v514 v508
  let v516 : BitVec 32 := Scalar.muli c2_i32_347 v515
  let v533 : BitVec 32 := Scalar.addi v516 c0_i32_363
  let c64_i32_364 : BitVec 32 := 64#32
  let v534 : BitVec 32 := Scalar.muli v533 c64_i32_364
  let v535 : Index := Scalar.indexCast v534
  let c0_365 : Index := 0#32
  ![v535.toNat, 0]
def k0_off23 (d0 : Dev nD) (c1_i32_327 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c1_i32_370 : BitVec 32 := 1#32
  ![v488.toNat, 1]
def k0_off24 (d0 : Dev nD) (c1_i32_327 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let c1_i32_369 : BitVec 32 := 1#32
  let c0_i32_374 : BitVec 32 := 0#32
  let c0_i32_375 : BitVec 32 := 0#32
  ![v488.toNat, 1, 0, 0]
def k0_off25 (d0 : Dev nD) (c1_i32_327 : BitVec 32) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v478 : BitVec 32 := Scalar.addi v2 c1_i32_327
  let c4_i32_328 : BitVec 32 := 4#32
  let c0_i32_329 : BitVec 32 := 0#32
  let v479 : BitVec 1 := Scalar.cmpi .eq c4_i32_328 c0_i32_329
  let c1_i32_330 : BitVec 32 := 1#32
  let v480 : BitVec 32 := Scalar.select v479 c1_i32_330 c4_i32_328
  let v481 : BitVec 32 := Scalar.remsi v478 v480
  let c0_i32_332 : BitVec 32 := 0#32
  let v483 : BitVec 1 := Scalar.cmpi .slt v481 c0_i32_332
  let c0_i32_333 : BitVec 32 := 0#32
  let v484 : BitVec 1 := Scalar.cmpi .slt v480 c0_i32_333
  let v485 : BitVec 1 := Scalar.xori v483 v484
  let c0_i32_331 : BitVec 32 := 0#32
  let v482 : BitVec 1 := Scalar.cmpi .ne v481 c0_i32_331
  let v486 : BitVec 1 := Scalar.andi v485 v482
  let v487 : BitVec 32 := Scalar.addi v481 v480
  let v488 : BitVec 32 := Scalar.select v486 v487 v481
  let v554 : Index := Scalar.indexCast v488
  let c1_380 : Index := 1#32
  let c0_381 : Index := 0#32
  let c0_382 : Index := 0#32
  ![v554.toNat, 1, 0, 0]
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_510 : BitVec 32 := 2#32
  let v745 : BitVec 1 := Scalar.cmpi .slt v2 c2_i32_510
  let v746 : BitVec 32 := Scalar.extui v745
  let c0_i32_511 : BitVec 32 := 0#32
  let v747 : BitVec 1 := Scalar.cmpi .ne v746 c0_i32_511
  v747

def k0_off26 (d0 : Dev nD) (c1_i32_570 : BitVec 32) : Fin 4 → Nat :=
  let c0_i32_638 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c0_i32_639 : BitVec 32 := 0#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 0, v829.toNat]
def k0_off27 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_640 : BitVec 32 := 0#32
  let c0_i32_641 : BitVec 32 := 0#32
  let c0_i32_642 : BitVec 32 := 0#32
  ![v2.toNat, 0, 0, 0]
def k0_cond9 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_512 : BitVec 32 := 2#32
  let v748 : BitVec 1 := Scalar.cmpi .eq v2 c2_i32_512
  let v749 : BitVec 32 := Scalar.extui v748
  let c0_i32_513 : BitVec 32 := 0#32
  let v750 : BitVec 1 := Scalar.cmpi .ne v749 c0_i32_513
  v750

def k0_off28 (d0 : Dev nD) (c1_i32_570 : BitVec 32) : Fin 4 → Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c64_i32_641 : BitVec 32 := 64#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 64, v829.toNat]
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_514 : BitVec 32 := 3#32
  let v751 : BitVec 1 := Scalar.cmpi .eq v2 c3_i32_514
  let v752 : BitVec 32 := Scalar.extui v751
  let c0_i32_515 : BitVec 32 := 0#32
  let v753 : BitVec 1 := Scalar.cmpi .ne v752 c0_i32_515
  v753

def k0_off29 (d0 : Dev nD) (c1_i32_570 : BitVec 32) : Fin 4 → Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v790 : BitVec 32 := Scalar.addi v2 c1_i32_570
  let c4_i32_571 : BitVec 32 := 4#32
  let c0_i32_572 : BitVec 32 := 0#32
  let v791 : BitVec 1 := Scalar.cmpi .eq c4_i32_571 c0_i32_572
  let c1_i32_573 : BitVec 32 := 1#32
  let v792 : BitVec 32 := Scalar.select v791 c1_i32_573 c4_i32_571
  let v793 : BitVec 32 := Scalar.remsi v790 v792
  let c0_i32_575 : BitVec 32 := 0#32
  let v795 : BitVec 1 := Scalar.cmpi .slt v793 c0_i32_575
  let c0_i32_576 : BitVec 32 := 0#32
  let v796 : BitVec 1 := Scalar.cmpi .slt v792 c0_i32_576
  let v797 : BitVec 1 := Scalar.xori v795 v796
  let c0_i32_574 : BitVec 32 := 0#32
  let v794 : BitVec 1 := Scalar.cmpi .ne v793 c0_i32_574
  let v798 : BitVec 1 := Scalar.andi v797 v794
  let v799 : BitVec 32 := Scalar.addi v793 v792
  let v800 : BitVec 32 := Scalar.select v798 v799 v793
  let c0_i32_578 : BitVec 32 := 0#32
  let v802 : BitVec 1 := Scalar.cmpi .sgt v800 c0_i32_578
  let v803 : BitVec 32 := Scalar.extui v802
  let c0_i32_579 : BitVec 32 := 0#32
  let v804 : BitVec 1 := Scalar.cmpi .slt v800 c0_i32_579
  let v805 : BitVec 32 := Scalar.extui v804
  let v806 : BitVec 32 := Scalar.subi v803 v805
  let c2_i32_577 : BitVec 32 := 2#32
  let c0_i32_580 : BitVec 32 := 0#32
  let v807 : BitVec 1 := Scalar.cmpi .sgt c2_i32_577 c0_i32_580
  let v808 : BitVec 32 := Scalar.extui v807
  let c0_i32_581 : BitVec 32 := 0#32
  let v809 : BitVec 1 := Scalar.cmpi .slt c2_i32_577 c0_i32_581
  let v810 : BitVec 32 := Scalar.extui v809
  let v811 : BitVec 32 := Scalar.subi v808 v810
  let v812 : BitVec 1 := Scalar.cmpi .ne v806 v811
  let v813 : BitVec 32 := Scalar.remsi v800 c2_i32_577
  let c0_i32_582 : BitVec 32 := 0#32
  let v814 : BitVec 1 := Scalar.cmpi .ne v813 c0_i32_582
  let v815 : BitVec 1 := Scalar.andi v812 v814
  let v801 : BitVec 32 := Scalar.divsi v800 c2_i32_577
  let c1_i32_583 : BitVec 32 := 1#32
  let v816 : BitVec 32 := Scalar.subi v801 c1_i32_583
  let v817 : BitVec 32 := Scalar.select v815 v816 v801
  let c0_i32_641 : BitVec 32 := 0#32
  let c2_i32_590 : BitVec 32 := 2#32
  let c2_i32_584 : BitVec 32 := 2#32
  let c0_i32_585 : BitVec 32 := 0#32
  let v818 : BitVec 1 := Scalar.cmpi .eq c2_i32_584 c0_i32_585
  let c1_i32_586 : BitVec 32 := 1#32
  let v819 : BitVec 32 := Scalar.select v818 c1_i32_586 c2_i32_584
  let v820 : BitVec 32 := Scalar.remsi v800 v819
  let c0_i32_588 : BitVec 32 := 0#32
  let v822 : BitVec 1 := Scalar.cmpi .slt v820 c0_i32_588
  let c0_i32_589 : BitVec 32 := 0#32
  let v823 : BitVec 1 := Scalar.cmpi .slt v819 c0_i32_589
  let v824 : BitVec 1 := Scalar.xori v822 v823
  let c0_i32_587 : BitVec 32 := 0#32
  let v821 : BitVec 1 := Scalar.cmpi .ne v820 c0_i32_587
  let v825 : BitVec 1 := Scalar.andi v824 v821
  let v826 : BitVec 32 := Scalar.addi v820 v819
  let v827 : BitVec 32 := Scalar.select v825 v826 v820
  let v828 : BitVec 32 := Scalar.muli c2_i32_590 v827
  let c64_i32_591 : BitVec 32 := 64#32
  let v829 : BitVec 32 := Scalar.muli v828 c64_i32_591
  ![0, v817.toNat, 0, v829.toNat]
abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x512x4x64, .f32⟩
  | .hbm, ⟨3, _⟩ => ⟨S2x512x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S128x512, .i32⟩
  | .hbm, ⟨48, _⟩ => ⟨S128x512, .i32⟩
  | .hbm, ⟨49, _⟩ => ⟨S128x512, .i1⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S128x512, .i1⟩
  | .hbm, ⟨54, _⟩ => ⟨S128x512, .i1⟩
  | .hbm, ⟨55, _⟩ => ⟨S128x512, .i32⟩
  | .hbm, ⟨56, _⟩ => ⟨S128x512, .i32⟩
  | .hbm, ⟨57, _⟩ => ⟨S128x512, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S128x512, .i32⟩
  | .hbm, ⟨65, _⟩ => ⟨S128x512, .i32⟩
  | .hbm, ⟨66, _⟩ => ⟨S_, .i32⟩
  | .hbm, ⟨67, _⟩ => ⟨S128x512, .i32⟩
  | .hbm, ⟨68, _⟩ => ⟨S128x512, .i1⟩
  | .hbm, ⟨69, _⟩ => ⟨S_, .i32⟩
  | .hbm, ⟨70, _⟩ => ⟨S128x512, .i32⟩
  | .hbm, ⟨71, _⟩ => ⟨S128x512, .i1⟩
  | .hbm, ⟨72, _⟩ => ⟨S_, .i32⟩
  | .hbm, ⟨73, _⟩ => ⟨S_, .i1⟩
  | .hbm, ⟨74, _⟩ => ⟨S128x512, .i1⟩
  | .hbm, ⟨75, _⟩ => ⟨S128x512, .i1⟩
  | .hbm, ⟨76, _⟩ => ⟨S128x512, .i1⟩
  | .hbm, ⟨77, _⟩ => ⟨S128x512, .i32⟩
  | .hbm, ⟨78, _⟩ => ⟨S128x512, .i32⟩
  | .hbm, ⟨79, _⟩ => ⟨S128x512, .i32⟩
  | .hbm, ⟨80, _⟩ => ⟨S_, .i32⟩
  | .hbm, ⟨81, _⟩ => ⟨S128x512, .i32⟩
  | .hbm, ⟨82, _⟩ => ⟨S128x512, .i1⟩
  | .hbm, ⟨83, _⟩ => ⟨S128x512, .i1⟩
  | .hbm, ⟨84, _⟩ => ⟨S2x4x128x512, .f32⟩
  | .hbm, ⟨85, _⟩ => ⟨S_, .f32⟩
  | .hbm, ⟨86, _⟩ => ⟨S2x4x128x512, .f32⟩
  | .hbm, ⟨87, _⟩ => ⟨S2x4x128x512, .f32⟩
  | .hbm, ⟨88, _⟩ => ⟨S1x1x128x512, .i1⟩
  | .hbm, ⟨89, _⟩ => ⟨S_, .f32⟩
  | .hbm, ⟨90, _⟩ => ⟨S_, .f32⟩
  | .hbm, ⟨91, _⟩ => ⟨S2x4x128x512, .i1⟩
  | .hbm, ⟨92, _⟩ => ⟨S2x4x128x512, .f32⟩
  | .hbm, ⟨93, _⟩ => ⟨S2x4x128x512, .f32⟩
  | .hbm, ⟨94, _⟩ => ⟨S_, .f32⟩
  | .hbm, ⟨95, _⟩ => ⟨S2x4x128, .f32⟩
  | .hbm, ⟨96, _⟩ => ⟨S2x4x128x1, .f32⟩
  | .hbm, ⟨97, _⟩ => ⟨S2x4x128x512, .f32⟩
  | .hbm, ⟨98, _⟩ => ⟨S2x4x128x512, .f32⟩
  | .hbm, ⟨99, _⟩ => ⟨S2x4x128x512, .f32⟩
  | .hbm, ⟨100, _⟩ => ⟨S_, .i1⟩
  | .hbm, ⟨101, _⟩ => ⟨S128, .i1⟩
  | .hbm, ⟨102, _⟩ => ⟨S1x1x128x1, .i1⟩
  | .hbm, ⟨103, _⟩ => ⟨S_, .f32⟩
  | .hbm, ⟨104, _⟩ => ⟨S2x4x128, .f32⟩
  | .hbm, ⟨105, _⟩ => ⟨S2x4x128x1, .f32⟩
  | .hbm, ⟨106, _⟩ => ⟨S_, .f32⟩
  | .hbm, ⟨107, _⟩ => ⟨S_, .f32⟩
  | .hbm, ⟨108, _⟩ => ⟨S2x4x128x1, .i1⟩
  | .hbm, ⟨109, _⟩ => ⟨S2x4x128x1, .f32⟩
  | .hbm, ⟨110, _⟩ => ⟨S2x4x128x1, .f32⟩
  | .hbm, ⟨111, _⟩ => ⟨S2x4x128x512, .f32⟩
  | .hbm, ⟨112, _⟩ => ⟨S2x4x128x512, .f32⟩
  | .hbm, ⟨113, _⟩ => ⟨S1x1x128x1, .i1⟩
  | .hbm, ⟨114, _⟩ => ⟨S_, .f32⟩
  | .hbm, ⟨115, _⟩ => ⟨S_, .f32⟩
  | .hbm, ⟨116, _⟩ => ⟨S2x4x128x512, .i1⟩
  | .hbm, ⟨117, _⟩ => ⟨S2x4x128x512, .f32⟩
  | .hbm, ⟨118, _⟩ => ⟨S2x4x128x512, .f32⟩
  | .hbm, ⟨119, _⟩ => ⟨S2x4x64x128, .f32⟩
  | .hbm, ⟨120, _⟩ => ⟨S2x128x4x64, .f32⟩
  | .hbm, ⟨121, _⟩ => ⟨S2x128x256, .f32⟩
  | .hbm, ⟨122, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Cont.lean ====
/-
  What each device's buffers hold, as functions of what the devices were given: the packed keys and values, the
  gathered keys and values, the two context heads, the mask, and the written output rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionTalk
public import Idealize.ShloMosaic.Lib.Pipeline.Kit
public import Idealize.ShloMosaic.Lib.ValueIdxCore
public import Idealize.ShloMosaic.Lib.ValueLayout
public import Idealize.ShloMosaic.Lib.Tactic

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx

variable {F : FTy → Type} [FloatOps F] [Named F]

/-- What every device is given in its six windows. -/
structure Inp (F : FTy → Type) where
  x : Dev nD → S256x512.Idx → Elt F .f32
  wq : Dev nD → S512x256.Idx → Elt F .f32
  k : Dev nD → S2x128x256.Idx → Elt F .f32
  v : Dev nD → S2x128x256.Idx → Elt F .f32
  wo : Dev nD → S256x512.Idx → Elt F .f32
  o : Dev nD → S256x512.Idx → Elt F .f32

/-- A rectangle of a buffer, read. -/
abbrev ld {α : Type} {s : Shape} (off size : Fin s.rank → ℕ) (inb : ∀ a, off a + size a ≤ s.size a) (f : s.Idx → α) :
    (Rect.unit off size inb).shape.Idx → α := fun j => f ((Rect.unit off size inb).emb j)

/-- The batch device `t` attends in. -/
def bt (t : Dev nD) : Fin 2 := ⟨t.val / 2, Nat.div_lt_of_lt_mul t.isLt⟩

/-- The device `k + 1` after `c`. -/
def nx (c : Dev nD) (k : Fin 3) : Dev nD := ⟨(c.val + (k.val + 1)) % 4, Nat.mod_lt _ (by decide)⟩

section Contents

variable (I : Inp F)

/-- Device `c`'s packed keys (first plane) and values (second plane). -/
def kvbf (c : Dev nD) : S2x2x128x256.Idx → Elt F .bf16 := fun i =>
  if (i 0).val = 0 then k0_pay1 (I.k c) (ix4 (0 : Fin 1) (i 1) (i 2) (i 3))
  else k0_pay2 (I.v c) (ix4 (0 : Fin 1) (i 1) (i 2) (i 3))

/-- The column of a packed row where device `t`'s heads begin. -/
def col (t : Dev nD) (j : Fin 128) : Fin 256 := ⟨128 * (t.val % 2) + j.val, by have := Nat.mod_lt t.val (by decide : 0 < 2); omega⟩

/-- What device `t` holds gathered: slot `o` is device `o`'s keys and values for `t`'s batch and heads, but for the
    halves of slots 2 and 3 that no block of queries reaches, which hold zeros unless they are `t`'s own. -/
def KV (t : Dev nD) : S4x2x128x128.Idx → Elt F .bf16 := fun i =>
  if (i 0).val = 2 ∧ (i 2).val < 64 ∧ t.val ≠ 2 then
    k0_pay3 (ix4 (0 : Fin 1) (i 1) (⟨(i 2).val % 64, Nat.mod_lt _ (by decide)⟩ : Fin 64) (i 3))
  else if (i 0).val = 3 ∧ 64 ≤ (i 2).val ∧ t.val ≠ 3 then
    k0_pay4 (ix4 (0 : Fin 1) (i 1) (⟨(i 2).val % 64, Nat.mod_lt _ (by decide)⟩ : Fin 64) (i 3))
  else kvbf I (i 0) (ix4 (i 1) (bt t) (i 2) (col t (i 3)))

/-- The queries of device `c`'s batch under its heads' columns of the query weights. -/
def qv (c : Dev nD) : FVec F S128x128 .bf16 :=
  k0_pay6 (ld (s := S256x512) (k0_off8 c) S128x512.size (k0_off8_inb c) (I.x c))
    (ld (s := S512x256) (k0_off9 c) S512x128.size (k0_off9_inb c) (I.wq c))

/-- Which keys a query row sees. -/
def msk : IVec S128x512 1 :=
  k0_pay14 (k0_pay11 (iota .tc S128x512 32 [0] iota_S128x512_d0_w32) 64#32 k0_pay7 k0_pay8
      (Scalar.extui (Scalar.cmpi .sgt 64#32 0#32)) (Scalar.extui (Scalar.cmpi .slt 64#32 0#32)))
    (Scalar.select (Scalar.cmpi .eq 3#32 0#32) 1#32 3#32)
    (k0_pay12 (iota .tc S128x512 32 [0] iota_S128x512_d0_w32) 64#32 k0_pay7 k0_pay8
      (Scalar.extui (Scalar.cmpi .sgt 64#32 0#32)) (Scalar.extui (Scalar.cmpi .slt 64#32 0#32)))
    k0_pay13

/-- The block of head `j` in plane `p` (keys or values) of slot `o`. -/
def kvl (c : Dev nD) (o p b : ℕ) (inb : ∀ a, (![o, p, 0, b] : Fin 4 → ℕ) a + S1x1x128x64.size a ≤ S4x2x128x128.size a) :
    Vec F S1x1x128x64 .bf16 := ld (s := S4x2x128x128) ![o, p, 0, b] S1x1x128x64.size inb (KV I c)

/-- The first head's context. -/
def cx0 (c : Dev nD) : FVec F S1x1x128x64 .bf16 :=
  let k0 := kvl I c 0 0 0 inb_S4x2x128x128_S1x1x128x64_0_0_0_0
  let k1 := kvl I c 1 0 0 inb_S4x2x128x128_S1x1x128x64_1_0_0_0
  let k2 := kvl I c 2 0 0 inb_S4x2x128x128_S1x1x128x64_2_0_0_0
  let k3 := kvl I c 3 0 0 inb_S4x2x128x128_S1x1x128x64_3_0_0_0
  let a := k0_pay15 (qv I c)
  let b := k0_pay16 (qv I c) k0
  let d := k0_pay17 (qv I c) k1
  k0_pay24 (k0_pay19 msk a b d k2 k3) (k0_pay20 msk a b d k2 k3)
    (k0_pay21 msk a b d k2 k3 (kvl I c 0 1 0 inb_S4x2x128x128_S1x1x128x64_0_1_0_0) (kvl I c 1 1 0 inb_S4x2x128x128_S1x1x128x64_1_1_0_0))
    (k0_pay22 msk a b d k2 k3)
    (k0_pay23 (kvl I c 2 1 0 inb_S4x2x128x128_S1x1x128x64_2_1_0_0)) (kvl I c 3 1 0 inb_S4x2x128x128_S1x1x128x64_3_1_0_0)

/-- The second head's context. -/
def cx1 (c : Dev nD) : FVec F S1x1x128x64 .bf16 :=
  let a := k0_pay25 (qv I c) (kvl I c 0 0 64 inb_S4x2x128x128_S1x1x128x64_0_0_0_64) (kvl I c 1 0 64 inb_S4x2x128x128_S1x1x128x64_1_0_0_64)
    (kvl I c 2 0 64 inb_S4x2x128x128_S1x1x128x64_2_0_0_64) (kvl I c 3 0 64 inb_S4x2x128x128_S1x1x128x64_3_0_0_64)
  k0_pay30 (k0_pay28 msk a k0_pay26 (kvl I c 0 1 64 inb_S4x2x128x128_S1x1x128x64_0_1_0_64) (kvl I c 1 1 64 inb_S4x2x128x128_S1x1x128x64_1_1_0_64)
      (kvl I c 2 1 64 inb_S4x2x128x128_S1x1x128x64_2_1_0_64) (kvl I c 3 1 64 inb_S4x2x128x128_S1x1x128x64_3_1_0_64))
    (k0_pay29 msk a k0_pay26)

/-- Every device's gathered contexts, the same on every device once all have arrived. -/
def CG : S4x2x128x64.Idx → Elt F .bf16 := fun i =>
  if (i 1).val = 0 then cx0 I (i 0) (ix4 (0 : Fin 1) (0 : Fin 1) (i 2) (i 3))
  else cx1 I (i 0) (ix4 (0 : Fin 1) (0 : Fin 1) (i 2) (i 3))

/-- Rows written into the output buffer. -/
abbrev wr (off : Fin 2 → ℕ) (inb : ∀ a, off a + S128x512.size a ≤ S256x512.size a) (f : S256x512.Idx → Elt F .f32)
    (w : FVec F S128x512 .f32) : S256x512.Idx → Elt F .f32 :=
  ((Memref.whole cc0_stg5_0 : Memref sig .tc .vmem S256x512 .f32).access (Rect.unit (s := S256x512) off S128x512.size inb)).write (Elt F) f w Finset.univ

/-- The output after the device's own two heads. -/
def out0 (c : Dev nD) : S256x512.Idx → Elt F .f32 :=
  let f0 := wr (k0_off16 c) (k0_off16_inb c) (I.o c) k0_pay31
  let f1 := wr (k0_off8 c) (k0_off8_inb c) f0
    (k0_pay32 (ld (s := S4x2x128x64) (k0_off10 c) S1x1x128x64.size (k0_off10_inb c) (CG I))
      (ld (s := S256x512) (k0_off17 c 0#32) S64x512.size (k0_off17_inb c 0) (I.wo c)))
  wr (k0_off8 c) (k0_off8_inb c) f1
    (k0_pay34 (k0_pay33 (ld (s := S4x2x128x64) (k0_off13 c) S1x1x128x64.size (k0_off13_inb c) (CG I))
        (ld (s := S256x512) (k0_off17 c 1#32) S64x512.size (k0_off17_inb c 1) (I.wo c)))
      (ld (s := S256x512) (k0_off8 c) S128x512.size (k0_off8_inb c) f1))

/-- The output after adding the two heads of the device one after. -/
def out1 (c : Dev nD) : S256x512.Idx → Elt F .f32 :=
  let f := wr (k0_off20 c 1#32) (k0_off20_inb c 0) (out0 I c)
    (k0_pay35 (ld (s := S256x512) (k0_off20 c 1#32) S128x512.size (k0_off20_inb c 0) (out0 I c))
      (ld (s := S4x2x128x64) (k0_off21 c 1#32) S1x1x128x64.size (k0_off21_inb c 0) (CG I))
      (ld (s := S256x512) (k0_off22 c 1#32 0#32) S64x512.size (k0_off22_inb c 0 0) (I.wo c)))
  wr (k0_off20 c 1#32) (k0_off20_inb c 0) f
    (k0_pay36 (ld (s := S256x512) (k0_off20 c 1#32) S128x512.size (k0_off20_inb c 0) f)
      (ld (s := S4x2x128x64) (k0_off25 c 1#32) S1x1x128x64.size (k0_off25_inb c 0) (CG I))
      (ld (s := S256x512) (k0_off22 c 1#32 1#32) S64x512.size (k0_off22_inb c 0 1) (I.wo c)))

/-- The output after adding the two heads of the device three after. -/
def out2 (c : Dev nD) : S256x512.Idx → Elt F .f32 :=
  let f := wr (k0_off20 c 3#32) (k0_off20_inb c 2) (out1 I c)
    (k0_pay37 (ld (s := S256x512) (k0_off20 c 3#32) S128x512.size (k0_off20_inb c 2) (out1 I c))
      (ld (s := S4x2x128x64) (k0_off21 c 3#32) S1x1x128x64.size (k0_off21_inb c 2) (CG I))
      (ld (s := S256x512) (k0_off22 c 3#32 0#32) S64x512.size (k0_off22_inb c 2 0) (I.wo c)))
  wr (k0_off20 c 3#32) (k0_off20_inb c 2) f
    (k0_pay40 (k0_pay38 (ld (s := S256x512) (k0_off20 c 3#32) S128x512.size (k0_off20_inb c 2) f))
      (k0_pay39 (ld (s := S4x2x128x64) (k0_off25 c 3#32) S1x1x128x64.size (k0_off25_inb c 2) (CG I)))
      (ld (s := S256x512) (k0_off22 c 3#32 1#32) S64x512.size (k0_off22_inb c 2 1) (I.wo c)))

/-- The output after adding the two heads of the device two after: what the kernel returns. -/
def out3 (c : Dev nD) : S256x512.Idx → Elt F .f32 :=
  let f := wr (k0_off20 c 2#32) (k0_off20_inb c 1) (out2 I c)
    (k0_pay41 (ld (s := S256x512) (k0_off20 c 2#32) S128x512.size (k0_off20_inb c 1) (out2 I c))
      (ld (s := S4x2x128x64) (k0_off21 c 2#32) S1x1x128x64.size (k0_off21_inb c 1) (CG I))
      (ld (s := S256x512) (k0_off22 c 2#32 0#32) S64x512.size (k0_off22_inb c 1 0) (I.wo c)))
  wr (k0_off20 c 2#32) (k0_off20_inb c 1) f
    (k0_pay42 (ld (s := S256x512) (k0_off20 c 2#32) S128x512.size (k0_off20_inb c 1) f)
      (ld (s := S4x2x128x64) (k0_off25 c 2#32) S1x1x128x64.size (k0_off25_inb c 1) (CG I))
      (ld (s := S256x512) (k0_off22 c 2#32 1#32) S64x512.size (k0_off22_inb c 1 1) (I.wo c)))

end Contents

end Cert.KernelIdeal.Talk

end
-- ==== Proof.Proto.lean ====
/-
  The protocol: the semaphores' cells, the pieces of the shared buffers, what each completion hands over, what each
  device owes when it starts, and the order in which it may wait.
-/
module

public import proofs.«01_k».proof.Proof.Cont

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

/-! ## Cells -/

abbrev s1s (k : Fin 3) : DmaSem sig := (⟨6 + k.val, by omega⟩ : Fin 27)
abbrev r1s (o : Dev nD) : DmaSem sig := (⟨9 + o.val, by have : o.val < 4 := o.isLt; omega⟩ : Fin 27)
abbrev s2s (k : Fin 3) (j : Fin 2) : DmaSem sig := (⟨13 + (2 * k.val + j.val), by omega⟩ : Fin 27)
abbrev r2s (o : Dev nD) (j : Fin 2) : DmaSem sig := (⟨19 + (2 * o.val + j.val), by have : o.val < 4 := o.isLt; omega⟩ : Fin 27)

abbrev bar (c : Dev nD) : GSem nD τ sig := ((c : Thread nD τ), .reg barrier0)
abbrev dc (c : Dev nD) (q : DmaSem sig) : GSem nD τ sig := ((c : Thread nD τ), .dma q)

/-! ## Pieces of the shared buffers, and shares of the sources -/

abbrev ptA (c : Dev nD) (S : Finset S2x2x128x256.Idx) (q : PosShare TreeShare) (f : S2x2x128x256.Idx → Elt F .bf16) : sProp 𝕄 :=
  (Memref.whole cc0_scratch0 : Memref sig .tc .vmem S2x2x128x256 .bf16).view.loc (c : Thread nD τ) ↦[S]{q} f
abbrev ptB (c : Dev nD) (S : Finset S4x2x128x128.Idx) (q : PosShare TreeShare) (f : S4x2x128x128.Idx → Elt F .bf16) : sProp 𝕄 :=
  (Memref.whole cc0_scratch1 : Memref sig .tc .vmem S4x2x128x128 .bf16).view.loc (c : Thread nD τ) ↦[S]{q} f
abbrev ptC (c : Dev nD) (S : Finset S4x2x128x64.Idx) (q : PosShare TreeShare) (f : S4x2x128x64.Idx → Elt F .bf16) : sProp 𝕄 :=
  (Memref.whole cc0_scratch2 : Memref sig .tc .vmem S4x2x128x64 .bf16).view.loc (c : Thread nD τ) ↦[S]{q} f

/-- Where device `o`'s copy of its keys and values lands in every other device's gathered buffer. -/
def land (o : Dev nD) : Finset S4x2x128x128.Idx :=
  Finset.univ.filter fun i => (i 0).val = o.val ∧ (o.val = 2 → 64 ≤ (i 2).val) ∧ (o.val = 3 → (i 2).val < 64)
/-- Device `o`'s context of head `j`. -/
def cg (o : Dev nD) (j : Fin 2) : Finset S4x2x128x64.Idx :=
  Finset.univ.filter fun i => (i 0).val = o.val ∧ (i 1).val = j.val
/-- What device `c` sends of its packed keys and values to the device `k + 1` after it. -/
def src (c : Dev nD) (k : Fin 3) : Finset S2x2x128x256.Idx :=
  Finset.univ.filter fun i => (i 1).val = (nx c k).val / 2 ∧ (c.val = 2 → 64 ≤ (i 2).val) ∧ (c.val = 3 → (i 2).val < 64)
    ∧ 128 * ((nx c k).val % 2) ≤ (i 3).val ∧ (i 3).val < 128 * ((nx c k).val % 2) + 128

/-- The share send `k` borrows. -/
def sh : Fin 3 → PosShare TreeShare
  | 0 => fullShare.left.left
  | 1 => fullShare.left.right
  | 2 => fullShare.right.left
/-- The share kept. -/
def shk : PosShare TreeShare := fullShare.right.right

/-! ## Amounts -/

def nBig : ℕ := (Memref.whole cc0_scratch1 : Memref sig .tc .vmem S4x2x128x128 .bf16).view.ref.dmaCredit S2x128x128 .bf16
def nHalf : ℕ := (Memref.whole cc0_scratch1 : Memref sig .tc .vmem S4x2x128x128 .bf16).view.ref.dmaCredit S2x64x128 .bf16
def nC : ℕ := (Memref.whole cc0_scratch2 : Memref sig .tc .vmem S4x2x128x64 .bf16).view.ref.dmaCredit S128x64 .bf16
/-- What a copy of device `o`'s keys and values credits. -/
def n1 (o : Dev nD) : ℕ := if o.val < 2 then nBig else nHalf

theorem nBig_pos : 0 < nBig := sig.dmaCredit_pos _ _ _ _ _ (by decide)
theorem nHalf_pos : 0 < nHalf := sig.dmaCredit_pos _ _ _ _ _ (by decide)
theorem nC_pos : 0 < nC := sig.dmaCredit_pos _ _ _ _ _ (by decide)
theorem n1_pos (o : Dev nD) : 0 < n1 o := by unfold n1; split; exacts [nBig_pos, nHalf_pos]

/-! ## The schedule -/

section Sched

variable (I : Inp F)

/-- Paid to `t`'s barrier by `p`: the places in `p`'s buffers that `t` will fill, and that `p`'s cells `t` will pay
    are open. -/
def barPay (t p : Dev nD) : sProp 𝕄 :=
  iprop((∃ f, ptB p (land t) fullShare f) ∗ (∃ f, ptC p (cg t 0) fullShare f) ∗ (∃ f, ptC p (cg t 1) fullShare f)
    ∗ reached ER (dc p (r1s t)) 0 ∗ reached ER (dc p (r2s t 0)) 0 ∗ reached ER (dc p (r2s t 1)) 0)
def s1Pay (c : Dev nD) (k : Fin 3) : sProp 𝕄 := ptA c (src c k) (sh k) (kvbf I c)
def r1Pay (t o : Dev nD) : sProp 𝕄 := ptB t (land o) fullShare (KV I t)
def s2Pay (c : Dev nD) (k : Fin 3) (j : Fin 2) : sProp 𝕄 := ptC c (cg c j) (sh k) (CG I)
def r2Pay (t o : Dev nD) (j : Fin 2) : sProp 𝕄 := ptC t (cg o j) fullShare (CG I)

abbrev dut (t : Dev nD) : SemLoc sig → Finset (Dev nD)
  | .reg _ => Finset.univ.erase t
  | .dma q => if q.val < 6 then ∅ else if q.val < 9 then {0} else if q.val < 13 then (if q.val - 9 = t.val then ∅ else {0})
      else if q.val < 19 then {0} else if (q.val - 19) / 2 = t.val then ∅ else {0}
abbrev amt (t : Dev nD) : SemLoc sig → ℕ
  | .reg _ => 1
  | .dma q => if q.val < 9 then n1 t else if q.val < 13 then n1 (⟨(q.val - 9) % 4, Nat.mod_lt _ (by decide)⟩ : Fin 4) else nC
abbrev pay (t p : Dev nD) : SemLoc sig → sProp 𝕄
  | .reg _ => barPay t p
  | .dma q => if q.val < 6 then iprop(emp) else if q.val < 9 then s1Pay I t ⟨(q.val - 6) % 3, Nat.mod_lt _ (by decide)⟩
      else if q.val < 13 then r1Pay I t (⟨(q.val - 9) % 4, Nat.mod_lt _ (by decide)⟩ : Fin 4)
      else if q.val < 19 then s2Pay I t ⟨(q.val - 13) / 2 % 3, Nat.mod_lt _ (by decide)⟩ ⟨(q.val - 13) % 2, Nat.mod_lt _ (by decide)⟩
      else r2Pay I t (⟨(q.val - 19) / 2 % 4, Nat.mod_lt _ (by decide)⟩ : Fin 4) ⟨(q.val - 19) % 2, Nat.mod_lt _ (by decide)⟩

theorem amt_pos (t : Dev nD) (s : SemLoc sig) : 0 < amt t s := by
  cases s with
  | reg _ => exact Nat.one_pos
  | dma q => dsimp only [amt]; split; · exact n1_pos _
             split; exacts [n1_pos _, nC_pos]

/-- One round per cell. -/
def Rd : Rounds.Schedule (GSem nD τ sig) (Dev nD) 𝕄 where
  duties g r := if r = 0 ∧ g.1.2 = .tc then dut g.1.1 g.2 else ∅
  unitless _ := False
  amount g _ _ := amt g.1.1 g.2
  payload g _ d := pay I g.1.1 d g.2
  amount_pos g _ _ _ := amt_pos g.1.1 g.2

instance Rd_storable (g : GSem nD τ sig) (r : ℕ) (d : Dev nD) :
    BI.Storable (upEmb : UEmb _ 𝕄) ((Rd I).payload g r d) := by
  show BI.Storable upEmb (pay I g.1.1 d g.2)
  unfold pay barPay s1Pay r1Pay s2Pay r2Pay
  (repeat' split) <;> infer_instance

theorem duties_at (c : Dev nD) (s : SemLoc sig) : (Rd I).duties ((c : Thread nD τ), s) 0 = dut c s := by
  show (if (0 : ℕ) = 0 ∧ (c : Thread nD τ).2 = .tc then dut c s else ∅) = _
  exact if_pos ⟨rfl, rfl⟩
theorem duties_later (g : GSem nD τ sig) : ∀ r, 1 ≤ r → (Rd I).duties g r = ∅ :=
  fun r hr => if_neg fun h => by omega
theorem expect_one (c : Dev nD) (s : SemLoc sig) (h : dut c s = {0}) : (Rd I).expect ((c : Thread nD τ), s) 0 = amt c s := by
  unfold Schedule.expect Schedule.amountOf; rw [duties_at, h, Finset.sum_singleton]; rfl

theorem dut_s1 (c : Dev nD) (k : Fin 3) : dut c (.dma (s1s k)) = {0} := by revert c k; decide
theorem dut_s2 (c : Dev nD) (k : Fin 3) (j : Fin 2) : dut c (.dma (s2s k j)) = {0} := by revert c k j; decide
theorem dut_r1 (t o : Dev nD) (h : o ≠ t) : dut t (.dma (r1s o)) = {0} := by revert t o; decide
theorem dut_r1_self (t : Dev nD) : dut t (.dma (r1s t)) = ∅ := by revert t; decide
theorem dut_r2 (t o : Dev nD) (j : Fin 2) (h : o ≠ t) : dut t (.dma (r2s o j)) = {0} := by revert t o j; decide
theorem dut_r2_self (t : Dev nD) (j : Fin 2) : dut t (.dma (r2s t j)) = ∅ := by revert t j; decide
theorem dut_bar (t : Dev nD) : dut t (.reg barrier0) = [nx t 0, nx t 1, nx t 2].toFinset := by revert t; decide
theorem nx_mem_bar (c : Dev nD) (k : Fin 3) : c ∈ dut (nx c k) (.reg barrier0) := by revert c k; decide
theorem nx_ne (c : Dev nD) (k : Fin 3) : nx c k ≠ c := by revert c k; decide
theorem nx_inj (c : Dev nD) (k k' : Fin 3) (h : k ≠ k') : nx c k ≠ nx c k' := by revert c k k'; decide

theorem amt_s1 (c : Dev nD) (k : Fin 3) : amt c (.dma (s1s k)) = n1 c := by fin_cases k <;> rfl
theorem amt_s2 (c : Dev nD) (k : Fin 3) (j : Fin 2) : amt c (.dma (s2s k j)) = nC := by fin_cases k <;> fin_cases j <;> rfl
theorem amt_r1 (t o : Dev nD) : amt t (.dma (r1s o)) = n1 o := by fin_cases o <;> rfl
theorem amt_r2 (t o : Dev nD) (j : Fin 2) : amt t (.dma (r2s o j)) = nC := by fin_cases o <;> fin_cases j <;> rfl

theorem pay_s1 (c d : Dev nD) (k : Fin 3) : pay I c d (.dma (s1s k)) = s1Pay I c k := by fin_cases k <;> rfl
theorem pay_s2 (c d : Dev nD) (k : Fin 3) (j : Fin 2) : pay I c d (.dma (s2s k j)) = s2Pay I c k j := by fin_cases k <;> fin_cases j <;> rfl
theorem pay_r1 (t d o : Dev nD) : pay I t d (.dma (r1s o)) = r1Pay I t o := by fin_cases o <;> rfl
theorem pay_r2 (t d o : Dev nD) (j : Fin 2) : pay I t d (.dma (r2s o j)) = r2Pay I t o j := by fin_cases o <;> fin_cases j <;> rfl

theorem expect_bar (t : Dev nD) : (Rd I).expect (bar t) 0 = 3 := by
  unfold Schedule.expect Schedule.amountOf
  rw [duties_at]
  show ∑ _d ∈ dut t (SemLoc.reg barrier0), 1 = 3
  revert t; decide

/-- A cell with one payer hands over that payer's payload. -/
theorem rest_one (c : Dev nD) (s : SemLoc sig) (h : dut c s = {0}) :
    bigSep ((Rd I).duties ((c : Thread nD τ), s) 0 \ ∅) (fun d => (Rd I).payload ((c : Thread nD τ), s) 0 d) = pay I c 0 s := by
  rw [Finset.sdiff_empty, duties_at, h, bigSep_singleton]; rfl
theorem rest_bar (t : Dev nD) :
    bigSep ((Rd I).duties (bar t) 0 \ ∅) (fun d => (Rd I).payload (bar t) 0 d)
      = iprop(barPay t (nx t 0) ∗ barPay t (nx t 1) ∗ barPay t (nx t 2)) := by
  rw [Finset.sdiff_empty, duties_at, dut_bar, bigSep_eq_bigSepL _ (by revert t; decide)]; rfl

end Sched

/-! ## What each device owes, and the levels it waits at -/

abbrev Tal := CellTallies nD τ sig Unit

/-- The dues of a list, the first to be paid outermost. -/
def ow : List (GSem nD τ sig × ℕ) → Tal
  | [] => 0
  | x :: xs => ow xs + tallyAt x.1 () x.2

/-- Device `c`'s dues in the order it pays them. -/
def dues (c : Dev nD) : List (GSem nD τ sig × ℕ) :=
  [(bar (nx c 0), 1), (bar (nx c 1), 1), (bar (nx c 2), 1),
   (dc (nx c 0) (r1s c), n1 c), (dc (nx c 1) (r1s c), n1 c), (dc (nx c 2) (r1s c), n1 c),
   (dc (nx c 0) (r2s c 0), nC), (dc (nx c 1) (r2s c 0), nC), (dc (nx c 2) (r2s c 0), nC),
   (dc (nx c 0) (r2s c 1), nC), (dc (nx c 1) (r2s c 1), nC), (dc (nx c 2) (r2s c 1), nC)]
/-- What is still owed when `n` dues are paid. -/
def owed (c : Dev nD) (n : ℕ) : Tal := ow ((dues c).drop n)

theorem ow_pos : ∀ {l : List (GSem nD τ sig × ℕ)} {g : GSem nD τ sig} {u : Unit}, 0 < ow l g u → ∃ x ∈ l, x.1 = g
  | [], g, u, h => absurd h (Nat.lt_irrefl 0)
  | x :: xs, g, u, h => by
    have h' : 0 < ow xs g u + tallyAt x.1 () x.2 g u := h
    rcases Nat.eq_zero_or_pos (ow xs g u) with h0 | h0
    · rw [h0, Nat.zero_add, tallyAt_apply] at h'
      by_cases hg : g = x.1 ∧ u = ()
      · exact ⟨x, List.mem_cons_self .., hg.1.symm⟩
      · rw [if_neg hg] at h'; exact absurd h' (Nat.lt_irrefl 0)
    · obtain ⟨y, hy, e⟩ := ow_pos h0
      exact ⟨y, List.mem_cons_of_mem _ hy, e⟩

def L (g : GSem nD τ sig) : Finset Unit := if g.1.2 = .tc then {()} else ∅
/-- The barrier at 1, a device's keys and values at 2, its contexts at 3, the rest at 0. -/
abbrev lvs : SemLoc sig → ℕ
  | .reg _ => 1
  | .dma q => if q.val < 9 then 0 else if q.val < 13 then 2 else if q.val < 19 then 0 else 3
def lv (g : GSem nD τ sig) (_ : Unit) : ℕ := lvs g.2

theorem L_of_ne (g : GSem nD τ sig) (h : g.1.2 ≠ .tc) : L g = ∅ := if_neg h
theorem L_tc (c : Dev nD) (s : SemLoc sig) : L ((c : Thread nD τ), s) = {()} := if_pos rfl

theorem mayWait_of (c : Dev nD) (s : SemLoc sig) (l : List (GSem nD τ sig × ℕ))
    (h : ∀ x ∈ l, x.1.1.2 = .tc ∧ lvs s < lvs x.1.2) : (levAts L lv : sProp 𝕄) ⊢ MayWait (c : Thread nD τ) s () (ow l) :=
  MayOwe.of_cut (L := L) (lev := lv) (lvs s) (fun p hp => by rw [Finset.mem_singleton.mp hp, L_tc]; exact Finset.mem_singleton_self _)
    (fun g u hg => by
      obtain ⟨x, hx, rfl⟩ := ow_pos hg
      unfold L; rw [if_pos (h x hx).1]; exact Finset.mem_singleton_self _)
    (fun p hp => by rw [Finset.mem_singleton.mp hp]; exact Nat.le_refl _)
    (fun g u hg => by obtain ⟨x, hx, rfl⟩ := ow_pos hg; exact (h x hx).2)

theorem mayWait_bar (c : Dev nD) : (levAts L lv : sProp 𝕄) ⊢ MayWait (c : Thread nD τ) (.reg barrier0) () (owed c 3) :=
  mayWait_of c _ _ (by
    have : ∀ c : Dev nD, ∀ o : Dev nD, 1 < lvs (.dma (r1s o)) ∧ ∀ j, 1 < lvs (.dma (r2s o j)) := by decide
    intro x hx
    simp only [dues, List.drop_succ_cons, List.drop_zero, List.mem_cons, List.not_mem_nil, or_false] at hx
    rcases hx with rfl | rfl | rfl | rfl | rfl | rfl | rfl | rfl | rfl
    all_goals first | exact ⟨rfl, (this c c).1⟩ | exact ⟨rfl, (this c c).2 _⟩)
theorem mayWait_r1 (c o : Dev nD) : (levAts L lv : sProp 𝕄) ⊢ MayWait (c : Thread nD τ) (.dma (r1s o)) () (owed c 6) :=
  mayWait_of c _ _ (by
    have : ∀ o o' : Dev nD, ∀ j, lvs (.dma (r1s o)) < lvs (.dma (r2s o' j)) := by decide
    intro x hx
    simp only [dues, List.drop_succ_cons, List.drop_zero, List.mem_cons, List.not_mem_nil, or_false] at hx
    rcases hx with rfl | rfl | rfl | rfl | rfl | rfl
    all_goals exact ⟨rfl, this o c _⟩)

theorem owed_succ (c : Dev nD) (n : Fin 12) : owed c n.val = owed c (n.val + 1) + tallyAt ((dues c)[n.val]'n.isLt).1 () ((dues c)[n.val]'n.isLt).2 := by
  fin_cases n <;> rfl
theorem owed_done (c : Dev nD) : owed c 12 = 0 := rfl

abbrev 𝒱₀ : Variants := Variants.none

end Cert.KernelIdeal.Talk

end
-- ==== Proof.Geom.lean ====
/-
  Offsets in closed form, the index sets of the copied pieces, and what the stores and copies leave in the buffers.
-/
module

public import proofs.«01_k».proof.Proof.Proto

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Offsets -/

theorem off3_eq : ∀ (c : Dev nD) (_ : c.val < 2) (k : Fin 3), k0_off3 c (BitVec.ofNat 32 (1 + k.val)) = ![0, (nx c k).val / 2, 0, 128 * ((nx c k).val % 2)] := by decide +kernel
theorem off4_eq : ∀ (c : Dev nD) (_ : c.val = 2) (k : Fin 3), k0_off4 c (BitVec.ofNat 32 (1 + k.val)) = ![0, (nx c k).val / 2, 64, 128 * ((nx c k).val % 2)] := by decide +kernel
theorem off5_eq : ∀ (c : Dev nD) (_ : c.val = 3) (k : Fin 3), k0_off5 c (BitVec.ofNat 32 (1 + k.val)) = ![0, (nx c k).val / 2, 0, 128 * ((nx c k).val % 2)] := by decide +kernel
theorem off26_eq : ∀ (c : Dev nD) (_ : c.val < 2) (k : Fin 3), k0_off26 c (BitVec.ofNat 32 (1 + k.val)) = ![0, (nx c k).val / 2, 0, 128 * ((nx c k).val % 2)] := by decide +kernel
theorem off28_eq : ∀ (c : Dev nD) (_ : c.val = 2) (k : Fin 3), k0_off28 c (BitVec.ofNat 32 (1 + k.val)) = ![0, (nx c k).val / 2, 64, 128 * ((nx c k).val % 2)] := by decide +kernel
theorem off29_eq : ∀ (c : Dev nD) (_ : c.val = 3) (k : Fin 3), k0_off29 c (BitVec.ofNat 32 (1 + k.val)) = ![0, (nx c k).val / 2, 0, 128 * ((nx c k).val % 2)] := by decide +kernel
theorem off18_eq : ∀ (c : Dev nD) (k : Fin 3), k0_off18 c (BitVec.ofNat 32 (1 + k.val)) = ![(nx c k).val, 0] := by decide +kernel
theorem off19_eq : ∀ (c : Dev nD) (k : Fin 3), k0_off19 c (BitVec.ofNat 32 (1 + k.val)) = ![(nx c k).val, 0, 0, 0] := by decide +kernel
theorem off21_eq : ∀ (c : Dev nD) (k : Fin 3), k0_off21 c (BitVec.ofNat 32 (1 + k.val)) = ![(nx c k).val, 0, 0, 0] := by decide +kernel
theorem off23_eq : ∀ (c : Dev nD) (k : Fin 3), k0_off23 c (BitVec.ofNat 32 (1 + k.val)) = ![(nx c k).val, 1] := by decide +kernel
theorem off24_eq : ∀ (c : Dev nD) (k : Fin 3), k0_off24 c (BitVec.ofNat 32 (1 + k.val)) = ![(nx c k).val, 1, 0, 0] := by decide +kernel
theorem off25_eq : ∀ (c : Dev nD) (k : Fin 3), k0_off25 c (BitVec.ofNat 32 (1 + k.val)) = ![(nx c k).val, 1, 0, 0] := by decide +kernel
theorem off6_eq : ∀ (c : Dev nD) , k0_off6 c = ![0, c.val / 2, 0, 128 * (c.val % 2)] := by decide +kernel

theorem dev_bar (c : Dev nD) : (⟨k0_dev1 c, k0_dev1_lt c⟩ : Dev nD) = nx c 0 ∧ (⟨k0_dev2 c, k0_dev2_lt c⟩ : Dev nD) = nx c 1
    ∧ (⟨k0_dev3 c, k0_dev3_lt c⟩ : Dev nD) = nx c 2 := by revert c; decide +kernel
theorem dev_big (c : Dev nD) (h : k0_cond1 c = 1#1) : (⟨k0_dev4 c, k0_dev4_lt c h⟩ : Dev nD) = nx c 0
    ∧ (⟨k0_dev5 c, k0_dev5_lt c h⟩ : Dev nD) = nx c 1 ∧ (⟨k0_dev6 c, k0_dev6_lt c h⟩ : Dev nD) = nx c 2 := by revert c; decide +kernel
theorem dev_up (c : Dev nD) (h : k0_cond2 c = 1#1) : (⟨k0_dev7 c, k0_dev7_lt c h⟩ : Dev nD) = nx c 0
    ∧ (⟨k0_dev8 c, k0_dev8_lt c h⟩ : Dev nD) = nx c 1 ∧ (⟨k0_dev9 c, k0_dev9_lt c h⟩ : Dev nD) = nx c 2 := by revert c; decide +kernel
theorem dev_lo (c : Dev nD) (h : k0_cond3 c = 1#1) : (⟨k0_dev10 c, k0_dev10_lt c h⟩ : Dev nD) = nx c 0
    ∧ (⟨k0_dev11 c, k0_dev11_lt c h⟩ : Dev nD) = nx c 1 ∧ (⟨k0_dev12 c, k0_dev12_lt c h⟩ : Dev nD) = nx c 2 := by revert c; decide +kernel
theorem dev_c0 (c : Dev nD) : (⟨k0_dev13 c, k0_dev13_lt c⟩ : Dev nD) = nx c 0 ∧ (⟨k0_dev14 c, k0_dev14_lt c⟩ : Dev nD) = nx c 1
    ∧ (⟨k0_dev15 c, k0_dev15_lt c⟩ : Dev nD) = nx c 2 := by revert c; decide +kernel
theorem dev_c1 (c : Dev nD) : (⟨k0_dev16 c, k0_dev16_lt c⟩ : Dev nD) = nx c 0 ∧ (⟨k0_dev17 c, k0_dev17_lt c⟩ : Dev nD) = nx c 1
    ∧ (⟨k0_dev18 c, k0_dev18_lt c⟩ : Dev nD) = nx c 2 := by revert c; decide +kernel

theorem cond1_iff : ∀ c : Dev nD, k0_cond1 c = 1#1 ↔ c.val < 2 := by decide +kernel
theorem cond2_iff : ∀ c : Dev nD, k0_cond2 c = 1#1 ↔ c.val = 2 := by decide +kernel
theorem cond3_iff : ∀ c : Dev nD, k0_cond3 c = 1#1 ↔ c.val = 3 := by decide +kernel
theorem cond8_iff : ∀ c : Dev nD, k0_cond8 c = 1#1 ↔ c.val < 2 := by decide +kernel
theorem cond9_iff : ∀ c : Dev nD, k0_cond9 c = 1#1 ↔ c.val = 2 := by decide +kernel
theorem cond10_iff : ∀ c : Dev nD, k0_cond10 c = 1#1 ↔ c.val = 3 := by decide +kernel

/-! ## The views -/

abbrev mA : Memref sig .tc .vmem S2x2x128x256 .bf16 := Memref.whole cc0_scratch0
abbrev mB : Memref sig .tc .vmem S4x2x128x128 .bf16 := Memref.whole cc0_scratch1
abbrev mC : Memref sig .tc .vmem S4x2x128x64 .bf16 := Memref.whole cc0_scratch2

theorem rs_a1bc {a b d : ℕ} (h : (⟨3, ![a, b, d]⟩ : Shape).numel = (⟨4, ![a, 1, b, d]⟩ : Shape).numel)
    (x : Fin a) (y : Fin b) (z : Fin d) : Shape.reshapeEquiv h (ix3 x y z) = ix4 x (⟨0, Nat.one_pos⟩ : Fin 1) y z :=
  Shape.reshapeEquiv_eq_of_rowMajor h (by
    rw [Shape.rowMajor_val_four, Shape.rowMajor_val_three]
    show (((x.val * 1 + 0) * b + y.val) * d + z.val) = (x.val * b + y.val) * d + z.val
    simp only [Nat.mul_one, Nat.add_zero])

/-- The piece of a buffer a rectangle names, read from a value. -/
theorem mem_rect {s : Shape} (off size : Fin s.rank → ℕ) (inb) (i : s.Idx) :
    i ∈ (Rect.unit (s := s) off size inb).set ↔ ∀ a, off a ≤ (i a).val ∧ (i a).val < off a + size a := Rect.mem_set_unit

theorem forall4 {P : Fin 4 → Prop} : (∀ a, P a) ↔ P 0 ∧ P 1 ∧ P 2 ∧ P 3 := by
  constructor
  · exact fun h => ⟨h 0, h 1, h 2, h 3⟩
  · rintro ⟨h0, h1, h2, h3⟩ a; fin_cases a <;> assumption

abbrev sC (off : Fin 4 → ℕ) (inb : ∀ a, off a + S1x1x128x64.size a ≤ S4x2x128x64.size a) : Memref sig .tc .vmem S128x64 .bf16 :=
  (mC.slice (Rect.unit (s := S4x2x128x64) off S1x1x128x64.size inb) (fun _ => rfl)).squeeze S128x64 squeezes_S1x1x128x64_S128x64

theorem sC_set (o : Dev nD) (j : Fin 2) (inb) : (sC ![o.val, j.val, 0, 0] inb).view.set = cg o j := by
  refine (View.set_reshape _ _).trans ((View.set_slice_whole _ _).trans ?_)
  ext i
  refine (mem_rect _ _ _ _).trans (forall4.trans ?_)
  rw [cg, Finset.mem_filter]
  have h2 : (i 2).val < 128 := (i 2).isLt
  have h3 : (i 3).val < 64 := (i 3).isLt
  show (o.val ≤ (i 0).val ∧ (i 0).val < o.val + 1) ∧ (j.val ≤ (i 1).val ∧ (i 1).val < j.val + 1)
    ∧ (0 ≤ (i 2).val ∧ (i 2).val < 0 + 128) ∧ (0 ≤ (i 3).val ∧ (i 3).val < 0 + 64) ↔ _
  simp only [Finset.mem_univ, true_and]
  omega

/-- Copying a context onto itself elsewhere: the piece reads the same. -/
theorem sC_land (off inb) (fd f : S4x2x128x64.Idx → Elt F .bf16) (i : S4x2x128x64.Idx) (hi : i ∈ (sC off inb).view.set) :
    (sC off inb).view.write (Elt F) fd ((sC off inb).view.read (Elt F) f) Finset.univ i = f i := by
  obtain ⟨j, -, rfl⟩ := Finset.mem_map.mp hi
  exact View.write_emb_of_mem (v := (sC off inb).view) (Val := Elt F) fd _ (Finset.mem_univ j)

/-! ## Copies of 128 rows of keys and values -/

abbrev sA_big (off : Fin 4 → ℕ) (inb : ∀ a, off a + S2x1x128x128.size a ≤ S2x2x128x256.size a) : Memref sig .tc .vmem S2x128x128 .bf16 :=
  (mA.slice (Rect.unit (s := S2x2x128x256) off S2x1x128x128.size inb) (fun _ => rfl)).squeeze S2x128x128 squeezes_S2x1x128x128_S2x128x128
abbrev sB_big (off : Fin 4 → ℕ) (inb : ∀ a, off a + S1x2x128x128.size a ≤ S4x2x128x128.size a) : Memref sig .tc .vmem S2x128x128 .bf16 :=
  (mB.slice (Rect.unit (s := S4x2x128x128) off S1x2x128x128.size inb) (fun _ => rfl)).squeeze S2x128x128 squeezes_S1x2x128x128_S2x128x128

theorem sA_big_mem (b r q : ℕ) (inb) (i : S2x2x128x256.Idx) : i ∈ (sA_big ![0, b, r, q] inb).view.set
    ↔ (i 1).val = b ∧ r ≤ (i 2).val ∧ (i 2).val < r + 128 ∧ q ≤ (i 3).val ∧ (i 3).val < q + 128 := by
  rw [show (sA_big ![0, b, r, q] inb).view.set = _ from (View.set_reshape _ _).trans (View.set_slice_whole _ _)]
  refine (mem_rect _ _ _ _).trans (forall4.trans ?_)
  have h0 : (i 0).val < 2 := (i 0).isLt
  show (0 ≤ (i 0).val ∧ (i 0).val < 0 + 2) ∧ (b ≤ (i 1).val ∧ (i 1).val < b + 1)
    ∧ (r ≤ (i 2).val ∧ (i 2).val < r + 128) ∧ (q ≤ (i 3).val ∧ (i 3).val < q + 128) ↔ _
  omega
theorem sB_big_mem (o r : ℕ) (inb) (i : S4x2x128x128.Idx) : i ∈ (sB_big ![o, 0, r, 0] inb).view.set
    ↔ (i 0).val = o ∧ r ≤ (i 2).val ∧ (i 2).val < r + 128 := by
  rw [show (sB_big ![o, 0, r, 0] inb).view.set = _ from (View.set_reshape _ _).trans (View.set_slice_whole _ _)]
  refine (mem_rect _ _ _ _).trans (forall4.trans ?_)
  have h1 : (i 1).val < 2 := (i 1).isLt
  have h3 : (i 3).val < 128 := (i 3).isLt
  show (o ≤ (i 0).val ∧ (i 0).val < o + 1) ∧ (0 ≤ (i 1).val ∧ (i 1).val < 0 + 2)
    ∧ (r ≤ (i 2).val ∧ (i 2).val < r + 128) ∧ (0 ≤ (i 3).val ∧ (i 3).val < 0 + 128) ↔ _
  omega

/-- What a copy of these rows leaves where it lands. -/
theorem land_big (o b r q : ℕ) (inbA inbB) (fd : S4x2x128x128.Idx → Elt F .bf16) (f : S2x2x128x256.Idx → Elt F .bf16)
    (i : S4x2x128x128.Idx) (hi : i ∈ (sB_big ![o, 0, r, 0] inbB).view.set) (j : S2x2x128x256.Idx) (h0 : (j 0).val = (i 1).val)
    (h1 : (j 1).val = b) (h2 : (j 2).val = (i 2).val) (h3 : (j 3).val = q + (i 3).val) :
    (sB_big ![o, 0, r, 0] inbB).view.write (Elt F) fd ((sA_big ![0, b, r, q] inbA).view.read (Elt F) f) Finset.univ i = f j := by
  obtain ⟨x, -, rfl⟩ := Finset.mem_map.mp hi
  refine (View.write_emb_of_mem (v := (sB_big ![o, 0, r, 0] inbB).view) (Val := Elt F) fd _ (Finset.mem_univ x)).trans ?_
  show f ((sA_big ![0, b, r, q] inbA).view.emb x) = f j
  obtain ⟨x0, x1, x2, rfl⟩ : ∃ (x0 : Fin 2) (x1 : Fin 128) (x2 : Fin 128), x = ix3 x0 x1 x2 := ⟨x 0, x 1, x 2, by
    funext a; fin_cases a <;> rfl⟩
  have eA : (sA_big ![0, b, r, q] inbA).view.emb (ix3 x0 x1 x2)
      = (Rect.unit (s := S2x2x128x256) ![0, b, r, q] S2x1x128x128.size inbA).emb (ix4 x0 (0 : Fin 1) x1 x2) :=
    congrArg (Rect.unit (s := S2x2x128x256) ![0, b, r, q] S2x1x128x128.size inbA).emb (rs_a1bc _ x0 x1 x2)
  have eB : (sB_big ![o, 0, r, 0] inbB).view.emb (ix3 x0 x1 x2)
      = (Rect.unit (s := S4x2x128x128) ![o, 0, r, 0] S1x2x128x128.size inbB).emb (ix4 (0 : Fin 1) x0 x1 x2) :=
    congrArg (Rect.unit (s := S4x2x128x128) ![o, 0, r, 0] S1x2x128x128.size inbB).emb (reshapeEquiv_ix3_1abc _ x0 x1 x2)
  rw [eB] at h0 h2 h3
  rw [eA]
  refine congrArg f ?_
  have k0 : (j 0).val = 0 + 1 * x0.val := h0
  have k2 : (j 2).val = r + 1 * x1.val := h2
  have k3 : (j 3).val = q + (0 + 1 * x2.val) := h3
  funext a
  apply Fin.ext
  fin_cases a
  · show 0 + 1 * x0.val = (j 0).val; omega
  · show b + 1 * 0 = (j 1).val; omega
  · show r + 1 * x1.val = (j 2).val; omega
  · show q + 1 * x2.val = (j 3).val; omega

/-! ## Copies of 64 rows of keys and values -/

abbrev sA_half (off : Fin 4 → ℕ) (inb : ∀ a, off a + S2x1x64x128.size a ≤ S2x2x128x256.size a) : Memref sig .tc .vmem S2x64x128 .bf16 :=
  (mA.slice (Rect.unit (s := S2x2x128x256) off S2x1x64x128.size inb) (fun _ => rfl)).squeeze S2x64x128 squeezes_S2x1x64x128_S2x64x128
abbrev sB_half (off : Fin 4 → ℕ) (inb : ∀ a, off a + S1x2x64x128.size a ≤ S4x2x128x128.size a) : Memref sig .tc .vmem S2x64x128 .bf16 :=
  (mB.slice (Rect.unit (s := S4x2x128x128) off S1x2x64x128.size inb) (fun _ => rfl)).squeeze S2x64x128 squeezes_S1x2x64x128_S2x64x128

theorem sA_half_mem (b r q : ℕ) (inb) (i : S2x2x128x256.Idx) : i ∈ (sA_half ![0, b, r, q] inb).view.set
    ↔ (i 1).val = b ∧ r ≤ (i 2).val ∧ (i 2).val < r + 64 ∧ q ≤ (i 3).val ∧ (i 3).val < q + 128 := by
  rw [show (sA_half ![0, b, r, q] inb).view.set = _ from (View.set_reshape _ _).trans (View.set_slice_whole _ _)]
  refine (mem_rect _ _ _ _).trans (forall4.trans ?_)
  have h0 : (i 0).val < 2 := (i 0).isLt
  show (0 ≤ (i 0).val ∧ (i 0).val < 0 + 2) ∧ (b ≤ (i 1).val ∧ (i 1).val < b + 1)
    ∧ (r ≤ (i 2).val ∧ (i 2).val < r + 64) ∧ (q ≤ (i 3).val ∧ (i 3).val < q + 128) ↔ _
  omega
theorem sB_half_mem (o r : ℕ) (inb) (i : S4x2x128x128.Idx) : i ∈ (sB_half ![o, 0, r, 0] inb).view.set
    ↔ (i 0).val = o ∧ r ≤ (i 2).val ∧ (i 2).val < r + 64 := by
  rw [show (sB_half ![o, 0, r, 0] inb).view.set = _ from (View.set_reshape _ _).trans (View.set_slice_whole _ _)]
  refine (mem_rect _ _ _ _).trans (forall4.trans ?_)
  have h1 : (i 1).val < 2 := (i 1).isLt
  have h3 : (i 3).val < 128 := (i 3).isLt
  show (o ≤ (i 0).val ∧ (i 0).val < o + 1) ∧ (0 ≤ (i 1).val ∧ (i 1).val < 0 + 2)
    ∧ (r ≤ (i 2).val ∧ (i 2).val < r + 64) ∧ (0 ≤ (i 3).val ∧ (i 3).val < 0 + 128) ↔ _
  omega

/-- What a copy of these rows leaves where it lands. -/
theorem land_half (o b r q : ℕ) (inbA inbB) (fd : S4x2x128x128.Idx → Elt F .bf16) (f : S2x2x128x256.Idx → Elt F .bf16)
    (i : S4x2x128x128.Idx) (hi : i ∈ (sB_half ![o, 0, r, 0] inbB).view.set) (j : S2x2x128x256.Idx) (h0 : (j 0).val = (i 1).val)
    (h1 : (j 1).val = b) (h2 : (j 2).val = (i 2).val) (h3 : (j 3).val = q + (i 3).val) :
    (sB_half ![o, 0, r, 0] inbB).view.write (Elt F) fd ((sA_half ![0, b, r, q] inbA).view.read (Elt F) f) Finset.univ i = f j := by
  obtain ⟨x, -, rfl⟩ := Finset.mem_map.mp hi
  refine (View.write_emb_of_mem (v := (sB_half ![o, 0, r, 0] inbB).view) (Val := Elt F) fd _ (Finset.mem_univ x)).trans ?_
  show f ((sA_half ![0, b, r, q] inbA).view.emb x) = f j
  obtain ⟨x0, x1, x2, rfl⟩ : ∃ (x0 : Fin 2) (x1 : Fin 64) (x2 : Fin 128), x = ix3 x0 x1 x2 := ⟨x 0, x 1, x 2, by
    funext a; fin_cases a <;> rfl⟩
  have eA : (sA_half ![0, b, r, q] inbA).view.emb (ix3 x0 x1 x2)
      = (Rect.unit (s := S2x2x128x256) ![0, b, r, q] S2x1x64x128.size inbA).emb (ix4 x0 (0 : Fin 1) x1 x2) :=
    congrArg (Rect.unit (s := S2x2x128x256) ![0, b, r, q] S2x1x64x128.size inbA).emb (rs_a1bc _ x0 x1 x2)
  have eB : (sB_half ![o, 0, r, 0] inbB).view.emb (ix3 x0 x1 x2)
      = (Rect.unit (s := S4x2x128x128) ![o, 0, r, 0] S1x2x64x128.size inbB).emb (ix4 (0 : Fin 1) x0 x1 x2) :=
    congrArg (Rect.unit (s := S4x2x128x128) ![o, 0, r, 0] S1x2x64x128.size inbB).emb (reshapeEquiv_ix3_1abc _ x0 x1 x2)
  rw [eB] at h0 h2 h3
  rw [eA]
  refine congrArg f ?_
  have k0 : (j 0).val = 0 + 1 * x0.val := h0
  have k2 : (j 2).val = r + 1 * x1.val := h2
  have k3 : (j 3).val = q + (0 + 1 * x2.val) := h3
  funext a
  apply Fin.ext
  fin_cases a
  · show 0 + 1 * x0.val = (j 0).val; omega
  · show b + 1 * 0 = (j 1).val; omega
  · show r + 1 * x1.val = (j 2).val; omega
  · show q + 1 * x2.val = (j 3).val; omega

end Cert.KernelIdeal.Talk

end
-- ==== Proof.Stores.lean ====
/-
  What the kernel's own stores leave in its three scratch buffers, and that the copies land what the gathered buffers hold.
-/
module

public import proofs.«01_k».proof.Proof.Geom

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

/-! ## A store through a rectangle, at an index -/

theorem stA_in (off size : Fin 4 → ℕ) (inb : ∀ a, off a + size a ≤ S2x2x128x256.size a) (f : S2x2x128x256.Idx → Elt F .bf16)
    (w : (⟨4, size⟩ : Shape).Idx → Elt F .bf16) (i : S2x2x128x256.Idx) (j : (⟨4, size⟩ : Shape).Idx)
    (h : ∀ a : Fin 4, off a + (j a).val = (i a).val) :
    (mA.access (Rect.unit (s := S2x2x128x256) off size inb)).write (Elt F) f w Finset.univ i = w j := by
  have e : (Rect.unit (s := S2x2x128x256) off size inb).emb j = i := by
    funext a; apply Fin.ext
    show off a + 1 * (j a).val = (i a).val
    rw [Nat.one_mul]; exact h a
  rw [← e]
  exact View.write_emb_of_mem (v := (mA.access (Rect.unit (s := S2x2x128x256) off size inb))) (Val := Elt F) f w (Finset.mem_univ j)
theorem stA_out (off size : Fin 4 → ℕ) (inb : ∀ a, off a + size a ≤ S2x2x128x256.size a) (f : S2x2x128x256.Idx → Elt F .bf16)
    (w : (⟨4, size⟩ : Shape).Idx → Elt F .bf16) (i : S2x2x128x256.Idx) (a : Fin 4) (h : (i a).val < off a ∨ off a + size a ≤ (i a).val) :
    (mA.access (Rect.unit (s := S2x2x128x256) off size inb)).write (Elt F) f w Finset.univ i = f i := by
  refine View.write_of_not_mem (v := (mA.access (Rect.unit (s := S2x2x128x256) off size inb))) (Val := Elt F) f w _ fun hi => ?_
  have e : (mA.access (Rect.unit (s := S2x2x128x256) off size inb)).setOn Finset.univ = (Rect.unit (s := S2x2x128x256) off size inb).set :=
    View.set_slice_whole _ _
  have hi' := (mem_rect (s := S2x2x128x256) off size inb i).mp (e ▸ hi)
  have := hi' a
  omega

theorem stB_in (off size : Fin 4 → ℕ) (inb : ∀ a, off a + size a ≤ S4x2x128x128.size a) (f : S4x2x128x128.Idx → Elt F .bf16)
    (w : (⟨4, size⟩ : Shape).Idx → Elt F .bf16) (i : S4x2x128x128.Idx) (j : (⟨4, size⟩ : Shape).Idx)
    (h : ∀ a : Fin 4, off a + (j a).val = (i a).val) :
    (mB.access (Rect.unit (s := S4x2x128x128) off size inb)).write (Elt F) f w Finset.univ i = w j := by
  have e : (Rect.unit (s := S4x2x128x128) off size inb).emb j = i := by
    funext a; apply Fin.ext
    show off a + 1 * (j a).val = (i a).val
    rw [Nat.one_mul]; exact h a
  rw [← e]
  exact View.write_emb_of_mem (v := (mB.access (Rect.unit (s := S4x2x128x128) off size inb))) (Val := Elt F) f w (Finset.mem_univ j)
theorem stB_out (off size : Fin 4 → ℕ) (inb : ∀ a, off a + size a ≤ S4x2x128x128.size a) (f : S4x2x128x128.Idx → Elt F .bf16)
    (w : (⟨4, size⟩ : Shape).Idx → Elt F .bf16) (i : S4x2x128x128.Idx) (a : Fin 4) (h : (i a).val < off a ∨ off a + size a ≤ (i a).val) :
    (mB.access (Rect.unit (s := S4x2x128x128) off size inb)).write (Elt F) f w Finset.univ i = f i := by
  refine View.write_of_not_mem (v := (mB.access (Rect.unit (s := S4x2x128x128) off size inb))) (Val := Elt F) f w _ fun hi => ?_
  have e : (mB.access (Rect.unit (s := S4x2x128x128) off size inb)).setOn Finset.univ = (Rect.unit (s := S4x2x128x128) off size inb).set :=
    View.set_slice_whole _ _
  have hi' := (mem_rect (s := S4x2x128x128) off size inb i).mp (e ▸ hi)
  have := hi' a
  omega

theorem stC_in (off size : Fin 4 → ℕ) (inb : ∀ a, off a + size a ≤ S4x2x128x64.size a) (f : S4x2x128x64.Idx → Elt F .bf16)
    (w : (⟨4, size⟩ : Shape).Idx → Elt F .bf16) (i : S4x2x128x64.Idx) (j : (⟨4, size⟩ : Shape).Idx)
    (h : ∀ a : Fin 4, off a + (j a).val = (i a).val) :
    (mC.access (Rect.unit (s := S4x2x128x64) off size inb)).write (Elt F) f w Finset.univ i = w j := by
  have e : (Rect.unit (s := S4x2x128x64) off size inb).emb j = i := by
    funext a; apply Fin.ext
    show off a + 1 * (j a).val = (i a).val
    rw [Nat.one_mul]; exact h a
  rw [← e]
  exact View.write_emb_of_mem (v := (mC.access (Rect.unit (s := S4x2x128x64) off size inb))) (Val := Elt F) f w (Finset.mem_univ j)
theorem stC_out (off size : Fin 4 → ℕ) (inb : ∀ a, off a + size a ≤ S4x2x128x64.size a) (f : S4x2x128x64.Idx → Elt F .bf16)
    (w : (⟨4, size⟩ : Shape).Idx → Elt F .bf16) (i : S4x2x128x64.Idx) (a : Fin 4) (h : (i a).val < off a ∨ off a + size a ≤ (i a).val) :
    (mC.access (Rect.unit (s := S4x2x128x64) off size inb)).write (Elt F) f w Finset.univ i = f i := by
  refine View.write_of_not_mem (v := (mC.access (Rect.unit (s := S4x2x128x64) off size inb))) (Val := Elt F) f w _ fun hi => ?_
  have e : (mC.access (Rect.unit (s := S4x2x128x64) off size inb)).setOn Finset.univ = (Rect.unit (s := S4x2x128x64) off size inb).set :=
    View.set_slice_whole _ _
  have hi' := (mem_rect (s := S4x2x128x64) off size inb i).mp (e ▸ hi)
  have := hi' a
  omega

/-! ## The three buffers -/

section Stores
variable (I : Inp F) (c : Dev nD)

/-- The packed keys and values after the two stores. -/
theorem kvbf_eq (f : S2x2x128x256.Idx → Elt F .bf16) :
    (mA.access (Rect.unit (s := S2x2x128x256) ![1, 0, 0, 0] S1x2x128x256.size inb_S2x2x128x256_S1x2x128x256_1_0_0_0)).write (Elt F)
      ((mA.access (Rect.unit (s := S2x2x128x256) ![0, 0, 0, 0] S1x2x128x256.size inb_S2x2x128x256_S1x2x128x256_0_0_0_0)).write (Elt F) f
        (k0_pay1 (I.k c)) Finset.univ) (k0_pay2 (I.v c)) Finset.univ = kvbf I c := by
  funext i
  have h0 : (i 0).val < 2 := (i 0).isLt
  unfold kvbf
  by_cases h : (i 0).val = 0
  · rw [if_pos h]
    refine (stA_out ![1, 0, 0, 0] S1x2x128x256.size _ _ _ i 0 (.inl ?_)).trans (stA_in ![0, 0, 0, 0] S1x2x128x256.size _ _ _ i (ix4 (0 : Fin 1) (i 1) (i 2) (i 3)) fun a => ?_)
    · show (i 0).val < 1; omega
    · fin_cases a
      · exact h.symm
      all_goals exact Nat.zero_add _
  · rw [if_neg h]
    refine stA_in _ _ _ _ _ i (ix4 (0 : Fin 1) (i 1) (i 2) (i 3)) fun a => ?_
    fin_cases a
    · show 1 + 0 = (i 0).val; omega
    all_goals exact Nat.zero_add _

/-- What of its gathered buffer a device never hands out: its own slot and the halves no copy fills. -/
def keep : Finset S4x2x128x128.Idx :=
  Finset.univ.filter fun i => (i 0).val = c.val ∨ ((i 0).val = 2 ∧ (i 2).val < 64) ∨ ((i 0).val = 3 ∧ 64 ≤ (i 2).val)

/-- The own rows, read back and stored into the own slot. -/
theorem own_eq (i : S4x2x128x128.Idx) (h : (i 0).val = c.val) :
    k0_pay5 (ld (s := S2x2x128x256) (k0_off6 c) S2x1x128x128.size (k0_off6_inb c) (kvbf I c)) (ix4 (0 : Fin 1) (i 1) (i 2) (i 3)) = KV I c i := by
  have hc : i 0 = c := Fin.ext h
  unfold KV
  rw [if_neg (by omega), if_neg (by omega), hc]
  unfold k0_pay5
  refine (shapeCast_abc_1abc_apply _ _ (0 : Fin 1) (i 1) (i 2) (i 3)).trans ?_
  refine (shapeCast_apply _ _ (ix3 (i 1) (i 2) (i 3)) (ix4 (i 1) (0 : Fin 1) (i 2) (i 3)) ?_).trans ?_
  · rw [Shape.rowMajor_val_four, Shape.rowMajor_val_three]
    show (((i 1).val * 1 + 0) * 128 + (i 2).val) * 128 + (i 3).val = ((i 1).val * 128 + (i 2).val) * 128 + (i 3).val
    omega
  refine congrArg (kvbf I c) ?_
  funext a
  apply Fin.ext
  show k0_off6 c a + 1 * (ix4 (i 1) (0 : Fin 1) (i 2) (i 3) a).val = _
  rw [off6_eq]
  fin_cases a
  · show 0 + 1 * (i 1).val = (i 1).val; omega
  · show c.val / 2 + 1 * 0 = c.val / 2; omega
  · show 0 + 1 * (i 2).val = (i 2).val; omega
  · show 128 * (c.val % 2) + 1 * (i 3).val = 128 * (c.val % 2) + (i 3).val; omega

/-- The kept part of the gathered buffer after the two blocks of zeros and the own slot are stored. -/
theorem keep_eq (f : S4x2x128x128.Idx → Elt F .bf16) (i : S4x2x128x128.Idx) (hi : i ∈ keep c) :
    (mB.access (Rect.unit (s := S4x2x128x128) (k0_off7 c) S1x2x128x128.size (k0_off7_inb c))).write (Elt F)
      ((mB.access (Rect.unit (s := S4x2x128x128) ![3, 0, 64, 0] S1x2x64x128.size inb_S4x2x128x128_S1x2x64x128_3_0_64_0)).write (Elt F)
        ((mB.access (Rect.unit (s := S4x2x128x128) ![2, 0, 0, 0] S1x2x64x128.size inb_S4x2x128x128_S1x2x64x128_2_0_0_0)).write (Elt F) f
          (k0_pay3 (F := F)) Finset.univ) (k0_pay4 (F := F)) Finset.univ)
      (k0_pay5 (ld (s := S2x2x128x256) (k0_off6 c) S2x1x128x128.size (k0_off6_inb c) (kvbf I c))) Finset.univ i = KV I c i := by
  have h2 : (i 2).val < 128 := (i 2).isLt
  have e7 := k0_off7_eq c
  by_cases h : (i 0).val = c.val
  · refine (stB_in _ _ _ _ _ i (ix4 (0 : Fin 1) (i 1) (i 2) (i 3)) fun a => ?_).trans (own_eq I c i h)
    rw [e7]
    fin_cases a
    · exact h.symm
    all_goals exact Nat.zero_add _
  · refine (stB_out (k0_off7 c) S1x2x128x128.size _ _ _ i 0 ?_).trans ?_
    · rw [e7]; show (i 0).val < c.val ∨ c.val + 1 ≤ (i 0).val; omega
    rw [keep, Finset.mem_filter] at hi
    rcases hi.2 with h' | ⟨h', hr⟩ | ⟨h', hr⟩
    · exact absurd h' h
    · unfold KV
      rw [if_pos ⟨h', hr, by omega⟩]
      refine (stB_out ![3, 0, 64, 0] S1x2x64x128.size _ _ _ i 0 (.inl ?_)).trans (stB_in ![2, 0, 0, 0] S1x2x64x128.size _ _ _ i _ fun a => ?_)
      · show (i 0).val < 3; omega
      · fin_cases a
        · exact h'.symm
        · exact Nat.zero_add _
        · show 0 + (i 2).val % 64 = (i 2).val; omega
        · exact Nat.zero_add _
    · unfold KV
      rw [if_neg (by omega), if_pos ⟨h', hr, by omega⟩]
      refine stB_in _ _ _ _ _ i _ fun a => ?_
      fin_cases a
      · exact h'.symm
      · exact Nat.zero_add _
      · show 64 + (i 2).val % 64 = (i 2).val; omega
      · exact Nat.zero_add _

/-- The own context of the first head, once stored. -/
theorem ctx0_eq (f : S4x2x128x64.Idx → Elt F .bf16) (i : S4x2x128x64.Idx) (hi : i ∈ cg c 0) :
    (mC.access (Rect.unit (s := S4x2x128x64) (k0_off10 c) S1x1x128x64.size (k0_off10_inb c))).write (Elt F) f (cx0 I c) Finset.univ i = CG I i := by
  rw [cg, Finset.mem_filter] at hi
  have hc : i 0 = c := Fin.ext hi.2.1
  have h1 : (i 1).val = 0 := hi.2.2
  unfold CG
  rw [if_pos h1, hc]
  refine stC_in _ _ _ _ _ i _ fun a => ?_
  rw [k0_off10_eq]
  fin_cases a
  · exact hi.2.1.symm
  · exact h1.symm
  all_goals exact Nat.zero_add _

/-- The own context of the second head, once stored. -/
theorem ctx1_eq (f : S4x2x128x64.Idx → Elt F .bf16) (i : S4x2x128x64.Idx) (hi : i ∈ cg c 1) :
    (mC.access (Rect.unit (s := S4x2x128x64) (k0_off13 c) S1x1x128x64.size (k0_off13_inb c))).write (Elt F) f (cx1 I c) Finset.univ i = CG I i := by
  rw [cg, Finset.mem_filter] at hi
  have hc : i 0 = c := Fin.ext hi.2.1
  have h1 : (i 1).val = 1 := hi.2.2
  unfold CG
  rw [if_neg (by omega), hc]
  refine stC_in _ _ _ _ _ i _ fun a => ?_
  rw [k0_off13_eq]
  fin_cases a
  · exact hi.2.1.symm
  · exact h1.symm
  all_goals exact Nat.zero_add _

/-! ## The copies of keys and values -/

theorem KV_land (t o : Dev nD) (i : S4x2x128x128.Idx) (hi : i ∈ land o) : KV I t i = kvbf I o (ix4 (i 1) (bt t) (i 2) (col t (i 3))) := by
  rw [land, Finset.mem_filter] at hi
  have ho : i 0 = o := Fin.ext hi.2.1
  unfold KV
  have := hi.2
  rw [if_neg (by omega), if_neg (by omega), ho]

theorem src_lo01 (h : c.val < 2) (k : Fin 3) (inb) : (sA_big ![0, (nx c k).val / 2, 0, 128 * ((nx c k).val % 2)] inb).view.set = src c k := by
  ext i
  refine (sA_big_mem _ _ _ _ i).trans ?_
  rw [src, Finset.mem_filter]
  have h2 : (i 2).val < 128 := (i 2).isLt
  simp only [Finset.mem_univ, true_and]
  omega
theorem dst_lo01 (h : c.val < 2) (inb) : (sB_big ![c.val, 0, 0, 0] inb).view.set = land c := by
  ext i
  refine (sB_big_mem _ _ _ i).trans ?_
  rw [land, Finset.mem_filter]
  have h2 : (i 2).val < 128 := (i 2).isLt
  simp only [Finset.mem_univ, true_and]
  omega
theorem got_lo01 (h : c.val < 2) (k : Fin 3) (inbA inbB) (fd : S4x2x128x128.Idx → Elt F .bf16) (i : S4x2x128x128.Idx) (hi : i ∈ land c) :
    (sB_big ![c.val, 0, 0, 0] inbB).view.write (Elt F) fd
      ((sA_big ![0, (nx c k).val / 2, 0, 128 * ((nx c k).val % 2)] inbA).view.read (Elt F) (kvbf I c)) Finset.univ i = KV I (nx c k) i :=
  (land_big _ _ _ _ inbA inbB fd (kvbf I c) i (by rw [dst_lo01 c h]; exact hi) (ix4 (i 1) (bt (nx c k)) (i 2) (col (nx c k) (i 3)))
    rfl rfl rfl rfl).trans (KV_land I (nx c k) c i hi).symm

theorem src_up (h : c.val = 2) (k : Fin 3) (inb) : (sA_half ![0, (nx c k).val / 2, 64, 128 * ((nx c k).val % 2)] inb).view.set = src c k := by
  ext i
  refine (sA_half_mem _ _ _ _ i).trans ?_
  rw [src, Finset.mem_filter]
  have h2 : (i 2).val < 128 := (i 2).isLt
  simp only [Finset.mem_univ, true_and]
  omega
theorem dst_up (h : c.val = 2) (inb) : (sB_half ![2, 0, 64, 0] inb).view.set = land c := by
  ext i
  refine (sB_half_mem _ _ _ i).trans ?_
  rw [land, Finset.mem_filter]
  have h2 : (i 2).val < 128 := (i 2).isLt
  simp only [Finset.mem_univ, true_and]
  omega
theorem got_up (h : c.val = 2) (k : Fin 3) (inbA inbB) (fd : S4x2x128x128.Idx → Elt F .bf16) (i : S4x2x128x128.Idx) (hi : i ∈ land c) :
    (sB_half ![2, 0, 64, 0] inbB).view.write (Elt F) fd
      ((sA_half ![0, (nx c k).val / 2, 64, 128 * ((nx c k).val % 2)] inbA).view.read (Elt F) (kvbf I c)) Finset.univ i = KV I (nx c k) i :=
  (land_half _ _ _ _ inbA inbB fd (kvbf I c) i (by rw [dst_up c h]; exact hi) (ix4 (i 1) (bt (nx c k)) (i 2) (col (nx c k) (i 3)))
    rfl rfl rfl rfl).trans (KV_land I (nx c k) c i hi).symm

theorem src_lo (h : c.val = 3) (k : Fin 3) (inb) : (sA_half ![0, (nx c k).val / 2, 0, 128 * ((nx c k).val % 2)] inb).view.set = src c k := by
  ext i
  refine (sA_half_mem _ _ _ _ i).trans ?_
  rw [src, Finset.mem_filter]
  have h2 : (i 2).val < 128 := (i 2).isLt
  simp only [Finset.mem_univ, true_and]
  omega
theorem dst_lo (h : c.val = 3) (inb) : (sB_half ![3, 0, 0, 0] inb).view.set = land c := by
  ext i
  refine (sB_half_mem _ _ _ i).trans ?_
  rw [land, Finset.mem_filter]
  have h2 : (i 2).val < 128 := (i 2).isLt
  simp only [Finset.mem_univ, true_and]
  omega
theorem got_lo (h : c.val = 3) (k : Fin 3) (inbA inbB) (fd : S4x2x128x128.Idx → Elt F .bf16) (i : S4x2x128x128.Idx) (hi : i ∈ land c) :
    (sB_half ![3, 0, 0, 0] inbB).view.write (Elt F) fd
      ((sA_half ![0, (nx c k).val / 2, 0, 128 * ((nx c k).val % 2)] inbA).view.read (Elt F) (kvbf I c)) Finset.univ i = KV I (nx c k) i :=
  (land_half _ _ _ _ inbA inbB fd (kvbf I c) i (by rw [dst_lo c h]; exact hi) (ix4 (i 1) (bt (nx c k)) (i 2) (col (nx c k) (i 3)))
    rfl rfl rfl rfl).trans (KV_land I (nx c k) c i hi).symm

end Stores

end Cert.KernelIdeal.Talk

end
-- ==== Proof.Steps.lean ====
/-
  One step of the program at a time: a signal to another device's barrier, a remote copy, a wait.
-/
module

public import proofs.«01_k».proof.Proof.Stores

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The records every device consults -/

/-- The scoped semaphores of the protocol. -/
abbrev osem (i : Fin 21) : SemLoc sig := .dma (⟨6 + i.val, by omega⟩ : Fin 27)
theorem osem_inj : Function.Injective osem := by decide
def barEmb : Dev nD ↪ GSem nD τ sig := ⟨fun c => bar c, fun _ _ h => congrArg (fun g : GSem nD τ sig => g.1.1) h⟩
def scEmb : Dev nD × Fin 21 ↪ GSem nD τ sig :=
  ⟨fun x => ((x.1 : Thread nD τ), osem x.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

section Steps
variable (I : Inp F) (K : GSem nD τ sig → ℕ)

def records : sProp 𝕄 :=
  iprop((bigSep (barCells ∪ scCells) fun g => cellInv ER (Rd I) (K g) g) ∗ bigSep barCells fun g => reached ER g 0)
instance records_persistent : BI.Persistent (records I K) := by unfold records; infer_instance

theorem inv_at {g : GSem nD τ sig} (hg : g ∈ (barCells ∪ scCells : Finset (GSem nD τ sig))) :
    (bigSep (barCells ∪ scCells) fun g => (cellInv ER (Rd I) (K g) g : sProp 𝕄)) ⊢ cellInv ER (Rd I) (K g) g := bigSep_elim hg
theorem reached_at (c : Dev nD) : (bigSep barCells fun g => (reached ER g 0 : sProp 𝕄)) ⊢ reached ER (bar c) 0 :=
  bigSep_elim (Finset.mem_map_of_mem barEmb (Finset.mem_univ c))
theorem bar_mem (c : Dev nD) : bar c ∈ (barCells ∪ scCells : Finset (GSem nD τ sig)) :=
  Finset.mem_union_left _ (Finset.mem_map_of_mem barEmb (Finset.mem_univ c))
theorem dma_mem (c : Dev nD) (q : DmaSem sig) (h : 6 ≤ q.val) : dc c q ∈ (barCells ∪ scCells : Finset (GSem nD τ sig)) := by
  refine Finset.mem_union_right _ ?_
  have hq : q.val < 27 := q.isLt
  refine Finset.mem_map.mpr ⟨(c, (⟨q.val - 6, by omega⟩ : Fin 21)), Finset.mem_univ _, ?_⟩
  show ((c : Thread nD τ), osem ⟨q.val - 6, by omega⟩) = dc c q
  refine congrArg (Prod.mk _) (congrArg SemLoc.dma (Fin.ext ?_))
  show 6 + (q.val - 6) = q.val
  omega
theorem inv_bar (c : Dev nD) : records I K ⊢ cellInv ER (Rd I) (K (bar c)) (bar c) := by
  unfold records
  iintro ⟨#H, -⟩
  iapply (inv_at I K (bar_mem c)); iexact H
theorem inv_dma (c : Dev nD) (q : DmaSem sig) (h : 6 ≤ q.val) : records I K ⊢ cellInv ER (Rd I) (K (dc c q)) (dc c q) := by
  unfold records
  iintro ⟨#H, -⟩
  iapply (inv_at I K (dma_mem c q h)); iexact H
theorem reached_bar (c : Dev nD) : records I K ⊢ reached ER (bar c) 0 := by
  unfold records
  iintro ⟨-, #H⟩
  iapply (reached_at (F := F) c); iexact H

/-- What device `c` still owes after `n` payments, whatever it has waited for. -/
abbrev oweA (c : Dev nD) (n : ℕ) : sProp 𝕄 := iprop(∃ W, owes (c : Thread nD τ) (owed c n) W)

abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type} (c : Dev nD)

theorem owed_bar (k : Fin 3) : owed c k.val = owed c (k.val + 1) + tallyAt (bar (nx c k)) () 1 := by fin_cases k <;> rfl
theorem owed_r1 (k : Fin 3) : owed c (3 + k.val) = owed c (3 + k.val + 1) + tallyAt (dc (nx c k) (r1s c)) () (n1 c) := by fin_cases k <;> rfl
theorem owed_r2 (k : Fin 3) (j : Fin 2) : owed c (6 + 3 * j.val + k.val) = owed c (6 + 3 * j.val + k.val + 1) + tallyAt (dc (nx c k) (r2s c j)) () nC := by
  fin_cases k <;> fin_cases j <;> rfl

/-- A signal to the barrier of the device `k + 1` after: it hands over where that device's copies land. -/
theorem step_signal (k : Fin 3) {dev : Dev nD} (hn : dev = nx c k) {n : ℕ} (h1 : n = 1) {f : PUnit → Prog (TpuEff nD τ sig (Elt F) Λ₀ .tc) α} {Q : α → sProp 𝕄} :
    iprop(records I K ∗ oweA c k.val ∗ dutyTok ER (bar (nx c k)) 0 c ∗ barPay (nx c k) c)
      ⊢ iprop((oweA c (k.val + 1) -∗ wpc c (f ⟨⟩) Q) -∗ wpc c (.op (.semSignal (dev : Thread nD τ) barrier0 n) f) Q) := by
  subst hn h1
  iintro ⟨#HR, ⟨%W, HO⟩, Ht, Hp⟩ Hk
  iapply (Rounds.wp_signal 𝒱₀ ER (Rd I) (c : Thread nD τ) none (dst := (nx c k : Thread nD τ)) (sem := barrier0) (r := 0) (d := c) (κ := K (bar (nx c k)))
      (by rw [duties_at]; exact nx_mem_bar c k) rfl () (owed c (k.val + 1)) (owed_bar c k)) $$ [HO Ht Hp]
  · isplitr; · iapply (inv_bar I K (nx c k)); iexact HR
    iframe HO Ht
    isplitl [Hp]; · iapply (Entails.of_eq (show barPay (nx c k) c = (Rd I).payload (bar (nx c k)) 0 c from rfl)); iexact Hp
    iapply (reached_bar I K (nx c k)); iexact HR
  iintro HO
  iapply Hk
  iexists W; iexact HO

/-- The wait at the barrier: every other device has handed over where this device's copies land. -/
theorem step_barrier {n : ℕ} (h3 : n = 3) {f : PUnit → Prog (TpuEff nD τ sig (Elt F) Λ₀ .tc) α} {Q : α → sProp 𝕄} :
    iprop(records I K ∗ levAts L lv ∗ cred (tallyAt (bar c) () 3) ∗ oweA c 3 ∗ atPos ER (bar c) 0 ∅ 0)
      ⊢ iprop((oweA c 3 ∗ atPos ER (bar c) (0 + 1) ∅ 0 ∗ barPay c (nx c 0) ∗ barPay c (nx c 1) ∗ barPay c (nx c 2) -∗ wpc c (f ⟨⟩) Q)
        -∗ wpc c (.op (.semWait barrier0 n) f) Q) := by
  subst h3
  iintro ⟨#HR, #Hlev, Hc, ⟨%W, HO⟩, Hat⟩ Hk
  iapply (Rounds.wp_wait_rest_token 𝒱₀ ER (Rd I) (c : Thread nD τ) none (κ := K (bar c))
      (wpE_semWait_eq 𝒱₀ (c : Thread nD τ) none Set.univ) (Set.mem_univ _) () (O := owed c 3) (W := W) (R := 0) (m := 0) (T := ∅)
      ((Nat.zero_add 3).trans (expect_bar I c).symm)) $$ [Hc HO Hat]
  · isplitr; · iapply (inv_bar I K c); iexact HR
    iframe Hc HO
    isplitr; · iapply (mayWait_bar c); iexact Hlev
    iexact Hat
  iintro ⟨HO, Hat, -, Hp⟩
  ihave Hp := (Entails.of_eq (rest_bar I c)) $$ Hp
  iapply Hk
  isplitl [HO]; · iexists _; iexact HO
  iframe Hat Hp

/-- A wait for a completed copy, which hands back what the copy was promised to hand over. -/
theorem step_wait {q q' : DmaSem sig} (hq : q' = q) (h6 : 6 ≤ q.val) (n : ℕ) (hd : dut c (.dma q) = {0})
    {w : TpuEff nD τ sig (Elt F) Λ₀ .tc PUnit} {k' : ℕ} (hw : ∀ Kt : PUnit → sProp 𝕄, wpE (defs₀ (F := F)) 𝒱₀ (c : Thread nD τ) none Set.univ w Kt
      = waitSpec (c : Thread nD τ) Set.univ (.dma q') k' Kt) (hk : k' = amt c (.dma q))
    {f : PUnit → Prog (TpuEff nD τ sig (Elt F) Λ₀ .tc) α} {Q : α → sProp 𝕄} :
    iprop(records I K ∗ cred (tallyAt (dc c q) () (amt c (.dma q))) ∗ oweA c n ∗ MayWait (c : Thread nD τ) (.dma q) () (owed c n) ∗ atPos ER (dc c q) 0 ∅ 0)
      ⊢ iprop((oweA c n ∗ atPos ER (dc c q) (0 + 1) ∅ 0 ∗ pay I c 0 (.dma q) -∗ wpc c (f ⟨⟩) Q) -∗ wpc c (.op w f) Q) := by
  subst hq hk
  iintro ⟨#HR, Hc, ⟨%W, HO⟩, HM, Hat⟩ Hk
  iapply (Rounds.wp_wait_rest_token 𝒱₀ ER (Rd I) (c : Thread nD τ) none (κ := K (dc c q'))
      hw (Set.mem_univ _) () (O := owed c n) (W := W) (R := 0) (m := 0) (T := ∅)
      ((Nat.zero_add _).trans (expect_one I c _ hd).symm)) $$ [Hc HO HM Hat]
  · isplitr; · iapply (inv_dma I K c q' h6); iexact HR
    iframe Hc HO HM Hat
  iintro ⟨HO, Hat, -, Hp⟩
  ihave Hp := (Entails.of_eq (rest_one I c _ hd)) $$ Hp
  iapply Hk
  isplitl [HO]; · iexists _; iexact HO
  iframe Hat Hp

/-- The copy of keys and values to the device `k + 1` after (lo01). -/
theorem step_send1_lo01 (h : c.val < 2) (k : Fin 3) {dev : Dev nD} (hn : dev = nx c k) {qs qr : DmaSem sig} (hqs : qs = s1s k) (hqr : qr = r1s c)
    {oA oB : Fin 4 → ℕ} {inbA inbB} (hA : oA = ![0, (nx c k).val / 2, 0, 128 * ((nx c k).val % 2)]) (hB : oB = ![c.val, 0, 0, 0])
    {hsc} {hs : (sA_big oA inbA).view.WordExact} {hd : (sB_big oB inbB).view.WordExact}
    {ht : DmaTarget.Typed .vmem (.dma qr) (.remote (dev : Thread nD τ) (sB_big oB inbB) (.dma qs) hsc)}
    {f : PUnit → Prog (TpuEff nD τ sig (Elt F) Λ₀ .tc) α} {Q : α → sProp 𝕄} :
    iprop(records I K ∗ oweA c (3 + k.val) ∗ ptA c (src c k) (sh k) (kvbf I c) ∗ (∃ g, ptB (nx c k) (land c) fullShare g)
        ∗ dutyTok ER (dc c (s1s k)) 0 0 ∗ reached ER (dc c (s1s k)) 0 ∗ dutyTok ER (dc (nx c k) (r1s c)) 0 0 ∗ reached ER (dc (nx c k) (r1s c)) 0)
      ⊢ iprop((oweA c (3 + k.val + 1) ∗ cred (tallyAt (dc c (s1s k)) () (amt c (.dma (s1s k)))) -∗ wpc c (f ⟨⟩) Q)
        -∗ wpc c (.op (.enqueueDma (sA_big oA inbA) (.remote (dev : Thread nD τ) (sB_big oB inbB) (.dma qs) hsc) (.dma qr) hs hd ht) f) Q) := by
  subst hn hqs hqr hA hB
  have hN : n1 c = nBig := if_pos h
  iintro ⟨#HR, ⟨%W, HO⟩, Hs, ⟨%g, Hd⟩, Ht1, Hr1, Ht2, Hr2⟩ Hk
  iapply (Rounds.wp_send_pointsTo 𝒱₀ ER (Rd I) (c : Thread nD τ) none (c' := (nx c k : Thread nD τ)) (src := sA_big _ inbA) (dst := sB_big _ inbB)
      (sS := .dma (s1s k)) (sem := .dma (r1s c)) (q := sh k) (fs := kvbf I c) (fd := g) (κ₁ := K (dc c (s1s k))) (κ₂ := K (dc (nx c k) (r1s c)))
      (r₁ := 0) (r₂ := 0) (d₁ := 0) (d₂ := 0)
      (by rw [duties_at, dut_s1]; exact Finset.mem_singleton_self _)
      (by rw [duties_at, dut_r1 _ _ (nx_ne c k).symm]; exact Finset.mem_singleton_self _)
      () () nBig rfl ((amt_s1 c k).trans hN) ((amt_r1 (nx c k) c).trans hN) (O₀ := owed c (3 + k.val)) (owed c (3 + k.val + 1)) (hN ▸ owed_r1 c k) (W := W)
      (Entails.of_eq ((congrArg (fun S => ptA c S (sh k) (kvbf I c)) (src_lo01 c h k inbA)).trans (pay_s1 I c 0 k).symm))
      (Entails.of_eq (((congrArg (fun S => ptB (nx c k) S fullShare _) (dst_lo01 c h inbB)).trans
        (pointsTo_congr fun i hi => got_lo01 I c h k inbA inbB g i hi)).trans (pay_r1 I (nx c k) 0 c).symm))) $$ [HO Hs Hd Ht1 Hr1 Ht2 Hr2]
  · isplitr; · iapply (inv_dma I K c (s1s k) (by show 6 ≤ 6 + k.val; omega)); iexact HR
    isplitr; · iapply (inv_dma I K (nx c k) (r1s c) (by show 6 ≤ 9 + c.val; omega)); iexact HR
    isplitl [Hs]; · iapply (Entails.of_eq (congrArg (fun S => ptA c S (sh k) (kvbf I c)) (src_lo01 c h k inbA).symm)); iexact Hs
    isplitl [Hd]; · iapply (Entails.of_eq (congrArg (fun S => ptB (nx c k) S fullShare g) (dst_lo01 c h inbB).symm)); iexact Hd
    iframe HO Ht1 Hr1
    isplitl [Ht2] <;> iassumption
  iintro ⟨Hc, HO⟩
  iapply Hk
  isplitl [HO]; · iexists _; iexact HO
  rw [amt_s1, hN]
  iexact Hc

/-- The copy of keys and values to the device `k + 1` after (up). -/
theorem step_send1_up (h : c.val = 2) (k : Fin 3) {dev : Dev nD} (hn : dev = nx c k) {qs qr : DmaSem sig} (hqs : qs = s1s k) (hqr : qr = r1s c)
    {oA oB : Fin 4 → ℕ} {inbA inbB} (hA : oA = ![0, (nx c k).val / 2, 64, 128 * ((nx c k).val % 2)]) (hB : oB = ![2, 0, 64, 0])
    {hsc} {hs : (sA_half oA inbA).view.WordExact} {hd : (sB_half oB inbB).view.WordExact}
    {ht : DmaTarget.Typed .vmem (.dma qr) (.remote (dev : Thread nD τ) (sB_half oB inbB) (.dma qs) hsc)}
    {f : PUnit → Prog (TpuEff nD τ sig (Elt F) Λ₀ .tc) α} {Q : α → sProp 𝕄} :
    iprop(records I K ∗ oweA c (3 + k.val) ∗ ptA c (src c k) (sh k) (kvbf I c) ∗ (∃ g, ptB (nx c k) (land c) fullShare g)
        ∗ dutyTok ER (dc c (s1s k)) 0 0 ∗ reached ER (dc c (s1s k)) 0 ∗ dutyTok ER (dc (nx c k) (r1s c)) 0 0 ∗ reached ER (dc (nx c k) (r1s c)) 0)
      ⊢ iprop((oweA c (3 + k.val + 1) ∗ cred (tallyAt (dc c (s1s k)) () (amt c (.dma (s1s k)))) -∗ wpc c (f ⟨⟩) Q)
        -∗ wpc c (.op (.enqueueDma (sA_half oA inbA) (.remote (dev : Thread nD τ) (sB_half oB inbB) (.dma qs) hsc) (.dma qr) hs hd ht) f) Q) := by
  subst hn hqs hqr hA hB
  have hN : n1 c = nHalf := if_neg (by omega)
  iintro ⟨#HR, ⟨%W, HO⟩, Hs, ⟨%g, Hd⟩, Ht1, Hr1, Ht2, Hr2⟩ Hk
  iapply (Rounds.wp_send_pointsTo 𝒱₀ ER (Rd I) (c : Thread nD τ) none (c' := (nx c k : Thread nD τ)) (src := sA_half _ inbA) (dst := sB_half _ inbB)
      (sS := .dma (s1s k)) (sem := .dma (r1s c)) (q := sh k) (fs := kvbf I c) (fd := g) (κ₁ := K (dc c (s1s k))) (κ₂ := K (dc (nx c k) (r1s c)))
      (r₁ := 0) (r₂ := 0) (d₁ := 0) (d₂ := 0)
      (by rw [duties_at, dut_s1]; exact Finset.mem_singleton_self _)
      (by rw [duties_at, dut_r1 _ _ (nx_ne c k).symm]; exact Finset.mem_singleton_self _)
      () () nHalf rfl ((amt_s1 c k).trans hN) ((amt_r1 (nx c k) c).trans hN) (O₀ := owed c (3 + k.val)) (owed c (3 + k.val + 1)) (hN ▸ owed_r1 c k) (W := W)
      (Entails.of_eq ((congrArg (fun S => ptA c S (sh k) (kvbf I c)) (src_up c h k inbA)).trans (pay_s1 I c 0 k).symm))
      (Entails.of_eq (((congrArg (fun S => ptB (nx c k) S fullShare _) (dst_up c h inbB)).trans
        (pointsTo_congr fun i hi => got_up I c h k inbA inbB g i hi)).trans (pay_r1 I (nx c k) 0 c).symm))) $$ [HO Hs Hd Ht1 Hr1 Ht2 Hr2]
  · isplitr; · iapply (inv_dma I K c (s1s k) (by show 6 ≤ 6 + k.val; omega)); iexact HR
    isplitr; · iapply (inv_dma I K (nx c k) (r1s c) (by show 6 ≤ 9 + c.val; omega)); iexact HR
    isplitl [Hs]; · iapply (Entails.of_eq (congrArg (fun S => ptA c S (sh k) (kvbf I c)) (src_up c h k inbA).symm)); iexact Hs
    isplitl [Hd]; · iapply (Entails.of_eq (congrArg (fun S => ptB (nx c k) S fullShare g) (dst_up c h inbB).symm)); iexact Hd
    iframe HO Ht1 Hr1
    isplitl [Ht2] <;> iassumption
  iintro ⟨Hc, HO⟩
  iapply Hk
  isplitl [HO]; · iexists _; iexact HO
  rw [amt_s1, hN]
  iexact Hc

/-- The copy of keys and values to the device `k + 1` after (lo). -/
theorem step_send1_lo (h : c.val = 3) (k : Fin 3) {dev : Dev nD} (hn : dev = nx c k) {qs qr : DmaSem sig} (hqs : qs = s1s k) (hqr : qr = r1s c)
    {oA oB : Fin 4 → ℕ} {inbA inbB} (hA : oA = ![0, (nx c k).val / 2, 0, 128 * ((nx c k).val % 2)]) (hB : oB = ![3, 0, 0, 0])
    {hsc} {hs : (sA_half oA inbA).view.WordExact} {hd : (sB_half oB inbB).view.WordExact}
    {ht : DmaTarget.Typed .vmem (.dma qr) (.remote (dev : Thread nD τ) (sB_half oB inbB) (.dma qs) hsc)}
    {f : PUnit → Prog (TpuEff nD τ sig (Elt F) Λ₀ .tc) α} {Q : α → sProp 𝕄} :
    iprop(records I K ∗ oweA c (3 + k.val) ∗ ptA c (src c k) (sh k) (kvbf I c) ∗ (∃ g, ptB (nx c k) (land c) fullShare g)
        ∗ dutyTok ER (dc c (s1s k)) 0 0 ∗ reached ER (dc c (s1s k)) 0 ∗ dutyTok ER (dc (nx c k) (r1s c)) 0 0 ∗ reached ER (dc (nx c k) (r1s c)) 0)
      ⊢ iprop((oweA c (3 + k.val + 1) ∗ cred (tallyAt (dc c (s1s k)) () (amt c (.dma (s1s k)))) -∗ wpc c (f ⟨⟩) Q)
        -∗ wpc c (.op (.enqueueDma (sA_half oA inbA) (.remote (dev : Thread nD τ) (sB_half oB inbB) (.dma qs) hsc) (.dma qr) hs hd ht) f) Q) := by
  subst hn hqs hqr hA hB
  have hN : n1 c = nHalf := if_neg (by omega)
  iintro ⟨#HR, ⟨%W, HO⟩, Hs, ⟨%g, Hd⟩, Ht1, Hr1, Ht2, Hr2⟩ Hk
  iapply (Rounds.wp_send_pointsTo 𝒱₀ ER (Rd I) (c : Thread nD τ) none (c' := (nx c k : Thread nD τ)) (src := sA_half _ inbA) (dst := sB_half _ inbB)
      (sS := .dma (s1s k)) (sem := .dma (r1s c)) (q := sh k) (fs := kvbf I c) (fd := g) (κ₁ := K (dc c (s1s k))) (κ₂ := K (dc (nx c k) (r1s c)))
      (r₁ := 0) (r₂ := 0) (d₁ := 0) (d₂ := 0)
      (by rw [duties_at, dut_s1]; exact Finset.mem_singleton_self _)
      (by rw [duties_at, dut_r1 _ _ (nx_ne c k).symm]; exact Finset.mem_singleton_self _)
      () () nHalf rfl ((amt_s1 c k).trans hN) ((amt_r1 (nx c k) c).trans hN) (O₀ := owed c (3 + k.val)) (owed c (3 + k.val + 1)) (hN ▸ owed_r1 c k) (W := W)
      (Entails.of_eq ((congrArg (fun S => ptA c S (sh k) (kvbf I c)) (src_lo c h k inbA)).trans (pay_s1 I c 0 k).symm))
      (Entails.of_eq (((congrArg (fun S => ptB (nx c k) S fullShare _) (dst_lo c h inbB)).trans
        (pointsTo_congr fun i hi => got_lo I c h k inbA inbB g i hi)).trans (pay_r1 I (nx c k) 0 c).symm))) $$ [HO Hs Hd Ht1 Hr1 Ht2 Hr2]
  · isplitr; · iapply (inv_dma I K c (s1s k) (by show 6 ≤ 6 + k.val; omega)); iexact HR
    isplitr; · iapply (inv_dma I K (nx c k) (r1s c) (by show 6 ≤ 9 + c.val; omega)); iexact HR
    isplitl [Hs]; · iapply (Entails.of_eq (congrArg (fun S => ptA c S (sh k) (kvbf I c)) (src_lo c h k inbA).symm)); iexact Hs
    isplitl [Hd]; · iapply (Entails.of_eq (congrArg (fun S => ptB (nx c k) S fullShare g) (dst_lo c h inbB).symm)); iexact Hd
    iframe HO Ht1 Hr1
    isplitl [Ht2] <;> iassumption
  iintro ⟨Hc, HO⟩
  iapply Hk
  isplitl [HO]; · iexists _; iexact HO
  rw [amt_s1, hN]
  iexact Hc

/-- The copy of head `j`'s context to the device `k + 1` after. -/
theorem step_send2 (k : Fin 3) (j : Fin 2) {dev : Dev nD} (hn : dev = nx c k) {qs qr : DmaSem sig} (hqs : qs = s2s k j) (hqr : qr = r2s c j)
    {o : Fin 4 → ℕ} {inb} (ho : o = ![c.val, j.val, 0, 0])
    {hsc} {hs : (sC o inb).view.WordExact} {hd : (sC o inb).view.WordExact}
    {ht : DmaTarget.Typed .vmem (.dma qr) (.remote (dev : Thread nD τ) (sC o inb) (.dma qs) hsc)}
    {f : PUnit → Prog (TpuEff nD τ sig (Elt F) Λ₀ .tc) α} {Q : α → sProp 𝕄} :
    iprop(records I K ∗ oweA c (6 + 3 * j.val + k.val) ∗ ptC c (cg c j) (sh k) (CG I) ∗ (∃ g, ptC (nx c k) (cg c j) fullShare g)
        ∗ dutyTok ER (dc c (s2s k j)) 0 0 ∗ reached ER (dc c (s2s k j)) 0 ∗ dutyTok ER (dc (nx c k) (r2s c j)) 0 0 ∗ reached ER (dc (nx c k) (r2s c j)) 0)
      ⊢ iprop((oweA c (6 + 3 * j.val + k.val + 1) ∗ cred (tallyAt (dc c (s2s k j)) () (amt c (.dma (s2s k j)))) -∗ wpc c (f ⟨⟩) Q)
        -∗ wpc c (.op (.enqueueDma (sC o inb) (.remote (dev : Thread nD τ) (sC o inb) (.dma qs) hsc) (.dma qr) hs hd ht) f) Q) := by
  subst hn hqs hqr ho
  iintro ⟨#HR, ⟨%W, HO⟩, Hs, ⟨%g, Hd⟩, Ht1, Hr1, Ht2, Hr2⟩ Hk
  iapply (Rounds.wp_send_pointsTo 𝒱₀ ER (Rd I) (c : Thread nD τ) none (c' := (nx c k : Thread nD τ)) (src := sC _ inb) (dst := sC _ inb)
      (sS := .dma (s2s k j)) (sem := .dma (r2s c j)) (q := sh k) (fs := CG I) (fd := g) (κ₁ := K (dc c (s2s k j))) (κ₂ := K (dc (nx c k) (r2s c j)))
      (r₁ := 0) (r₂ := 0) (d₁ := 0) (d₂ := 0)
      (by rw [duties_at, dut_s2]; exact Finset.mem_singleton_self _)
      (by rw [duties_at, dut_r2 _ _ _ (nx_ne c k).symm]; exact Finset.mem_singleton_self _)
      () () nC rfl (amt_s2 c k j) (amt_r2 (nx c k) c j) (owed c (6 + 3 * j.val + k.val + 1)) (owed_r2 c k j) (W := W)
      (Entails.of_eq ((congrArg (fun S => ptC c S (sh k) (CG I)) (sC_set c j inb)).trans (pay_s2 I c 0 k j).symm))
      (Entails.of_eq (((pointsTo_congr fun i hi => sC_land _ inb g (CG I) i hi).trans
        (congrArg (fun S => ptC (nx c k) S fullShare (CG I)) (sC_set c j inb))).trans (pay_r2 I (nx c k) 0 c j).symm))) $$ [HO Hs Hd Ht1 Hr1 Ht2 Hr2]
  · isplitr; · iapply (inv_dma I K c (s2s k j) (by show 6 ≤ 13 + (2 * k.val + j.val); omega)); iexact HR
    isplitr; · iapply (inv_dma I K (nx c k) (r2s c j) (by show 6 ≤ 19 + (2 * c.val + j.val); omega)); iexact HR
    isplitl [Hs]; · iapply (Entails.of_eq (congrArg (fun S => ptC c S (sh k) (CG I)) (sC_set c j inb).symm)); iexact Hs
    isplitl [Hd]; · iapply (Entails.of_eq (congrArg (fun S => ptC (nx c k) S fullShare g) (sC_set c j inb).symm)); iexact Hd
    iframe HO Ht1 Hr1
    isplitl [Ht2] <;> iassumption
  iintro ⟨Hc, HO⟩
  iapply Hk
  isplitl [HO]; · iexists _; iexact HO
  rw [amt_s2]
  iexact Hc

theorem close_cell (q : DmaSem sig) (h6 : 6 ≤ q.val) :
    iprop(records I K ∗ atPos ER (dc c q) (0 + 1) ∅ 0) ⊢ (|={Set.univ}=> semVal (dc c q) 0 : sProp 𝕄) := by
  iintro ⟨#HR, Hat⟩
  iapply (Rounds.cell_close ER (Rd I) (Set.mem_univ (K (dc c q))) id (duties_later I (dc c q)))
  isplitr; · iapply (inv_dma I K c q h6); iexact HR
  iexact Hat
theorem close_bar : iprop(records I K ∗ atPos ER (bar c) (0 + 1) ∅ 0) ⊢ (|={Set.univ}=> semVal (bar c) 0 : sProp 𝕄) := by
  iintro ⟨#HR, Hat⟩
  iapply (Rounds.cell_close ER (Rd I) (Set.mem_univ (K (bar c))) id (duties_later I (bar c)))
  isplitr; · iapply (inv_bar I K c); iexact HR
  iexact Hat
/-- A cell nobody pays is closed where it was opened. -/
theorem close_idle (q : DmaSem sig) (h6 : 6 ≤ q.val) (hd : dut c (.dma q) = ∅) :
    iprop(records I K ∗ atPos ER (dc c q) 0 ∅ 0) ⊢ (|={Set.univ}=> semVal (dc c q) 0 : sProp 𝕄) := by
  iintro ⟨#HR, Hat⟩
  iapply (Rounds.cell_close ER (Rd I) (Set.mem_univ (K (dc c q))) id (R := 0) (fun r _ => by
    by_cases hr : r = 0
    · rw [hr, duties_at, hd]
    · exact duties_later I (dc c q) r (by omega)))
  isplitr; · iapply (inv_dma I K c q h6); iexact HR
  iexact Hat

end Steps

end Cert.KernelIdeal.Talk

end
-- ==== Proof.Own.lean ====
/-
  Who holds which part of the three scratch buffers, and splitting and joining them.
-/
module

public import proofs.«01_k».proof.Proof.Steps

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Own
variable (I : Inp F) (c : Dev nD)

theorem cut_union {ℓ : Loc nD τ sig} {S T : Finset (Idx ℓ)} {q : PosShare TreeShare} {f : Buf (Elt F) ℓ} (h : Disjoint S T) :
    (ℓ ↦[S ∪ T]{q} f : sProp 𝕄) ⊣⊢ iprop((ℓ ↦[S]{q} f) ∗ ℓ ↦[T]{q} f) := pointsTo_union h
theorem cut_share {ℓ : Loc nD τ sig} {S : Finset (Idx ℓ)} (q : PosShare TreeShare) {f : Buf (Elt F) ℓ} :
    (ℓ ↦[S]{q} f : sProp 𝕄) ⊣⊢ iprop((ℓ ↦[S]{q.left} f) ∗ ℓ ↦[S]{q.right} f) := pointsTo_share (PosShare.mem_left_op_right q)
theorem cut_subset {ℓ : Loc nD τ sig} {S T : Finset (Idx ℓ)} {q : PosShare TreeShare} {f : Buf (Elt F) ℓ} (h : S ⊆ T) :
    (ℓ ↦[T]{q} f : sProp 𝕄) ⊣⊢ iprop((ℓ ↦[S]{q} f) ∗ ℓ ↦[T \ S]{q} f) := pointsTo_split_subset h

/-! ## The gathered keys and values -/

theorem mem_keep (i : S4x2x128x128.Idx) : i ∈ keep c ↔ (i 0).val = c.val ∨ ((i 0).val = 2 ∧ (i 2).val < 64) ∨ ((i 0).val = 3 ∧ 64 ≤ (i 2).val) := by
  rw [keep, Finset.mem_filter]; exact and_iff_right (Finset.mem_univ _)
theorem mem_land (i : S4x2x128x128.Idx) : i ∈ land c ↔ (i 0).val = c.val ∧ (c.val = 2 → 64 ≤ (i 2).val) ∧ (c.val = 3 → (i 2).val < 64) := by
  rw [land, Finset.mem_filter]; exact and_iff_right (Finset.mem_univ _)
theorem mem_cg (j : Fin 2) (i : S4x2x128x64.Idx) : i ∈ cg c j ↔ (i 0).val = c.val ∧ (i 1).val = j.val := by
  rw [cg, Finset.mem_filter]; exact and_iff_right (Finset.mem_univ _)
theorem mem_cg0 (i : S4x2x128x64.Idx) : i ∈ cg c 0 ↔ (i 0).val = c.val ∧ (i 1).val = 0 := mem_cg c 0 i
theorem mem_cg1 (i : S4x2x128x64.Idx) : i ∈ cg c 1 ↔ (i 0).val = c.val ∧ (i 1).val = 1 := mem_cg c 1 i
theorem univ_B : (Finset.univ : Finset S4x2x128x128.Idx) = keep c ∪ (land (nx c 0) ∪ (land (nx c 1) ∪ land (nx c 2))) := by
  ext i
  have h2 : (i 2).val < 128 := (i 2).isLt
  have h0 : (i 0).val < 4 := (i 0).isLt
  have hc : c.val < 4 := c.isLt
  have n0 : (nx c 0).val = (c.val + 1) % 4 := rfl
  have n1 : (nx c 1).val = (c.val + 2) % 4 := rfl
  have n2 : (nx c 2).val = (c.val + 3) % 4 := rfl
  simp only [mem_keep, mem_land, Finset.mem_univ, Finset.mem_union, true_iff]
  omega
theorem keep_land (k : Fin 3) : Disjoint (keep c) (land (nx c k)) := by
  rw [Finset.disjoint_left]
  intro i h1 h2
  have hn : (nx c k).val ≠ c.val := fun h => nx_ne c k (Fin.ext h)
  rw [keep, Finset.mem_filter] at h1
  rw [land, Finset.mem_filter] at h2
  have h1 := h1.2; have h2 := h2.2
  omega
theorem land_land (o o' : Dev nD) (h : o ≠ o') : Disjoint (land o) (land o') := by
  rw [Finset.disjoint_left]
  intro i h1 h2
  have hn : o.val ≠ o'.val := fun e => h (Fin.ext e)
  rw [land, Finset.mem_filter] at h1 h2
  have h1 := h1.2; have h2 := h2.2
  omega

/-- The gathered buffer: what a device keeps, and where the three others' copies land. -/
theorem open_B (f : S4x2x128x128.Idx → Elt F .bf16) :
    ptB c Finset.univ fullShare f ⊣⊢ iprop(ptB c (keep c) fullShare f ∗ ptB c (land (nx c 0)) fullShare f ∗ ptB c (land (nx c 1)) fullShare f
      ∗ ptB c (land (nx c 2)) fullShare f) := by
  have d12 := land_land _ _ (nx_inj c 1 2 (by decide))
  have d01 := land_land _ _ (nx_inj c 0 1 (by decide))
  have d02 := land_land _ _ (nx_inj c 0 2 (by decide))
  have e1 := cut_union (F := F) (ℓ := (Memref.whole cc0_scratch1 : Memref sig .tc .vmem S4x2x128x128 .bf16).view.loc (c : Thread nD τ)) (q := fullShare) (f := f) d12
  have e2 := cut_union (F := F) (ℓ := (Memref.whole cc0_scratch1 : Memref sig .tc .vmem S4x2x128x128 .bf16).view.loc (c : Thread nD τ)) (q := fullShare) (f := f)
    (Finset.disjoint_union_right.mpr ⟨d01, d02⟩)
  have e3 := cut_union (F := F) (ℓ := (Memref.whole cc0_scratch1 : Memref sig .tc .vmem S4x2x128x128 .bf16).view.loc (c : Thread nD τ)) (q := fullShare) (f := f)
    (Finset.disjoint_union_right.mpr ⟨keep_land c 0, Finset.disjoint_union_right.mpr ⟨keep_land c 1, keep_land c 2⟩⟩)
  refine ⟨?_, ?_⟩
  · iintro H
    ihave H' := (Entails.of_eq (congrArg (fun S => ptB c S fullShare f) (univ_B c))) $$ H
    ihave H' := e3.1 $$ H'
    icases H' with ⟨Hk, H'⟩
    ihave H' := e2.1 $$ H'
    icases H' with ⟨H0, H'⟩
    ihave H' := e1.1 $$ H'
    icases H' with ⟨H1, H2⟩
    iframe Hk H0 H1 H2
  · iintro ⟨Hk, H0, H1, H2⟩
    iapply (Entails.of_eq (congrArg (fun S => ptB c S fullShare f) (univ_B c).symm))
    iapply e3.2
    isplitl [Hk]; · iexact Hk
    iapply e2.2
    isplitl [H0]; · iexact H0
    iapply e1.2
    iframe H1 H2

/-! ## The contexts -/

theorem cg_disj (o o' : Dev nD) (j j' : Fin 2) (h : o ≠ o' ∨ j ≠ j') : Disjoint (cg o j) (cg o' j') := by
  rw [Finset.disjoint_left]
  intro i h1 h2
  rw [cg, Finset.mem_filter] at h1 h2
  have h1 := h1.2; have h2 := h2.2
  rcases h with h | h
  · exact h (Fin.ext (by omega))
  · exact h (Fin.ext (by omega))
/-- Both contexts of one device. -/
def both (o : Dev nD) : Finset S4x2x128x64.Idx := cg o 0 ∪ cg o 1
theorem both_disj (o o' : Dev nD) (h : o ≠ o') : Disjoint (both o) (both o') := by
  unfold both
  refine Finset.disjoint_union_left.mpr ⟨Finset.disjoint_union_right.mpr ⟨?_, ?_⟩, Finset.disjoint_union_right.mpr ⟨?_, ?_⟩⟩ <;> exact cg_disj _ _ _ _ (.inl h)
theorem univ_C : (Finset.univ : Finset S4x2x128x64.Idx) = both c ∪ (both (nx c 0) ∪ (both (nx c 1) ∪ both (nx c 2))) := by
  ext i
  have h1 : (i 1).val < 2 := (i 1).isLt
  have h0 : (i 0).val < 4 := (i 0).isLt
  have hc : c.val < 4 := c.isLt
  have n0 : (nx c 0).val = (c.val + 1) % 4 := rfl
  have n1 : (nx c 1).val = (c.val + 2) % 4 := rfl
  have n2 : (nx c 2).val = (c.val + 3) % 4 := rfl
  simp only [both, mem_cg0, mem_cg1, Finset.mem_univ, Finset.mem_union, true_iff]
  omega
theorem open_both (o : Dev nD) (q : PosShare TreeShare) (f : S4x2x128x64.Idx → Elt F .bf16) :
    ptC c (both o) q f ⊣⊢ iprop(ptC c (cg o 0) q f ∗ ptC c (cg o 1) q f) :=
  cut_union (F := F) (cg_disj o o 0 1 (.inr (by decide)))

/-- The contexts' buffer: the device's own two and the three others' two each. -/
theorem open_C (f : S4x2x128x64.Idx → Elt F .bf16) :
    ptC c Finset.univ fullShare f ⊣⊢ iprop((ptC c (cg c 0) fullShare f ∗ ptC c (cg c 1) fullShare f)
      ∗ (ptC c (cg (nx c 0) 0) fullShare f ∗ ptC c (cg (nx c 0) 1) fullShare f)
      ∗ (ptC c (cg (nx c 1) 0) fullShare f ∗ ptC c (cg (nx c 1) 1) fullShare f)
      ∗ (ptC c (cg (nx c 2) 0) fullShare f ∗ ptC c (cg (nx c 2) 1) fullShare f)) := by
  have d12 := both_disj _ _ (nx_inj c 1 2 (by decide))
  have d01 := both_disj _ _ (nx_inj c 0 1 (by decide))
  have d02 := both_disj _ _ (nx_inj c 0 2 (by decide))
  have dk := fun k => both_disj _ _ (nx_ne c k).symm
  have e1 := cut_union (F := F) (ℓ := (Memref.whole cc0_scratch2 : Memref sig .tc .vmem S4x2x128x64 .bf16).view.loc (c : Thread nD τ)) (q := fullShare) (f := f) d12
  have e2 := cut_union (F := F) (ℓ := (Memref.whole cc0_scratch2 : Memref sig .tc .vmem S4x2x128x64 .bf16).view.loc (c : Thread nD τ)) (q := fullShare) (f := f)
    (Finset.disjoint_union_right.mpr ⟨d01, d02⟩)
  have e3 := cut_union (F := F) (ℓ := (Memref.whole cc0_scratch2 : Memref sig .tc .vmem S4x2x128x64 .bf16).view.loc (c : Thread nD τ)) (q := fullShare) (f := f)
    (Finset.disjoint_union_right.mpr ⟨dk 0, Finset.disjoint_union_right.mpr ⟨dk 1, dk 2⟩⟩)
  refine ⟨?_, ?_⟩
  · iintro H
    ihave H' := (Entails.of_eq (congrArg (fun S => ptC c S fullShare f) (univ_C c))) $$ H
    ihave H' := e3.1 $$ H'
    icases H' with ⟨Hk, H'⟩
    ihave H' := e2.1 $$ H'
    icases H' with ⟨H0, H'⟩
    ihave H' := e1.1 $$ H'
    icases H' with ⟨H1, H2⟩
    isplitl [Hk]; · iapply (open_both c c fullShare f).1; iexact Hk
    isplitl [H0]; · iapply (open_both c (nx c 0) fullShare f).1; iexact H0
    isplitl [H1]; · iapply (open_both c (nx c 1) fullShare f).1; iexact H1
    iapply (open_both c (nx c 2) fullShare f).1; iexact H2
  · iintro ⟨Hk, H0, H1, H2⟩
    iapply (Entails.of_eq (congrArg (fun S => ptC c S fullShare f) (univ_C c).symm))
    iapply e3.2
    isplitl [Hk]; · iapply (open_both c c fullShare f).2; iexact Hk
    iapply e2.2
    isplitl [H0]; · iapply (open_both c (nx c 0) fullShare f).2; iexact H0
    iapply e1.2
    isplitl [H1]; · iapply (open_both c (nx c 1) fullShare f).2; iexact H1
    iapply (open_both c (nx c 2) fullShare f).2; iexact H2

/-! ## Shares -/

/-- Anything held in full: three shares to lend and one to keep. -/
theorem quarters {ℓ : Loc nD τ sig} (S : Finset (Idx ℓ)) (f : Buf (Elt F) ℓ) :
    (ℓ ↦[S]{fullShare} f : sProp 𝕄) ⊣⊢ iprop((ℓ ↦[S]{sh 0} f) ∗ (ℓ ↦[S]{sh 1} f) ∗ (ℓ ↦[S]{sh 2} f) ∗ ℓ ↦[S]{shk} f) := by
  have e := cut_share (F := F) (ℓ := ℓ) (S := S) (f := f) fullShare
  have el := cut_share (F := F) (ℓ := ℓ) (S := S) (f := f) fullShare.left
  have er := cut_share (F := F) (ℓ := ℓ) (S := S) (f := f) fullShare.right
  refine ⟨?_, ?_⟩
  · iintro H
    ihave H' := e.1 $$ H
    icases H' with ⟨Hl, Hr⟩
    ihave Hl' := el.1 $$ Hl
    icases Hl' with ⟨H0, H1⟩
    ihave Hr' := er.1 $$ Hr
    icases Hr' with ⟨H2, H3⟩
    iframe H0 H1 H2 H3
  · iintro ⟨H0, H1, H2, H3⟩
    iapply e.2
    isplitl [H0 H1]
    · iapply el.2
      iframe H0 H1
    · iapply er.2
      iframe H2 H3

/-- What stays behind of the packed keys and values while the three copies are under way. -/
def restA : sProp 𝕄 :=
  iprop(ptA c (Finset.univ \ src c 0) (sh 0) (kvbf I c) ∗ ptA c (Finset.univ \ src c 1) (sh 1) (kvbf I c) ∗ ptA c (Finset.univ \ src c 2) (sh 2) (kvbf I c))

/-- The packed keys and values: what the three copies read, the rest, and a share to read them oneself. -/
theorem open_A : ptA c Finset.univ fullShare (kvbf I c)
    ⊣⊢ iprop(ptA c (src c 0) (sh 0) (kvbf I c) ∗ ptA c (src c 1) (sh 1) (kvbf I c) ∗ ptA c (src c 2) (sh 2) (kvbf I c) ∗ restA I c
      ∗ ptA c Finset.univ shk (kvbf I c)) := by
  have e := fun k => cut_subset (F := F) (ℓ := (Memref.whole cc0_scratch0 : Memref sig .tc .vmem S2x2x128x256 .bf16).view.loc (c : Thread nD τ)) (q := sh k) (f := kvbf I c)
    (Finset.subset_univ (src c k))
  unfold restA
  refine ⟨?_, ?_⟩
  · iintro H
    ihave H' := (quarters Finset.univ (kvbf I c)).1 $$ H
    icases H' with ⟨H0, H1, H2, Hk⟩
    ihave H0 := (e 0).1 $$ H0
    icases H0 with ⟨H0, R0⟩
    ihave H1 := (e 1).1 $$ H1
    icases H1 with ⟨H1, R1⟩
    ihave H2 := (e 2).1 $$ H2
    icases H2 with ⟨H2, R2⟩
    iframe H0 H1 H2
    isplitl [R0 R1 R2]
    · isplitl [R0]; · iexact R0
      iframe R1 R2
    · iexact Hk
  · iintro ⟨H0, H1, H2, ⟨R0, R1, R2⟩, Hk⟩
    iapply (quarters Finset.univ (kvbf I c)).2
    isplitl [H0 R0]
    · iapply (e 0).2; isplitl [H0]; · iexact H0
      iexact R0
    isplitl [H1 R1]
    · iapply (e 1).2; isplitl [H1]; · iexact H1
      iexact R1
    isplitl [H2 R2]
    · iapply (e 2).2; isplitl [H2]; · iexact H2
      iexact R2
    iexact Hk

end Own

end Cert.KernelIdeal.Talk
end
-- ==== Proof.Body1.lean ====
/-
  The first half of the run: the signals, packing, the barrier, and the copies of keys and values.
-/
module

public import proofs.«01_k».proof.Proof.Own

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Run
variable (I : Inp F) (K : GSem nD τ sig → ℕ) (c : Dev nD)

/-! ## What a device holds of the staged inputs -/

abbrev pt0 (f : S256x512.Idx → Elt F .f32) : sProp 𝕄 := (Memref.whole cc0_stg0_0 : Memref sig .tc .vmem S256x512 .f32).view.loc (c : Thread nD τ) ↦[Finset.univ]{fullShare} f
abbrev pt1 (f : S512x256.Idx → Elt F .f32) : sProp 𝕄 := (Memref.whole cc0_stg1_0 : Memref sig .tc .vmem S512x256 .f32).view.loc (c : Thread nD τ) ↦[Finset.univ]{fullShare} f
abbrev pt2 (f : S2x128x256.Idx → Elt F .f32) : sProp 𝕄 := (Memref.whole cc0_stg2_0 : Memref sig .tc .vmem S2x128x256 .f32).view.loc (c : Thread nD τ) ↦[Finset.univ]{fullShare} f
abbrev pt3 (f : S2x128x256.Idx → Elt F .f32) : sProp 𝕄 := (Memref.whole cc0_stg3_0 : Memref sig .tc .vmem S2x128x256 .f32).view.loc (c : Thread nD τ) ↦[Finset.univ]{fullShare} f
abbrev pt4 (f : S256x512.Idx → Elt F .f32) : sProp 𝕄 := (Memref.whole cc0_stg4_0 : Memref sig .tc .vmem S256x512 .f32).view.loc (c : Thread nD τ) ↦[Finset.univ]{fullShare} f
abbrev pt5 (f : S256x512.Idx → Elt F .f32) : sProp 𝕄 := (Memref.whole cc0_stg5_0 : Memref sig .tc .vmem S256x512 .f32).view.loc (c : Thread nD τ) ↦[Finset.univ]{fullShare} f

/-! ## The copies of keys and values, before and after they start -/

/-- All that one copy of keys and values needs besides the debt it pays. -/
def ready1 (k : Fin 3) : sProp 𝕄 :=
  iprop(ptA c (src c k) (sh k) (kvbf I c) ∗ (∃ g, ptB (nx c k) (land c) fullShare g)
    ∗ dutyTok ER (dc c (s1s k)) 0 0 ∗ reached ER (dc c (s1s k)) 0 ∗ dutyTok ER (dc (nx c k) (r1s c)) 0 0 ∗ reached ER (dc (nx c k) (r1s c)) 0)
/-- What the device learns of a copy it started: its own counter will rise. -/
def sent1 (k : Fin 3) : sProp 𝕄 := cred (tallyAt (dc c (s1s k)) () (amt c (.dma (s1s k))))

theorem r1_big (h : c.val < 2) : ((cc0_scratch4.slice (Rect.unit (s := S4) (k0_off1 c) S1.size (k0_off1_inb c ((cond1_iff c).mpr h)))).squeeze S_ squeezes_S1_S_).sem = r1s c := by
  revert c; decide +kernel
theorem r1_up (h : c.val = 2) : ((cc0_scratch4.slice (Rect.unit (s := S4) ![2] S1.size inb_S4_S1_2)).squeeze S_ squeezes_S1_S_).sem = r1s c := by
  obtain rfl : c = 2 := Fin.ext h
  decide +kernel
theorem r1_lo (h : c.val = 3) : ((cc0_scratch4.slice (Rect.unit (s := S4) ![3] S1.size inb_S4_S1_3)).squeeze S_ squeezes_S1_S_).sem = r1s c := by
  obtain rfl : c = 3 := Fin.ext h
  decide +kernel

theorem ret_run {α : Type} {a : α} {Q : α → sProp 𝕄} : Q a ⊢ wpc c (Prog.ret a) Q := by
  refine BIBase.Entails.trans ?_ (Entails.of_eq (wp_ret ..).symm)
  iintro H
  imodintro
  iexact H
theorem rebase (n m : ℕ) (h : n = m) : (oweA c n : sProp 𝕄) ⊢ oweA c m := Entails.of_eq (by rw [h])

/-! ## The stretches of the program that only compute words -/

theorem part1_run (v2 : BitVec 32) {Q : (Σ' (v800 : BitVec 32), BitVec 32) → sProp 𝕄} : iprop(∀ v, Q v) ⊢ wpc c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part1_eq_skeleton]; unfold k0_part1_skel
  simp only [Prog.lift, Prog.bind_op, Prog.bind_ret, Prog.pure_eq_ret, wp_ret]
  iintro H
  imodintro
  iapply H

theorem part2_run (v2 : BitVec 32) (v828 : BitVec 32) {Q : (Σ' (v840 : BitVec 32), BitVec 32) → sProp 𝕄} : iprop(∀ v, Q v) ⊢ wpc c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part2_eq_skeleton]; unfold k0_part2_skel
  simp only [Prog.lift, Prog.bind_op, Prog.bind_ret, Prog.pure_eq_ret, wp_ret]
  iintro H
  imodintro
  iapply H

theorem part3_run (v2 : BitVec 32) (v867 : BitVec 32) {Q : (Σ' (v880 : BitVec 32) (v899 : BitVec 32) (v900 : BitVec 32), BitVec 1) → sProp 𝕄} : iprop(∀ v, Q v) ⊢ wpc c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part3_eq_skeleton]; unfold k0_part3_skel
  simp only [Prog.lift, Prog.bind_op, Prog.bind_ret, Prog.pure_eq_ret, wp_ret]
  iintro H
  imodintro
  iapply H

theorem part5_run (v2 : BitVec 32) {Q : (Σ' (v800 : BitVec 32), BitVec 32) → sProp 𝕄} : iprop(∀ v, Q v) ⊢ wpc c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part5_eq_skeleton]; unfold k0_part5_skel
  simp only [Prog.lift, Prog.bind_op, Prog.bind_ret, Prog.pure_eq_ret, wp_ret]
  iintro H
  imodintro
  iapply H

theorem part6_run (v2 : BitVec 32) (v828 : BitVec 32) {Q : (Σ' (v840 : BitVec 32), BitVec 32) → sProp 𝕄} : iprop(∀ v, Q v) ⊢ wpc c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part6_eq_skeleton]; unfold k0_part6_skel
  simp only [Prog.lift, Prog.bind_op, Prog.bind_ret, Prog.pure_eq_ret, wp_ret]
  iintro H
  imodintro
  iapply H

theorem part7_run (v2 : BitVec 32) (v867 : BitVec 32) {Q : (Σ' (v880 : BitVec 32) (v899 : BitVec 32) (v900 : BitVec 32), BitVec 1) → sProp 𝕄} : iprop(∀ v, Q v) ⊢ wpc c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part7_eq_skeleton]; unfold k0_part7_skel
  simp only [Prog.lift, Prog.bind_op, Prog.bind_ret, Prog.pure_eq_ret, wp_ret]
  iintro H
  imodintro
  iapply H

theorem part9_run (v2 : BitVec 32) {Q : (Σ' (v800 : BitVec 32), BitVec 32) → sProp 𝕄} : iprop(∀ v, Q v) ⊢ wpc c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part9_eq_skeleton]; unfold k0_part9_skel
  simp only [Prog.lift, Prog.bind_op, Prog.bind_ret, Prog.pure_eq_ret, wp_ret]
  iintro H
  imodintro
  iapply H

theorem part10_run (v2 : BitVec 32) (v828 : BitVec 32) {Q : (Σ' (v840 : BitVec 32), BitVec 32) → sProp 𝕄} : iprop(∀ v, Q v) ⊢ wpc c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part10_eq_skeleton]; unfold k0_part10_skel
  simp only [Prog.lift, Prog.bind_op, Prog.bind_ret, Prog.pure_eq_ret, wp_ret]
  iintro H
  imodintro
  iapply H

theorem part11_run (v2 : BitVec 32) (v867 : BitVec 32) {Q : (Σ' (v880 : BitVec 32) (v899 : BitVec 32) (v900 : BitVec 32), BitVec 1) → sProp 𝕄} : iprop(∀ v, Q v) ⊢ wpc c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part11_eq_skeleton]; unfold k0_part11_skel
  simp only [Prog.lift, Prog.bind_op, Prog.bind_ret, Prog.pure_eq_ret, wp_ret]
  iintro H
  imodintro
  iapply H

/-! ## The first two copies of keys and values, by branch -/

theorem part4_run (k0_h1 : k0_cond1 c = 1#1) (v800 : BitVec 32) (v840 : BitVec 32) (v880 : BitVec 32) (v899 : BitVec 32) (v900 : BitVec 32) (v905 : BitVec 1) (h : c.val < 2) {Q : PUnit → sProp 𝕄} :
    iprop(records I K ∗ oweA c 3 ∗ ready1 I c 0 ∗ ready1 I c 1 ∗ (oweA c 5 ∗ sent1 (F := F) c 0 ∗ sent1 (F := F) c 1 -∗ Q ⟨⟩))
      ⊢ wpc c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c k0_h1 v800 v840 v880 v899 v900 v905) Q := by
  rw [k0_part4_eq_skeleton]; unfold k0_part4_skel
  simp only [Prog.lift, Prog.bind_op, Prog.bind_ret, Prog.pure_eq_ret]
  unfold ready1 sent1
  iintro ⟨#HR, HO, ⟨Ha0, Hb0, Hc0, Hd0, He0, Hf0⟩, ⟨Ha1, Hb1, Hc1, Hd1, He1, Hf1⟩, Hk⟩
  iapply (step_send1_lo01 I K c h 0 (dev_big c k0_h1).1 (by decide) (r1_big c h) (off3_eq c h 0) (k0_off2_eq c)) $$ [HO Ha0 Hb0 Hc0 Hd0 He0 Hf0]
  · isplitr; · iexact HR
    iframe HO Ha0 Hb0 Hc0 Hd0 He0 Hf0
  iintro ⟨HO, Hs0⟩
  iapply (step_send1_lo01 I K c h 1 (dev_big c k0_h1).2.1 (by decide) (r1_big c h) (off3_eq c h 1) (k0_off2_eq c)) $$ [HO Ha1 Hb1 Hc1 Hd1 He1 Hf1]
  · isplitr; · iexact HR
    iframe HO Ha1 Hb1 Hc1 Hd1 He1 Hf1
  iintro ⟨HO, Hs1⟩
  iapply ret_run
  iapply Hk
  iframe HO Hs0 Hs1

theorem part8_run (k0_h2 : k0_cond2 c = 1#1) (v800 : BitVec 32) (v840 : BitVec 32) (v880 : BitVec 32) (v899 : BitVec 32) (v900 : BitVec 32) (v905 : BitVec 1) (h : c.val = 2) {Q : PUnit → sProp 𝕄} :
    iprop(records I K ∗ oweA c 3 ∗ ready1 I c 0 ∗ ready1 I c 1 ∗ (oweA c 5 ∗ sent1 (F := F) c 0 ∗ sent1 (F := F) c 1 -∗ Q ⟨⟩))
      ⊢ wpc c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c k0_h2 v800 v840 v880 v899 v900 v905) Q := by
  rw [k0_part8_eq_skeleton]; unfold k0_part8_skel
  simp only [Prog.lift, Prog.bind_op, Prog.bind_ret, Prog.pure_eq_ret]
  unfold ready1 sent1
  iintro ⟨#HR, HO, ⟨Ha0, Hb0, Hc0, Hd0, He0, Hf0⟩, ⟨Ha1, Hb1, Hc1, Hd1, He1, Hf1⟩, Hk⟩
  iapply (step_send1_up I K c h 0 (dev_up c k0_h2).1 (by decide) (r1_up c h) (off4_eq c h 0) rfl) $$ [HO Ha0 Hb0 Hc0 Hd0 He0 Hf0]
  · isplitr; · iexact HR
    iframe HO Ha0 Hb0 Hc0 Hd0 He0 Hf0
  iintro ⟨HO, Hs0⟩
  iapply (step_send1_up I K c h 1 (dev_up c k0_h2).2.1 (by decide) (r1_up c h) (off4_eq c h 1) rfl) $$ [HO Ha1 Hb1 Hc1 Hd1 He1 Hf1]
  · isplitr; · iexact HR
    iframe HO Ha1 Hb1 Hc1 Hd1 He1 Hf1
  iintro ⟨HO, Hs1⟩
  iapply ret_run
  iapply Hk
  iframe HO Hs0 Hs1

theorem part12_run (k0_h3 : k0_cond3 c = 1#1) (v800 : BitVec 32) (v840 : BitVec 32) (v880 : BitVec 32) (v899 : BitVec 32) (v900 : BitVec 32) (v905 : BitVec 1) (h : c.val = 3) {Q : PUnit → sProp 𝕄} :
    iprop(records I K ∗ oweA c 3 ∗ ready1 I c 0 ∗ ready1 I c 1 ∗ (oweA c 5 ∗ sent1 (F := F) c 0 ∗ sent1 (F := F) c 1 -∗ Q ⟨⟩))
      ⊢ wpc c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c k0_h3 v800 v840 v880 v899 v900 v905) Q := by
  rw [k0_part12_eq_skeleton]; unfold k0_part12_skel
  simp only [Prog.lift, Prog.bind_op, Prog.bind_ret, Prog.pure_eq_ret]
  unfold ready1 sent1
  iintro ⟨#HR, HO, ⟨Ha0, Hb0, Hc0, Hd0, He0, Hf0⟩, ⟨Ha1, Hb1, Hc1, Hd1, He1, Hf1⟩, Hk⟩
  iapply (step_send1_lo I K c h 0 (dev_lo c k0_h3).1 (by decide) (r1_lo c h) (off5_eq c h 0) rfl) $$ [HO Ha0 Hb0 Hc0 Hd0 He0 Hf0]
  · isplitr; · iexact HR
    iframe HO Ha0 Hb0 Hc0 Hd0 He0 Hf0
  iintro ⟨HO, Hs0⟩
  iapply (step_send1_lo I K c h 1 (dev_lo c k0_h3).2.1 (by decide) (r1_lo c h) (off5_eq c h 1) rfl) $$ [HO Ha1 Hb1 Hc1 Hd1 He1 Hf1]
  · isplitr; · iexact HR
    iframe HO Ha1 Hb1 Hc1 Hd1 He1 Hf1
  iintro ⟨HO, Hs1⟩
  iapply ret_run
  iapply Hk
  iframe HO Hs0 Hs1

/-! ## The signals -/

theorem part23_run (v2 : BitVec 32) (v34 : BitVec 32) (v35 : BitVec 32) (v36 : BitVec 1) (c0_i32_17 : BitVec 32) {Q : (PUnit) → sProp 𝕄} :
    iprop(records I K ∗ oweA c 0 ∗ (dutyTok ER (bar (nx c 0)) 0 c ∗ barPay (nx c 0) c) ∗ (dutyTok ER (bar (nx c 1)) 0 c ∗ barPay (nx c 1) c) ∗ (oweA c 2 -∗ Q ⟨⟩))
      ⊢ wpc c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl)) v34 v35 v36 c0_i32_17) Q := by
  rw [k0_part23_eq_skeleton]; unfold k0_part23_skel
  simp only [semSignalWord, semWaitWord, Prog.lift, Prog.bind_op, Prog.bind_ret, Prog.pure_eq_ret]
  iintro ⟨#HR, HO, ⟨Ht0, Hp0⟩, ⟨Ht1, Hp1⟩, Hk⟩
  iapply (step_signal I K c 0 (dev_bar c).1 rfl) $$ [HO Ht0 Hp0]
  · isplitr; · iexact HR
    iframe HO Ht0 Hp0
  iintro HO
  iapply (step_signal I K c 1 (dev_bar c).2.1 rfl) $$ [HO Ht1 Hp1]
  · isplitr; · iexact HR
    iframe HO Ht1 Hp1
  iintro HO
  iapply ret_run
  iapply Hk; iexact HO

/-! ## Packing, the barrier, and the copies -/

def toks1 (k : Fin 3) : sProp 𝕄 :=
  iprop(dutyTok ER (dc c (s1s k)) 0 0 ∗ reached ER (dc c (s1s k)) 0 ∗ dutyTok ER (dc (nx c k) (r1s c)) 0 0)
/-- Where another device's contexts may be written, and that its counters have not moved. -/
def place2 (k : Fin 3) : sProp 𝕄 :=
  iprop((∃ f, ptC (F := F) (nx c k) (cg c 0) fullShare f) ∗ (∃ f, ptC (F := F) (nx c k) (cg c 1) fullShare f) ∗ reached ER (dc (nx c k) (r2s c 0)) 0 ∗ reached ER (dc (nx c k) (r2s c 1)) 0)
/-- A device's copies once its branch has been passed. -/
def allSent : sProp 𝕄 := iprop(oweA c 6 ∗ sent1 (F := F) c 0 ∗ sent1 (F := F) c 1 ∗ sent1 (F := F) c 2)
def allReady : sProp 𝕄 := iprop(oweA c 3 ∗ ready1 I c 0 ∗ ready1 I c 1 ∗ ready1 I c 2)
/-- The gathered buffer with the two constant stores made. -/
abbrev stB (f : S4x2x128x128.Idx → Elt F .bf16) : S4x2x128x128.Idx → Elt F .bf16 :=
  (mB.access (Rect.unit (s := S4x2x128x128) ![3, 0, 64, 0] S1x2x64x128.size inb_S4x2x128x128_S1x2x64x128_3_0_64_0)).write (Elt F)
    ((mB.access (Rect.unit (s := S4x2x128x128) ![2, 0, 0, 0] S1x2x64x128.size inb_S4x2x128x128_S1x2x64x128_2_0_0_0)).write (Elt F) f
      (k0_pay3 (F := F)) Finset.univ) (k0_pay4 (F := F)) Finset.univ

theorem rd2 (f : S2x128x256.Idx → Elt F .f32) :
    ((Memref.whole cc0_stg2_0 : Memref sig .tc .vmem S2x128x256 .f32).access (Rect.unit (s := S2x128x256) ![0, 0, 0] S2x128x256.size inb_S2x128x256_S2x128x256_0_0_0)).read (Elt F) f = f := by
  funext j
  refine congrArg f ?_
  funext a; apply Fin.ext
  show (![0, 0, 0] : Fin 3 → ℕ) a + 1 * (j a).val = (j a).val
  fin_cases a <;> simp
theorem rd3 (f : S2x128x256.Idx → Elt F .f32) :
    ((Memref.whole cc0_stg3_0 : Memref sig .tc .vmem S2x128x256 .f32).access (Rect.unit (s := S2x128x256) ![0, 0, 0] S2x128x256.size inb_S2x128x256_S2x128x256_0_0_0)).read (Elt F) f = f := by
  funext j
  refine congrArg f ?_
  funext a; apply Fin.ext
  show (![0, 0, 0] : Fin 3 → ℕ) a + 1 * (j a).val = (j a).val
  fin_cases a <;> simp
theorem packed (f : S2x2x128x256.Idx → Elt F .bf16) :
    (mA.access (Rect.unit (s := S2x2x128x256) ![1, 0, 0, 0] S1x2x128x256.size inb_S2x2x128x256_S1x2x128x256_1_0_0_0)).write (Elt F)
      ((mA.access (Rect.unit (s := S2x2x128x256) ![0, 0, 0, 0] S1x2x128x256.size inb_S2x2x128x256_S1x2x128x256_0_0_0_0)).write (Elt F) f
        (k0_pay1 (((Memref.whole cc0_stg2_0 : Memref sig .tc .vmem S2x128x256 .f32).access (Rect.unit (s := S2x128x256) ![0, 0, 0] S2x128x256.size inb_S2x128x256_S2x128x256_0_0_0)).read (Elt F) (I.k c))) Finset.univ)
      (k0_pay2 (((Memref.whole cc0_stg3_0 : Memref sig .tc .vmem S2x128x256 .f32).access (Rect.unit (s := S2x128x256) ![0, 0, 0] S2x128x256.size inb_S2x128x256_S2x128x256_0_0_0)).read (Elt F) (I.v c))) Finset.univ = kvbf I c := by
  rw [rd2, rd3]; exact kvbf_eq I c f

theorem accB_sub {off size : Fin 4 → ℕ} {inb : ∀ a, off a + size a ≤ S4x2x128x128.size a} {S : Finset S4x2x128x128.Idx}
    (h : ∀ i : S4x2x128x128.Idx, (∀ a : Fin 4, off a ≤ (i a).val ∧ (i a).val < off a + size a) → i ∈ S) :
    (mB.access (Rect.unit (s := S4x2x128x128) off size inb)).setOn Finset.univ ⊆ S := fun i hi => by
  have e : (mB.access (Rect.unit (s := S4x2x128x128) off size inb)).setOn Finset.univ = (Rect.unit (s := S4x2x128x128) off size inb).set :=
    View.set_slice_whole _ _
  exact h i ((mem_rect (s := S4x2x128x128) off size inb i).mp (e ▸ hi))
theorem keep_up {inb} : (mB.access (Rect.unit (s := S4x2x128x128) ![2, 0, 0, 0] S1x2x64x128.size inb)).setOn Finset.univ ⊆ keep c := accB_sub fun i h => by
  have h0 : 2 ≤ (i 0).val ∧ (i 0).val < 2 + 1 := h 0
  have h2 : 0 ≤ (i 2).val ∧ (i 2).val < 0 + 64 := h 2
  rw [mem_keep]; omega
theorem keep_lo {inb} : (mB.access (Rect.unit (s := S4x2x128x128) ![3, 0, 64, 0] S1x2x64x128.size inb)).setOn Finset.univ ⊆ keep c := accB_sub fun i h => by
  have h0 : 3 ≤ (i 0).val ∧ (i 0).val < 3 + 1 := h 0
  have h2 : 64 ≤ (i 2).val ∧ (i 2).val < 64 + 64 := h 2
  rw [mem_keep]; omega
theorem keep_own {inb} : (mB.access (Rect.unit (s := S4x2x128x128) (k0_off7 c) S1x2x128x128.size inb)).setOn Finset.univ ⊆ keep c := accB_sub fun i h => by
  have h0 := h 0
  rw [k0_off7_eq c] at h0
  have h0 : c.val ≤ (i 0).val ∧ (i 0).val < c.val + 1 := h0
  rw [mem_keep]; omega

theorem part24_run (v2 : BitVec 32)  {Q : (BitVec 1) → sProp 𝕄} :
    iprop(records I K ∗ levAts L lv ∗ cred (tallyAt (bar c) () 3) ∗ atPos ER (bar c) 0 ∅ 0 ∗ oweA c 2 ∗ (dutyTok ER (bar (nx c 2)) 0 c ∗ barPay (nx c 2) c) ∗ pt2 c (I.k c) ∗ pt3 c (I.v c) ∗ (∃ f, ptA c Finset.univ fullShare f) ∗ (∃ f, ptB c (keep c) fullShare f)
      ∗ toks1 (F := F) c 0 ∗ toks1 (F := F) c 1 ∗ toks1 (F := F) c 2
      ∗ (∀ v, (if c.val < 2 then allSent (F := F) c else allReady I c) ∗ place2 (F := F) c 0 ∗ place2 (F := F) c 1 ∗ place2 (F := F) c 2 ∗ atPos ER (bar c) (0 + 1) ∅ 0 ∗ pt2 c (I.k c) ∗ pt3 c (I.v c) ∗ restA I c ∗ ptA c Finset.univ shk (kvbf I c) ∗ (∃ f, ptB c (keep c) fullShare (stB f)) -∗ Q v))
      ⊢ wpc c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 (SemArray.scalar (sig.barrier 0 rfl))) Q := by
  rw [k0_part24_eq_skeleton]; unfold k0_part24_skel
  simp only [semSignalWord, semWaitWord, Prog.lift, Prog.bind_op, Prog.bind_ret, Prog.pure_eq_ret]
  iintro ⟨#HR, #HL, Hcr, Hat, HO, ⟨Ht0, Hp0⟩, H2, H3, ⟨%fA, HA⟩, ⟨%fB, HB⟩, HT0, HT1, HT2, Hk⟩
  iapply (step_signal I K c 2 (dev_bar c).2.2 rfl) $$ [HO Ht0 Hp0]
  · isplitr; · iexact HR
    iframe HO Ht0 Hp0
  iintro HO
  iapply (wp_load_rect 𝒱₀ (c : Thread nD τ) none Set.univ (Finset.subset_univ _)) $$ [H2]
  · iexact H2
  iintro H2
  iapply (wp_load_rect 𝒱₀ (c : Thread nD τ) none Set.univ (Finset.subset_univ _)) $$ [HA]
  · iexact HA
  iintro HA
  iapply (wp_store 𝒱₀ (c : Thread nD τ) none Set.univ (Finset.subset_univ _)) $$ [HA]
  · iexact HA
  iintro HA
  iapply (wp_load_rect 𝒱₀ (c : Thread nD τ) none Set.univ (Finset.subset_univ _)) $$ [H3]
  · iexact H3
  iintro H3
  iapply (wp_load_rect 𝒱₀ (c : Thread nD τ) none Set.univ (Finset.subset_univ _)) $$ [HA]
  · iexact HA
  iintro HA
  iapply (wp_store 𝒱₀ (c : Thread nD τ) none Set.univ (Finset.subset_univ _)) $$ [HA]
  · iexact HA
  iintro HA
  ihave HA := (Entails.of_eq (congrArg (ptA c Finset.univ fullShare) (packed I c fA))) $$ HA
  iapply (wp_load_rect 𝒱₀ (c : Thread nD τ) none Set.univ (keep_up c)) $$ [HB]
  · iexact HB
  iintro HB
  iapply (wp_store 𝒱₀ (c : Thread nD τ) none Set.univ (keep_up c)) $$ [HB]
  · iexact HB
  iintro HB
  iapply (wp_load_rect 𝒱₀ (c : Thread nD τ) none Set.univ (keep_lo c)) $$ [HB]
  · iexact HB
  iintro HB
  iapply (wp_store 𝒱₀ (c : Thread nD τ) none Set.univ (keep_lo c)) $$ [HB]
  · iexact HB
  iintro HB
  iapply (step_barrier I K c rfl) $$ [Hcr HO Hat]
  · isplitr; · iexact HR
    isplitr; · iexact HL
    iframe Hcr HO Hat
  iintro ⟨HO, Hat, Hq0, Hq1, Hq2⟩
  unfold barPay
  icases Hq0 with ⟨Hb0, Hx0, Hy0, Hr0, Hu0, Hv0⟩
  icases Hq1 with ⟨Hb1, Hx1, Hy1, Hr1, Hu1, Hv1⟩
  icases Hq2 with ⟨Hb2, Hx2, Hy2, Hr2, Hu2, Hv2⟩
  ihave HA := (open_A I c).1 $$ HA
  icases HA with ⟨Ha0, Ha1, Ha2, Hrest, HA⟩
  unfold toks1
  icases HT0 with ⟨Ht0a, Ht0b, Ht0c⟩
  ihave HA0 : ready1 I c 0 $$ [Ha0 Hb0 Ht0a Ht0b Ht0c Hr0]
  · unfold ready1
    iframe Ha0 Hb0 Ht0a Ht0b Ht0c Hr0
  icases HT1 with ⟨Ht1a, Ht1b, Ht1c⟩
  ihave HA1 : ready1 I c 1 $$ [Ha1 Hb1 Ht1a Ht1b Ht1c Hr1]
  · unfold ready1
    iframe Ha1 Hb1 Ht1a Ht1b Ht1c Hr1
  icases HT2 with ⟨Ht2a, Ht2b, Ht2c⟩
  ihave HA2 : ready1 I c 2 $$ [Ha2 Hb2 Ht2a Ht2b Ht2c Hr2]
  · unfold ready1
    iframe Ha2 Hb2 Ht2a Ht2b Ht2c Hr2
  ihave HP0 : place2 (F := F) c 0 $$ [Hx0 Hy0 Hu0 Hv0]
  · unfold place2
    iframe Hx0 Hy0 Hu0 Hv0
  ihave HP1 : place2 (F := F) c 1 $$ [Hx1 Hy1 Hu1 Hv1]
  · unfold place2
    iframe Hx1 Hy1 Hu1 Hv1
  ihave HP2 : place2 (F := F) c 2 $$ [Hx2 Hy2 Hu2 Hv2]
  · unfold place2
    iframe Hx2 Hy2 Hu2 Hv2
  by_cases h : c.val < 2
  · rw [dif_pos ((cond1_iff c).mpr h), if_pos h]
    simp only [Prog.bind_op, Prog.bind_ret, wp_bind]
    iapply part1_run; iintro %v1
    obtain ⟨_, _⟩ := v1
    iapply part2_run; iintro %v2
    obtain ⟨_, _⟩ := v2
    iapply part3_run; iintro %v3
    obtain ⟨_, _, _, _⟩ := v3
    iapply (part4_run I K c _ _ _ _ _ _ _ h)
    isplitr; · iexact HR
    iframe HO HA0 HA1
    iintro ⟨HO, Hs0, Hs1⟩
    unfold ready1
    icases HA2 with ⟨Ha, Hb, Hc, Hd, He, Hf⟩
    iapply (step_send1_lo01 I K c h 2 (dev_big c ((cond1_iff c).mpr h)).2.2 (by decide) (r1_big c h) (off3_eq c h 2) (k0_off2_eq c)) $$ [HO Ha Hb Hc Hd He Hf]
    · isplitr; · iexact HR
      iframe HO Ha Hb Hc Hd He Hf
    iintro ⟨HO, Hs2⟩
    iapply ret_run
    iapply Hk
    isplitl [HO Hs0 Hs1 Hs2]
    · unfold allSent sent1
      iframe HO Hs0 Hs1 Hs2
    iframe HP0 HP1 HP2 Hat H2 H3 Hrest HA
    iexists fB; iexact HB
  · rw [dif_neg (fun e => h ((cond1_iff c).mp e)), if_neg h]
    iapply ret_run
    iapply Hk
    isplitl [HO HA0 HA1 HA2]
    · unfold allReady
      iframe HO HA0 HA1 HA2
    iframe HP0 HP1 HP2 Hat H2 H3 Hrest HA
    iexists fB; iexact HB

end Run

end Cert.KernelIdeal.Talk
end
-- ==== Proof.Body2.lean ====
/-
  The half-blocks' copies, the own rows, and the query.
-/
module

public import proofs.«01_k».proof.Proof.Body1

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Run
variable (I : Inp F) (K : GSem nD τ sig → ℕ) (c : Dev nD)

/-- The query, as the program reads its operands. -/
abbrev qvr : FVec F S128x128 .bf16 :=
  k0_pay6 (((Memref.whole cc0_stg0_0 : Memref sig .tc .vmem S256x512 .f32).access (Rect.unit (s := S256x512) (k0_off8 c) S128x512.size (k0_off8_inb c))).read (Elt F) (I.x c))
    (((Memref.whole cc0_stg1_0 : Memref sig .tc .vmem S512x256 .f32).access (Rect.unit (s := S512x256) (k0_off9 c) S512x128.size (k0_off9_inb c))).read (Elt F) (I.wq c))
theorem qvr_eq : qvr I c = qv I c := rfl

theorem part25_run (v2 : BitVec 32) (v19 : BitVec 32) (v30 : BitVec 32) (v94 : BitVec 1) {Q : (Σ' (v118 : FVec F S128x128 .bf16) (v119 : IVec S128x512 32) (c64_i32_75 : BitVec 32) (v121 : IVec S128x512 32) (v128 : IVec S128x512 32) (v130 : BitVec 32), BitVec 32) → sProp 𝕄} :
    iprop(records I K ∗ (if c.val < 2 then allSent (F := F) c else allReady I c) ∗ pt0 c (I.x c) ∗ pt1 c (I.wq c) ∗ ptA c Finset.univ shk (kvbf I c) ∗ (∃ f, ptB c (keep c) fullShare (stB f))
      ∗ (allSent (F := F) c ∗ ptA c Finset.univ shk (kvbf I c) ∗ ptB c (keep c) fullShare (KV I c) ∗ pt0 c (I.x c) ∗ pt1 c (I.wq c)
        -∗ Q ⟨qvr I c, iota .tc S128x512 32 [0] iota_S128x512_d0_w32, 64#32, k0_pay7, k0_pay8, Scalar.extui (Scalar.cmpi .sgt 64#32 0#32), Scalar.extui (Scalar.cmpi .slt 64#32 0#32)⟩))
      ⊢ wpc c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v19 v30 v94) Q := by
  rw [k0_part25_eq_skeleton]; unfold k0_part25_skel
  simp only [semSignalWord, semWaitWord, Prog.lift, Prog.bind_op, Prog.bind_ret, Prog.pure_eq_ret]
  have hc : c.val < 4 := c.isLt
  obtain h | h | h : c.val < 2 ∨ c.val = 2 ∨ c.val = 3 := by omega
  · rw [if_pos h]
    rw [dif_neg (fun e => absurd ((cond2_iff c).mp e) (by omega)), dif_neg (fun e => absurd ((cond3_iff c).mp e) (by omega))]
    iintro ⟨#HR, HS, H0, H1, HA, ⟨%fB, HB⟩, Hk⟩
    iapply (wp_load_rect 𝒱₀ (c : Thread nD τ) none Set.univ (Finset.subset_univ _)) $$ [HA]
    · iexact HA
    iintro HA
    iapply (wp_load_rect 𝒱₀ (c : Thread nD τ) none Set.univ (keep_own c)) $$ [HB]
    · iexact HB
    iintro HB
    iapply (wp_store 𝒱₀ (c : Thread nD τ) none Set.univ (keep_own c)) $$ [HB]
    · iexact HB
    iintro HB
    ihave HB := (Entails.of_eq (pointsTo_congr (keep_eq I c fB))) $$ HB
    iapply (wp_load_rect 𝒱₀ (c : Thread nD τ) none Set.univ (Finset.subset_univ _)) $$ [H0]
    · iexact H0
    iintro H0
    iapply (wp_load_rect 𝒱₀ (c : Thread nD τ) none Set.univ (Finset.subset_univ _)) $$ [H1]
    · iexact H1
    iintro H1
    iapply ret_run
    iapply Hk
    iframe HS HA HB H0 H1
  · skip
    rw [if_neg (show ¬ c.val < 2 by omega)]
    rw [dif_pos ((cond2_iff c).mpr h), dif_neg (fun e => absurd ((cond3_iff c).mp e) (by omega))]
    unfold allReady
    iintro ⟨#HR, ⟨HO, HA0, HA1, HA2⟩, H0, H1, HA, ⟨%fB, HB⟩, Hk⟩
    simp only [Prog.bind_op, Prog.bind_ret, wp_bind]
    iapply part5_run; iintro %v5
    obtain ⟨_, _⟩ := v5
    iapply part6_run; iintro %v6
    obtain ⟨_, _⟩ := v6
    iapply part7_run; iintro %v7
    obtain ⟨_, _, _, _⟩ := v7
    iapply (part8_run I K c _ _ _ _ _ _ _ h)
    isplitr; · iexact HR
    iframe HO HA0 HA1
    iintro ⟨HO, Hs0, Hs1⟩
    unfold ready1
    icases HA2 with ⟨Ha, Hb, Hc, Hd, He, Hf⟩
    iapply (step_send1_up I K c h 2 (dev_up c ((cond2_iff c).mpr h)).2.2 (by decide) (r1_up c h) (off4_eq c h 2) rfl) $$ [HO Ha Hb Hc Hd He Hf]
    · isplitr; · iexact HR
      iframe HO Ha Hb Hc Hd He Hf
    iintro ⟨HO, Hs2⟩
    ihave HS : allSent (F := F) c $$ [HO Hs0 Hs1 Hs2]
    · unfold allSent sent1
      iframe HO Hs0 Hs1 Hs2
    iapply (wp_load_rect 𝒱₀ (c : Thread nD τ) none Set.univ (Finset.subset_univ _)) $$ [HA]
    · iexact HA
    iintro HA
    iapply (wp_load_rect 𝒱₀ (c : Thread nD τ) none Set.univ (keep_own c)) $$ [HB]
    · iexact HB
    iintro HB
    iapply (wp_store 𝒱₀ (c : Thread nD τ) none Set.univ (keep_own c)) $$ [HB]
    · iexact HB
    iintro HB
    ihave HB := (Entails.of_eq (pointsTo_congr (keep_eq I c fB))) $$ HB
    iapply (wp_load_rect 𝒱₀ (c : Thread nD τ) none Set.univ (Finset.subset_univ _)) $$ [H0]
    · iexact H0
    iintro H0
    iapply (wp_load_rect 𝒱₀ (c : Thread nD τ) none Set.univ (Finset.subset_univ _)) $$ [H1]
    · iexact H1
    iintro H1
    iapply ret_run
    iapply Hk
    iframe HS HA HB H0 H1
  · skip
    rw [if_neg (show ¬ c.val < 2 by omega)]
    rw [dif_neg (fun e => absurd ((cond2_iff c).mp e) (by omega)), dif_pos ((cond3_iff c).mpr h)]
    unfold allReady
    iintro ⟨#HR, ⟨HO, HA0, HA1, HA2⟩, H0, H1, HA, ⟨%fB, HB⟩, Hk⟩
    simp only [Prog.bind_op, Prog.bind_ret, wp_bind]
    iapply part9_run; iintro %v9
    obtain ⟨_, _⟩ := v9
    iapply part10_run; iintro %v10
    obtain ⟨_, _⟩ := v10
    iapply part11_run; iintro %v11
    obtain ⟨_, _, _, _⟩ := v11
    iapply (part12_run I K c _ _ _ _ _ _ _ h)
    isplitr; · iexact HR
    iframe HO HA0 HA1
    iintro ⟨HO, Hs0, Hs1⟩
    unfold ready1
    icases HA2 with ⟨Ha, Hb, Hc, Hd, He, Hf⟩
    iapply (step_send1_lo I K c h 2 (dev_lo c ((cond3_iff c).mpr h)).2.2 (by decide) (r1_lo c h) (off5_eq c h 2) rfl) $$ [HO Ha Hb Hc Hd He Hf]
    · isplitr; · iexact HR
      iframe HO Ha Hb Hc Hd He Hf
    iintro ⟨HO, Hs2⟩
    ihave HS : allSent (F := F) c $$ [HO Hs0 Hs1 Hs2]
    · unfold allSent sent1
      iframe HO Hs0 Hs1 Hs2
    iapply (wp_load_rect 𝒱₀ (c : Thread nD τ) none Set.univ (Finset.subset_univ _)) $$ [HA]
    · iexact HA
    iintro HA
    iapply (wp_load_rect 𝒱₀ (c : Thread nD τ) none Set.univ (keep_own c)) $$ [HB]
    · iexact HB
    iintro HB
    iapply (wp_store 𝒱₀ (c : Thread nD τ) none Set.univ (keep_own c)) $$ [HB]
    · iexact HB
    iintro HB
    ihave HB := (Entails.of_eq (pointsTo_congr (keep_eq I c fB))) $$ HB
    iapply (wp_load_rect 𝒱₀ (c : Thread nD τ) none Set.univ (Finset.subset_univ _)) $$ [H0]
    · iexact H0
    iintro H0
    iapply (wp_load_rect 𝒱₀ (c : Thread nD τ) none Set.univ (Finset.subset_univ _)) $$ [H1]
    · iexact H1
    iintro H1
    iapply ret_run
    iapply Hk
    iframe HS HA HB H0 H1

end Run

end Cert.KernelIdeal.Talk
end
-- ==== Proof.Body3.lean ====
/-
  The arrivals of keys and values, the two contexts, and their copies.
-/
module

public import proofs.«01_k».proof.Proof.Body2

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Run
variable (I : Inp F) (K : GSem nD τ sig → ℕ) (c : Dev nD)

/-- The device's number, as the program computes it. -/
abbrev wd : BitVec 32 := Scalar.remsi (Scalar.divsi (Dev.word c) 1#32) 4#32
theorem ne_wd0 : (Scalar.cmpi .ne (Scalar.extui (Scalar.cmpi .ne (wd c) 0#32) : BitVec 32) 0#32 = 1#1) ↔ c ≠ 0 := by revert c; decide +kernel
theorem ne_wd1 : (Scalar.cmpi .ne (Scalar.extui (Scalar.cmpi .ne (wd c) 1#32) : BitVec 32) 0#32 = 1#1) ↔ c ≠ 1 := by revert c; decide +kernel
theorem ne_wd2 : (Scalar.cmpi .ne (Scalar.extui (Scalar.cmpi .ne (wd c) 2#32) : BitVec 32) 0#32 = 1#1) ↔ c ≠ 2 := by revert c; decide +kernel
theorem ne_wd3 : (Scalar.cmpi .ne (Scalar.extui (Scalar.cmpi .ne (wd c) 3#32) : BitVec 32) 0#32 = 1#1) ↔ c ≠ 3 := by revert c; decide +kernel

/-- One copy of keys and values still to arrive. -/
def recv1 (k : Fin 3) : sProp 𝕄 :=
  iprop(cred (tallyAt (dc c (r1s (nx c k))) () (amt c (.dma (r1s (nx c k))))) ∗ atPos ER (dc c (r1s (nx c k))) 0 ∅ 0)
/-- The same once waited for: the counter's round is over. -/
def done1 (k : Fin 3) : sProp 𝕄 := atPos ER (dc c (r1s (nx c k))) (0 + 1) ∅ 0
/-- A block of the gathered buffer, read. -/
abbrev rdB (o p b : ℕ) (inb : ∀ a, (![o, p, 0, b] : Fin 4 → ℕ) a + S1x1x128x64.size a ≤ S4x2x128x128.size a) : Vec F S1x1x128x64 .bf16 :=
  (mB.access (Rect.unit (s := S4x2x128x128) ![o, p, 0, b] S1x1x128x64.size inb)).read (Elt F) (KV I c)

/-- A wait for one counter's round to end. -/
theorem wait_run {q q' : DmaSem sig} (hq : q' = q) (h6 : 6 ≤ q.val) (n : ℕ) (hd : dut c (.dma q) = {0})
    {sp sp' : Space} {s s' : Shape} {e e' : EltTy} {src : Memref sig .tc sp' s' e'} {dst : Memref sig .tc sp s e} {hs : src.view.WordExact} {hd' : dst.view.WordExact}
    (hk : dst.view.dmaCredit = amt c (.dma q))
    {α : Type} {f : PUnit → Prog (TpuEff nD τ sig (Elt F) Λ₀ .tc) α} {Q : α → sProp 𝕄} :
    iprop(records I K ∗ cred (tallyAt (dc c q) () (amt c (.dma q))) ∗ oweA c n ∗ MayWait (c : Thread nD τ) (.dma q) () (owed c n) ∗ atPos ER (dc c q) 0 ∅ 0)
      ⊢ iprop((oweA c n ∗ atPos ER (dc c q) (0 + 1) ∅ 0 ∗ pay I c 0 (.dma q) -∗ wpc c (f ⟨⟩) Q)
        -∗ wpc c (.op (.waitDma2 q' src dst hs hd') f) Q) :=
  step_wait I K c hq h6 n hd (fun Kt => wpE_waitDma2_eq 𝒱₀ (c : Thread nD τ) none Set.univ Kt) hk

/-- The same where what the round hands over is known, and a resource that lets the device wait. -/
theorem wait_pay {q q' : DmaSem sig} (hq : q' = q) (h6 : 6 ≤ q.val) (n : ℕ) (hd : dut c (.dma q) = {0}) {P H : sProp 𝕄}
    (hP : pay I c 0 (.dma q) = P) (hm : H ⊢ MayWait (c : Thread nD τ) (.dma q) () (owed c n))
    {sp sp' : Space} {s s' : Shape} {e e' : EltTy} {src : Memref sig .tc sp' s' e'} {dst : Memref sig .tc sp s e} {hs : src.view.WordExact} {hd' : dst.view.WordExact}
    (hk : dst.view.dmaCredit = amt c (.dma q))
    {α : Type} {f : PUnit → Prog (TpuEff nD τ sig (Elt F) Λ₀ .tc) α} {Q : α → sProp 𝕄} :
    iprop(records I K ∗ H ∗ oweA c n ∗ cred (tallyAt (dc c q) () (amt c (.dma q))) ∗ atPos ER (dc c q) 0 ∅ 0)
      ⊢ iprop((oweA c n ∗ atPos ER (dc c q) (0 + 1) ∅ 0 ∗ P -∗ wpc c (f ⟨⟩) Q)
        -∗ wpc c (.op (.waitDma2 q' src dst hs hd') f) Q) := by
  subst hP
  iintro ⟨HR, HH, HO, Hc, Hp⟩
  iapply (wait_run I K c hq h6 n hd hk)
  iframe HR Hc HO Hp
  iapply hm
  iexact HH

theorem sem_r1_0 : ((cc0_scratch4.slice (Rect.unit (s := S4) ![0] S1.size inb_S4_S1_0)).squeeze S_ squeezes_S1_S_).sem = r1s 0 := rfl
theorem sem_r1_1 : ((cc0_scratch4.slice (Rect.unit (s := S4) ![1] S1.size inb_S4_S1_1)).squeeze S_ squeezes_S1_S_).sem = r1s 1 := rfl
theorem sem_r1_2 : ((cc0_scratch4.slice (Rect.unit (s := S4) ![2] S1.size inb_S4_S1_2)).squeeze S_ squeezes_S1_S_).sem = r1s 2 := rfl
theorem sem_r1_3 : ((cc0_scratch4.slice (Rect.unit (s := S4) ![3] S1.size inb_S4_S1_3)).squeeze S_ squeezes_S1_S_).sem = r1s 3 := rfl

theorem amt_big (t o : Dev nD) (h : o.val < 2) : nBig = amt t (.dma (r1s o)) := ((amt_r1 t o).trans (if_pos h)).symm
theorem amt_half (t o : Dev nD) (h : ¬ o.val < 2) : nHalf = amt t (.dma (r1s o)) := ((amt_r1 t o).trans (if_neg h)).symm

/-- The wait for the copy of keys and values of device `o` (big). -/
theorem wait1_big (k : Fin 3) {o : Dev nD} (ho : o = nx c k) (hlt : o.val < 2) {q' : DmaSem sig} (hq : q' = r1s o)
    {off : Fin 4 → ℕ} {inb} {sp' : Space} {s' : Shape} {e' : EltTy} {src : Memref sig .tc sp' s' e'} {hs : src.view.WordExact} {hd' : (sB_big off inb).view.WordExact}
    {α : Type} {f : PUnit → Prog (TpuEff nD τ sig (Elt F) Λ₀ .tc) α} {Q : α → sProp 𝕄} :
    iprop(records I K ∗ levAts L lv ∗ oweA c 6 ∗ recv1 (F := F) c k)
      ⊢ iprop((oweA c 6 ∗ done1 (F := F) c k ∗ ptB c (land (nx c k)) fullShare (KV I c) -∗ wpc c (f ⟨⟩) Q)
        -∗ wpc c (.op (.waitDma2 q' src (sB_big off inb) hs hd') f) Q) := by
  subst ho
  exact wait_pay I K c hq (by simp only [r1s]; omega) 6 (dut_r1 c (nx c k) (nx_ne c k)) (pay_r1 I c 0 (nx c k)) (mayWait_r1 c (nx c k)) (amt_big c (nx c k) hlt)

/-- The wait for the copy of keys and values of device `o` (half). -/
theorem wait1_half (k : Fin 3) {o : Dev nD} (ho : o = nx c k) (hlt : ¬ o.val < 2) {q' : DmaSem sig} (hq : q' = r1s o)
    {off : Fin 4 → ℕ} {inb} {sp' : Space} {s' : Shape} {e' : EltTy} {src : Memref sig .tc sp' s' e'} {hs : src.view.WordExact} {hd' : (sB_half off inb).view.WordExact}
    {α : Type} {f : PUnit → Prog (TpuEff nD τ sig (Elt F) Λ₀ .tc) α} {Q : α → sProp 𝕄} :
    iprop(records I K ∗ levAts L lv ∗ oweA c 6 ∗ recv1 (F := F) c k)
      ⊢ iprop((oweA c 6 ∗ done1 (F := F) c k ∗ ptB c (land (nx c k)) fullShare (KV I c) -∗ wpc c (f ⟨⟩) Q)
        -∗ wpc c (.op (.waitDma2 q' src (sB_half off inb) hs hd') f) Q) := by
  subst ho
  exact wait_pay I K c hq (by simp only [r1s]; omega) 6 (dut_r1 c (nx c k) (nx_ne c k)) (pay_r1 I c 0 (nx c k)) (mayWait_r1 c (nx c k)) (amt_half c (nx c k) hlt)

theorem part26_run (v119 : IVec S128x512 32) (c64_i32_75 : BitVec 32) (v121 : IVec S128x512 32) (v128 : IVec S128x512 32) (v130 : BitVec 32) (v132 : BitVec 32) {Q : (Σ' (v172 : IVec S128x512 1) (v175 : BitVec 32) (v177 : IVec S128x512 32), IVec S128x512 32) → sProp 𝕄} :
    iprop(Q ⟨k0_pay11 v119 c64_i32_75 v121 v128 v130 v132, Scalar.select (Scalar.cmpi .eq 3#32 0#32) 1#32 3#32, k0_pay12 v119 c64_i32_75 v121 v128 v130 v132, k0_pay13⟩)
      ⊢ wpc c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v119 c64_i32_75 v121 v128 v130 v132) Q := by
  rw [k0_part26_eq_skeleton]; unfold k0_part26_skel
  simp only [semSignalWord, semWaitWord, Prog.lift, Prog.bind_op, Prog.bind_ret, Prog.pure_eq_ret]
  exact ret_run (c := c)

set_option maxHeartbeats 2000000 in
theorem part27_run (v118 : FVec F S128x128 .bf16) (v172 : IVec S128x512 1) (v175 : BitVec 32) (v177 : IVec S128x512 32) (v178 : IVec S128x512 32) {Q : (Σ' (v192 : IVec S128x512 1) (v205 : FVec F S128x64 .bf16) (v208 : FVec F S128x128 .f32), FVec F S128x128 .f32) → sProp 𝕄} :
    iprop(records I K ∗ levAts L lv ∗ oweA c 6 ∗ recv1 (F := F) c 0 ∗ recv1 (F := F) c 1 ∗ recv1 (F := F) c 2 ∗ ptB c (keep c) fullShare (KV I c)
      ∗ (oweA c 6 ∗ done1 (F := F) c 0 ∗ done1 (F := F) c 1 ∗ done1 (F := F) c 2 ∗ ptB c Finset.univ fullShare (KV I c)
        -∗ Q ⟨k0_pay14 v172 v175 v177 v178, k0_pay15 v118, k0_pay16 v118 (rdB I c 0 0 0 inb_S4x2x128x128_S1x1x128x64_0_0_0_0), k0_pay17 v118 (rdB I c 1 0 0 inb_S4x2x128x128_S1x1x128x64_1_0_0_0)⟩))
      ⊢ wpc c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 (wd c) v118 v172 v175 v177 v178) Q := by
  rw [k0_part27_eq_skeleton]; unfold k0_part27_skel
  simp only [semSignalWord, semWaitWord, Prog.lift, Prog.bind_op, Prog.bind_ret, Prog.pure_eq_ret]
  have hc : c = 0 ∨ c = 1 ∨ c = 2 ∨ c = 3 := by revert c; decide
  obtain rfl | rfl | rfl | rfl := hc
  · rw [dif_neg (fun e => absurd ((ne_wd0 _).mp e) (by decide)), dif_pos ((ne_wd1 _).mpr (by decide)), dif_pos ((ne_wd2 _).mpr (by decide)), dif_pos ((ne_wd3 _).mpr (by decide))]
    iintro ⟨#HR, #HL, HO, H0, H1, H2, HB, Hk⟩
    iapply (wait1_big I K 0 0 (o := 1) (by decide) (by decide) sem_r1_1) $$ [HO H0]
    · isplitr; · iexact HR
      isplitr; · iexact HL
      iframe HO H0
    iintro ⟨HO, Hd0, Hb0⟩
    iapply (wait1_half I K 0 1 (o := 2) (by decide) (by decide) sem_r1_2) $$ [HO H1]
    · isplitr; · iexact HR
      isplitr; · iexact HL
      iframe HO H1
    iintro ⟨HO, Hd1, Hb1⟩
    iapply (wait1_half I K 0 2 (o := 3) (by decide) (by decide) sem_r1_3) $$ [HO H2]
    · isplitr; · iexact HR
      isplitr; · iexact HL
      iframe HO H2
    iintro ⟨HO, Hd2, Hb2⟩
    ihave HB := (open_B 0 (KV I 0)).2 $$ [HB Hb0 Hb1 Hb2]
    · isplitl [HB]; · iexact HB
      iframe Hb0 Hb1 Hb2
    iapply (wp_load_rect 𝒱₀ ((0 : Dev nD) : Thread nD τ) none Set.univ (Finset.subset_univ _)) $$ [HB]
    · iexact HB
    iintro HB
    iapply (wp_load_rect 𝒱₀ ((0 : Dev nD) : Thread nD τ) none Set.univ (Finset.subset_univ _)) $$ [HB]
    · iexact HB
    iintro HB
    iapply ret_run
    iapply Hk
    iframe HO Hd0 Hd1 Hd2 HB
  · rw [dif_pos ((ne_wd0 _).mpr (by decide)), dif_neg (fun e => absurd ((ne_wd1 _).mp e) (by decide)), dif_pos ((ne_wd2 _).mpr (by decide)), dif_pos ((ne_wd3 _).mpr (by decide))]
    iintro ⟨#HR, #HL, HO, H0, H1, H2, HB, Hk⟩
    iapply (wait1_big I K 1 2 (o := 0) (by decide) (by decide) sem_r1_0) $$ [HO H2]
    · isplitr; · iexact HR
      isplitr; · iexact HL
      iframe HO H2
    iintro ⟨HO, Hd2, Hb2⟩
    iapply (wait1_half I K 1 0 (o := 2) (by decide) (by decide) sem_r1_2) $$ [HO H0]
    · isplitr; · iexact HR
      isplitr; · iexact HL
      iframe HO H0
    iintro ⟨HO, Hd0, Hb0⟩
    iapply (wait1_half I K 1 1 (o := 3) (by decide) (by decide) sem_r1_3) $$ [HO H1]
    · isplitr; · iexact HR
      isplitr; · iexact HL
      iframe HO H1
    iintro ⟨HO, Hd1, Hb1⟩
    ihave HB := (open_B 1 (KV I 1)).2 $$ [HB Hb0 Hb1 Hb2]
    · isplitl [HB]; · iexact HB
      iframe Hb0 Hb1 Hb2
    iapply (wp_load_rect 𝒱₀ ((1 : Dev nD) : Thread nD τ) none Set.univ (Finset.subset_univ _)) $$ [HB]
    · iexact HB
    iintro HB
    iapply (wp_load_rect 𝒱₀ ((1 : Dev nD) : Thread nD τ) none Set.univ (Finset.subset_univ _)) $$ [HB]
    · iexact HB
    iintro HB
    iapply ret_run
    iapply Hk
    iframe HO Hd0 Hd1 Hd2 HB
  · rw [dif_pos ((ne_wd0 _).mpr (by decide)), dif_pos ((ne_wd1 _).mpr (by decide)), dif_neg (fun e => absurd ((ne_wd2 _).mp e) (by decide)), dif_pos ((ne_wd3 _).mpr (by decide))]
    iintro ⟨#HR, #HL, HO, H0, H1, H2, HB, Hk⟩
    iapply (wait1_big I K 2 1 (o := 0) (by decide) (by decide) sem_r1_0) $$ [HO H1]
    · isplitr; · iexact HR
      isplitr; · iexact HL
      iframe HO H1
    iintro ⟨HO, Hd1, Hb1⟩
    iapply (wait1_big I K 2 2 (o := 1) (by decide) (by decide) sem_r1_1) $$ [HO H2]
    · isplitr; · iexact HR
      isplitr; · iexact HL
      iframe HO H2
    iintro ⟨HO, Hd2, Hb2⟩
    iapply (wait1_half I K 2 0 (o := 3) (by decide) (by decide) sem_r1_3) $$ [HO H0]
    · isplitr; · iexact HR
      isplitr; · iexact HL
      iframe HO H0
    iintro ⟨HO, Hd0, Hb0⟩
    ihave HB := (open_B 2 (KV I 2)).2 $$ [HB Hb0 Hb1 Hb2]
    · isplitl [HB]; · iexact HB
      iframe Hb0 Hb1 Hb2
    iapply (wp_load_rect 𝒱₀ ((2 : Dev nD) : Thread nD τ) none Set.univ (Finset.subset_univ _)) $$ [HB]
    · iexact HB
    iintro HB
    iapply (wp_load_rect 𝒱₀ ((2 : Dev nD) : Thread nD τ) none Set.univ (Finset.subset_univ _)) $$ [HB]
    · iexact HB
    iintro HB
    iapply ret_run
    iapply Hk
    iframe HO Hd0 Hd1 Hd2 HB
  · rw [dif_pos ((ne_wd0 _).mpr (by decide)), dif_pos ((ne_wd1 _).mpr (by decide)), dif_pos ((ne_wd2 _).mpr (by decide)), dif_neg (fun e => absurd ((ne_wd3 _).mp e) (by decide))]
    iintro ⟨#HR, #HL, HO, H0, H1, H2, HB, Hk⟩
    iapply (wait1_big I K 3 0 (o := 0) (by decide) (by decide) sem_r1_0) $$ [HO H0]
    · isplitr; · iexact HR
      isplitr; · iexact HL
      iframe HO H0
    iintro ⟨HO, Hd0, Hb0⟩
    iapply (wait1_big I K 3 1 (o := 1) (by decide) (by decide) sem_r1_1) $$ [HO H1]
    · isplitr; · iexact HR
      isplitr; · iexact HL
      iframe HO H1
    iintro ⟨HO, Hd1, Hb1⟩
    iapply (wait1_half I K 3 2 (o := 2) (by decide) (by decide) sem_r1_2) $$ [HO H2]
    · isplitr; · iexact HR
      isplitr; · iexact HL
      iframe HO H2
    iintro ⟨HO, Hd2, Hb2⟩
    ihave HB := (open_B 3 (KV I 3)).2 $$ [HB Hb0 Hb1 Hb2]
    · isplitl [HB]; · iexact HB
      iframe Hb0 Hb1 Hb2
    iapply (wp_load_rect 𝒱₀ ((3 : Dev nD) : Thread nD τ) none Set.univ (Finset.subset_univ _)) $$ [HB]
    · iexact HB
    iintro HB
    iapply (wp_load_rect 𝒱₀ ((3 : Dev nD) : Thread nD τ) none Set.univ (Finset.subset_univ _)) $$ [HB]
    · iexact HB
    iintro HB
    iapply ret_run
    iapply Hk
    iframe HO Hd0 Hd1 Hd2 HB

theorem part28_run (v192 : IVec S128x512 1) (v205 : FVec F S128x64 .bf16) (v208 : FVec F S128x128 .f32) (v211 : FVec F S128x128 .f32) {Q : (Σ' (v229 : FVec F S128x1 .f32) (v230 : FVec F S128x512 .bf16) (v241 : FVec F S128x64 .f32) (v242 : FVec F S128x128 .bf16), FVec F S128x64 .bf16) → sProp 𝕄} :
    iprop(ptB c Finset.univ fullShare (KV I c)
      ∗ (ptB c Finset.univ fullShare (KV I c) -∗ Q ⟨k0_pay19 v192 v205 v208 v211 (rdB I c 2 0 0 inb_S4x2x128x128_S1x1x128x64_2_0_0_0) (rdB I c 3 0 0 inb_S4x2x128x128_S1x1x128x64_3_0_0_0), k0_pay20 v192 v205 v208 v211 (rdB I c 2 0 0 inb_S4x2x128x128_S1x1x128x64_2_0_0_0) (rdB I c 3 0 0 inb_S4x2x128x128_S1x1x128x64_3_0_0_0), k0_pay21 v192 v205 v208 v211 (rdB I c 2 0 0 inb_S4x2x128x128_S1x1x128x64_2_0_0_0) (rdB I c 3 0 0 inb_S4x2x128x128_S1x1x128x64_3_0_0_0) (rdB I c 0 1 0 inb_S4x2x128x128_S1x1x128x64_0_1_0_0) (rdB I c 1 1 0 inb_S4x2x128x128_S1x1x128x64_1_1_0_0), k0_pay22 v192 v205 v208 v211 (rdB I c 2 0 0 inb_S4x2x128x128_S1x1x128x64_2_0_0_0) (rdB I c 3 0 0 inb_S4x2x128x128_S1x1x128x64_3_0_0_0), k0_pay23 (rdB I c 2 1 0 inb_S4x2x128x128_S1x1x128x64_2_1_0_0)⟩))
      ⊢ wpc c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v192 v205 v208 v211) Q := by
  rw [k0_part28_eq_skeleton]; unfold k0_part28_skel
  simp only [semSignalWord, semWaitWord, Prog.lift, Prog.bind_op, Prog.bind_ret, Prog.pure_eq_ret]
  iintro ⟨HB, Hk⟩
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply ret_run
  iapply Hk
  iexact HB

theorem accC_sub {off size : Fin 4 → ℕ} {inb : ∀ a, off a + size a ≤ S4x2x128x64.size a} {S : Finset S4x2x128x64.Idx}
    (h : ∀ i : S4x2x128x64.Idx, (∀ a : Fin 4, off a ≤ (i a).val ∧ (i a).val < off a + size a) → i ∈ S) :
    (mC.access (Rect.unit (s := S4x2x128x64) off size inb)).setOn Finset.univ ⊆ S := fun i hi => by
  have e : (mC.access (Rect.unit (s := S4x2x128x64) off size inb)).setOn Finset.univ = (Rect.unit (s := S4x2x128x64) off size inb).set :=
    View.set_slice_whole _ _
  exact h i ((mem_rect (s := S4x2x128x64) off size inb i).mp (e ▸ hi))
theorem accC_cg {off : Fin 4 → ℕ} {inb} (o : Dev nD) (j : Fin 2) (h : off = ![o.val, j.val, 0, 0]) :
    (mC.access (Rect.unit (s := S4x2x128x64) off S1x1x128x64.size inb)).setOn Finset.univ ⊆ cg o j := accC_sub fun i hi => by
  subst h
  have h0 : o.val ≤ (i 0).val ∧ (i 0).val < o.val + 1 := hi 0
  have h1 : j.val ≤ (i 1).val ∧ (i 1).val < j.val + 1 := hi 1
  rw [mem_cg]; omega

theorem put0 {w} (hw : w = cx0 I c) (f : S4x2x128x64.Idx → Elt F .bf16) (i : S4x2x128x64.Idx) (hi : i ∈ cg c 0) :
    (mC.access (Rect.unit (s := S4x2x128x64) (k0_off10 c) S1x1x128x64.size (k0_off10_inb c))).write (Elt F) f w Finset.univ i = CG I i := by
  subst hw; exact ctx0_eq I c f i hi
theorem put1 {w} (hw : w = cx1 I c) (f : S4x2x128x64.Idx → Elt F .bf16) (i : S4x2x128x64.Idx) (hi : i ∈ cg c 1) :
    (mC.access (Rect.unit (s := S4x2x128x64) (k0_off13 c) S1x1x128x64.size (k0_off13_inb c))).write (Elt F) f w Finset.univ i = CG I i := by
  subst hw; exact ctx1_eq I c f i hi

theorem quartC (j : Fin 2) : ptC c (cg c j) fullShare (CG I)
    ⊢ iprop(ptC c (cg c j) (sh 0) (CG I) ∗ ptC c (cg c j) (sh 1) (CG I) ∗ ptC c (cg c j) (sh 2) (CG I) ∗ ptC c (cg c j) shk (CG I)) := (quarters _ _).1

/-! ## The copies of contexts -/

/-- All that one copy of a context needs besides the debt it pays and the share of the context. -/
def dest2 (k : Fin 3) (j : Fin 2) : sProp 𝕄 :=
  iprop((∃ g, ptC (F := F) (nx c k) (cg c j) fullShare g)
    ∗ dutyTok ER (dc c (s2s k j)) 0 0 ∗ reached ER (dc c (s2s k j)) 0 ∗ dutyTok ER (dc (nx c k) (r2s c j)) 0 0 ∗ reached ER (dc (nx c k) (r2s c j)) 0)
def sent2 (k : Fin 3) (j : Fin 2) : sProp 𝕄 := cred (tallyAt (dc c (s2s k j)) () (amt c (.dma (s2s k j))))

theorem r2_out0 : ((cc0_scratch6.slice (Rect.unit (s := S4x2) (k0_off11 c) S1x1.size (k0_off11_inb c))).squeeze S_ squeezes_S1x1_S_).sem = r2s c 0 := by
  revert c; decide +kernel
theorem r2_out1 : ((cc0_scratch6.slice (Rect.unit (s := S4x2) (k0_off14 c) S1x1.size (k0_off14_inb c))).squeeze S_ squeezes_S1x1_S_).sem = r2s c 1 := by
  revert c; decide +kernel

theorem send2_run (k : Fin 3) (j : Fin 2) {dev : Dev nD} (hn : dev = nx c k) {qs qr : DmaSem sig} (hqs : qs = s2s k j) (hqr : qr = r2s c j)
    {o : Fin 4 → ℕ} {inb} (ho : o = ![c.val, j.val, 0, 0]) {n m : ℕ} (hnn : n = 6 + 3 * j.val + k.val) (hm : m = n + 1)
    {hsc} {hs : (sC o inb).view.WordExact} {hd : (sC o inb).view.WordExact}
    {ht : DmaTarget.Typed .vmem (.dma qr) (.remote (dev : Thread nD τ) (sC o inb) (.dma qs) hsc)}
    {α : Type} {f : PUnit → Prog (TpuEff nD τ sig (Elt F) Λ₀ .tc) α} {Q : α → sProp 𝕄} :
    iprop(records I K ∗ oweA c n ∗ ptC c (cg c j) (sh k) (CG I) ∗ dest2 (F := F) c k j)
      ⊢ iprop((oweA c m ∗ sent2 (F := F) c k j -∗ wpc c (f ⟨⟩) Q)
        -∗ wpc c (.op (.enqueueDma (sC o inb) (.remote (dev : Thread nD τ) (sC o inb) (.dma qs) hsc) (.dma qr) hs hd ht) f) Q) := by
  subst hm hnn
  unfold dest2 sent2
  iintro ⟨#HR, HO, HC, ⟨Hg, Ha, Hb, Hd, He⟩⟩ Hk
  iapply (step_send2 I K c k j hn hqs hqr ho) $$ [HO HC Hg Ha Hb Hd He]
  · isplitr; · iexact HR
    iframe HO HC Hg Ha Hb Hd He
  iexact Hk

set_option maxHeartbeats 2000000 in
theorem part29_run (v2 : BitVec 32) (v229 : FVec F S128x1 .f32) (v230 : FVec F S128x512 .bf16) (v241 : FVec F S128x64 .f32) (v242 : FVec F S128x128 .bf16) (v244 : FVec F S128x64 .bf16) {Q : (PUnit) → sProp 𝕄} :
    iprop(⌜k0_pay24 v229 v230 v241 v242 v244 (rdB I c 3 1 0 inb_S4x2x128x128_S1x1x128x64_3_1_0_0) = cx0 I c⌝ ∗ ptB c Finset.univ fullShare (KV I c) ∗ (∃ f, ptC c (cg c 0) fullShare f)
      ∗ (ptB c Finset.univ fullShare (KV I c) ∗ ptC c (cg c 0) (sh 0) (CG I) ∗ ptC c (cg c 0) (sh 1) (CG I) ∗ ptC c (cg c 0) (sh 2) (CG I) ∗ ptC c (cg c 0) shk (CG I) -∗ Q ⟨⟩))
      ⊢ wpc c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v229 v230 v241 v242 v244) Q := by
  rw [k0_part29_eq_skeleton]; unfold k0_part29_skel
  simp only [semSignalWord, semWaitWord, Prog.lift, Prog.bind_op, Prog.bind_ret, Prog.pure_eq_ret]
  iintro ⟨%hx, HB, ⟨%f, HC⟩, Hk⟩
  iapply (wp_load_rect 𝒱₀ (c : Thread nD τ) none Set.univ (Finset.subset_univ _)) $$ [HB]
  · iexact HB
  iintro HB
  iapply (wp_load_rect 𝒱₀ (c : Thread nD τ) none Set.univ (accC_cg c 0 (k0_off10_eq c))) $$ [HC]
  · iexact HC
  iintro HC
  iapply (wp_store 𝒱₀ (c : Thread nD τ) none Set.univ (accC_cg c 0 (k0_off10_eq c))) $$ [HC]
  · iexact HC
  iintro HC
  ihave HC := (Entails.of_eq (pointsTo_congr (fun i hi => put0 I c hx f i hi))) $$ HC
  ihave HC := quartC I c 0 $$ HC
  icases HC with ⟨H0, H1, H2, H3⟩
  iapply ret_run
  iapply Hk
  iframe HB H0 H1 H2 H3

theorem part30_run (v2 : BitVec 32) {Q : (Σ' (v305 : BitVec 32) (v306 : BitVec 32) (v307 : BitVec 1), BitVec 1) → sProp 𝕄} :
    iprop(records I K ∗ oweA c 6 ∗ ptC c (cg c 0) (sh 0) (CG I) ∗ dest2 (F := F) c 0 0 ∗ ptC c (cg c 0) (sh 1) (CG I) ∗ dest2 (F := F) c 1 0
      ∗ (∀ v, oweA c 8 ∗ sent2 (F := F) c 0 0 ∗ sent2 (F := F) c 1 0 -∗ Q v))
      ⊢ wpc c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2) Q := by
  rw [k0_part30_eq_skeleton]; unfold k0_part30_skel
  simp only [semSignalWord, semWaitWord, Prog.lift, Prog.bind_op, Prog.bind_ret, Prog.pure_eq_ret]
  iintro ⟨#HR, HO, HC0, HD0, HC1, HD1, Hk⟩
  iapply (send2_run I K c 0 0 (n := 6) (m := 7) (dev_c0 c).1 (by decide) (r2_out0 c) (k0_off12_eq c) rfl rfl) $$ [HO HC0 HD0]
  · isplitr; · iexact HR
    iframe HO HC0 HD0
  iintro ⟨HO, HS0⟩
  iapply (send2_run I K c 1 0 (n := 7) (m := 8) (dev_c0 c).2.1 (by decide) (r2_out0 c) (k0_off12_eq c) rfl rfl) $$ [HO HC1 HD1]
  · isplitr; · iexact HR
    iframe HO HC1 HD1
  iintro ⟨HO, HS1⟩
  iapply ret_run
  iapply Hk
  iframe HO HS0 HS1

theorem part31_run (v118 : FVec F S128x128 .bf16) (v305 : BitVec 32) (v306 : BitVec 32) (v307 : BitVec 1) (v310 : BitVec 1) {Q : (Σ' (v337 : FVec F S128x512 .f32), FVec F S128x512 .f32) → sProp 𝕄} :
    iprop(records I K ∗ oweA c 8 ∗ ptC c (cg c 0) (sh 2) (CG I) ∗ dest2 (F := F) c 2 0 ∗ ptB c Finset.univ fullShare (KV I c)
      ∗ (oweA c 9 ∗ sent2 (F := F) c 2 0 ∗ ptB c Finset.univ fullShare (KV I c) -∗ Q ⟨k0_pay25 v118 (rdB I c 0 0 64 inb_S4x2x128x128_S1x1x128x64_0_0_0_64) (rdB I c 1 0 64 inb_S4x2x128x128_S1x1x128x64_1_0_0_64) (rdB I c 2 0 64 inb_S4x2x128x128_S1x1x128x64_2_0_0_64) (rdB I c 3 0 64 inb_S4x2x128x128_S1x1x128x64_3_0_0_64), k0_pay26⟩))
      ⊢ wpc c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v118 v305 v306 v307 v310) Q := by
  rw [k0_part31_eq_skeleton]; unfold k0_part31_skel
  simp only [semSignalWord, semWaitWord, Prog.lift, Prog.bind_op, Prog.bind_ret, Prog.pure_eq_ret]
  iintro ⟨#HR, HO, HC0, HD0, HB, Hk⟩
  iapply (send2_run I K c 2 0 (n := 8) (m := 9) (dev_c0 c).2.2 (by decide) (r2_out0 c) (k0_off12_eq c) rfl rfl) $$ [HO HC0 HD0]
  · isplitr; · iexact HR
    iframe HO HC0 HD0
  iintro ⟨HO, HS0⟩
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply ret_run
  iapply Hk
  iframe HO HS0 HB

theorem part32_run (v192 : IVec S128x512 1) (v337 : FVec F S128x512 .f32) (v338 : FVec F S128x512 .f32) {Q : (Σ' (v370 : FVec F S128x64 .f32), FVec F S128x64 .f32) → sProp 𝕄} :
    iprop(ptB c Finset.univ fullShare (KV I c)
      ∗ (ptB c Finset.univ fullShare (KV I c) -∗ Q ⟨k0_pay28 v192 v337 v338 (rdB I c 0 1 64 inb_S4x2x128x128_S1x1x128x64_0_1_0_64) (rdB I c 1 1 64 inb_S4x2x128x128_S1x1x128x64_1_1_0_64) (rdB I c 2 1 64 inb_S4x2x128x128_S1x1x128x64_2_1_0_64) (rdB I c 3 1 64 inb_S4x2x128x128_S1x1x128x64_3_1_0_64), k0_pay29 v192 v337 v338⟩))
      ⊢ wpc c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v192 v337 v338) Q := by
  rw [k0_part32_eq_skeleton]; unfold k0_part32_skel
  simp only [semSignalWord, semWaitWord, Prog.lift, Prog.bind_op, Prog.bind_ret, Prog.pure_eq_ret]
  iintro ⟨HB, Hk⟩
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply (wp_load_rect 𝒱₀ (c : Thread nD τ) none Set.univ (Finset.subset_univ _)) $$ [HB]
  · iexact HB
  iintro HB
  iapply ret_run
  iapply Hk
  iexact HB

set_option maxHeartbeats 2000000 in
theorem part33_run (v2 : BitVec 32) (v370 : FVec F S128x64 .f32) (v373 : FVec F S128x64 .f32) {Q : (Σ' (v403 : BitVec 32) (v404 : BitVec 32) (v405 : BitVec 1), BitVec 32) → sProp 𝕄} :
    iprop(⌜k0_pay30 v370 v373 = cx1 I c⌝ ∗ records I K ∗ oweA c 9 ∗ (∃ f, ptC c (cg c 1) fullShare f) ∗ dest2 (F := F) c 0 1
      ∗ (∀ v, oweA c 10 ∗ sent2 (F := F) c 0 1 ∗ ptC c (cg c 1) (sh 1) (CG I) ∗ ptC c (cg c 1) (sh 2) (CG I) ∗ ptC c (cg c 1) shk (CG I) -∗ Q v))
      ⊢ wpc c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v370 v373) Q := by
  rw [k0_part33_eq_skeleton]; unfold k0_part33_skel
  simp only [semSignalWord, semWaitWord, Prog.lift, Prog.bind_op, Prog.bind_ret, Prog.pure_eq_ret]
  iintro ⟨%hx, #HR, HO, ⟨%f, HC⟩, HD, Hk⟩
  iapply (wp_load_rect 𝒱₀ (c : Thread nD τ) none Set.univ (accC_cg c 1 (k0_off13_eq c))) $$ [HC]
  · iexact HC
  iintro HC
  iapply (wp_store 𝒱₀ (c : Thread nD τ) none Set.univ (accC_cg c 1 (k0_off13_eq c))) $$ [HC]
  · iexact HC
  iintro HC
  ihave HC := (Entails.of_eq (pointsTo_congr (fun i hi => put1 I c hx f i hi))) $$ HC
  ihave HC := quartC I c 1 $$ HC
  icases HC with ⟨H0, H1, H2, H3⟩
  iapply (send2_run I K c 0 1 (n := 9) (m := 10) (dev_c1 c).1 (by decide) (r2_out1 c) (k0_off15_eq c) rfl rfl) $$ [HO H0 HD]
  · isplitr; · iexact HR
    iframe HO H0 HD
  iintro ⟨HO, HS⟩
  iapply ret_run
  iapply Hk
  iframe HO HS H1 H2 H3

theorem part34_run (v2 : BitVec 32) (v403 : BitVec 32) (v404 : BitVec 32) (v405 : BitVec 1) (c0_i32_276 : BitVec 32) {Q : (PUnit) → sProp 𝕄} :
    iprop(records I K ∗ oweA c 10 ∗ ptC c (cg c 1) (sh 1) (CG I) ∗ dest2 (F := F) c 1 1
      ∗ (oweA c 11 ∗ sent2 (F := F) c 1 1 -∗ Q ⟨⟩))
      ⊢ wpc c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v403 v404 v405 c0_i32_276) Q := by
  rw [k0_part34_eq_skeleton]; unfold k0_part34_skel
  simp only [semSignalWord, semWaitWord, Prog.lift, Prog.bind_op, Prog.bind_ret, Prog.pure_eq_ret]
  iintro ⟨#HR, HO, HC, HD, Hk⟩
  iapply (send2_run I K c 1 1 (n := 10) (m := 11) (dev_c1 c).2.1 (by decide) (r2_out1 c) (k0_off15_eq c) rfl rfl) $$ [HO HC HD]
  · isplitr; · iexact HR
    iframe HO HC HD
  iintro ⟨HO, HS⟩
  iapply ret_run
  iapply Hk
  iframe HO HS

end Run

end Cert.KernelIdeal.Talk
end
-- ==== Proof.Body4.lean ====
/-
  The arrivals of contexts, the output, and the waits that end the run.
-/
module

public import proofs.«01_k».proof.Proof.Body3

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Run
variable (I : Inp F) (K : GSem nD τ sig → ℕ) (c : Dev nD)

/-! ## Waits -/

theorem may_done (q : SemLoc sig) : (emp : sProp 𝕄) ⊢ MayWait (c : Thread nD τ) q () (owed c 12) := by
  rw [owed_done, MayWait_zero]; exact BIBase.Entails.rfl

/-- One copy of a context still to arrive. -/
def recv2 (k : Fin 3) (j : Fin 2) : sProp 𝕄 :=
  iprop(cred (tallyAt (dc c (r2s (nx c k) j)) () (amt c (.dma (r2s (nx c k) j)))) ∗ atPos ER (dc c (r2s (nx c k) j)) 0 ∅ 0)
/-- The same once waited for. -/
def done2 (k : Fin 3) (j : Fin 2) : sProp 𝕄 := atPos ER (dc c (r2s (nx c k) j)) (0 + 1) ∅ 0
/-- One copy of keys and values sent, its end still to be waited for. -/
def back1 (k : Fin 3) : sProp 𝕄 := iprop(sent1 (F := F) c k ∗ atPos ER (dc c (s1s k)) 0 ∅ 0)
/-- The same once waited for. -/
def home1 (k : Fin 3) : sProp 𝕄 := iprop(atPos ER (dc c (s1s k)) (0 + 1) ∅ 0 ∗ ptA c (src c k) (sh k) (kvbf I c))
/-- One copy of a context sent, its end still to be waited for. -/
def back2 (k : Fin 3) (j : Fin 2) : sProp 𝕄 := iprop(sent2 (F := F) c k j ∗ atPos ER (dc c (s2s k j)) 0 ∅ 0)
/-- The same once waited for. -/
def home2 (k : Fin 3) (j : Fin 2) : sProp 𝕄 := iprop(atPos ER (dc c (s2s k j)) (0 + 1) ∅ 0 ∗ ptC c (cg c j) (sh k) (CG I))

/-- A wait when nothing is owed any more. -/
theorem wait_last {q q' : DmaSem sig} (hq : q' = q) (h6 : 6 ≤ q.val) (hd : dut c (.dma q) = {0}) {P : sProp 𝕄} (hP : pay I c 0 (.dma q) = P)
    {sp sp' : Space} {s s' : Shape} {e e' : EltTy} {src : Memref sig .tc sp' s' e'} {dst : Memref sig .tc sp s e} {hs : src.view.WordExact} {hd' : dst.view.WordExact}
    (hk : dst.view.dmaCredit = amt c (.dma q))
    {α : Type} {f : PUnit → Prog (TpuEff nD τ sig (Elt F) Λ₀ .tc) α} {Q : α → sProp 𝕄} :
    iprop(records I K ∗ oweA c 12 ∗ cred (tallyAt (dc c q) () (amt c (.dma q))) ∗ atPos ER (dc c q) 0 ∅ 0)
      ⊢ iprop((oweA c 12 ∗ atPos ER (dc c q) (0 + 1) ∅ 0 ∗ P -∗ wpc c (f ⟨⟩) Q)
        -∗ wpc c (.op (.waitDma2 q' src dst hs hd') f) Q) := by
  iintro ⟨HR, HO, Hc, Hp⟩
  iapply (wait_pay I K c hq h6 12 hd hP (may_done c _) hk)
  iframe HR HO Hc Hp

/-- The wait for the copy of a context of the device `k + 1` after. -/
theorem wait2 (k : Fin 3) (j : Fin 2) {q' : DmaSem sig} (hq : q' = r2s (nx c k) j)
    {off : Fin 4 → ℕ} {inb} {sp' : Space} {s' : Shape} {e' : EltTy} {sm : Memref sig .tc sp' s' e'} {hs : sm.view.WordExact} {hd' : (sC off inb).view.WordExact}
    {α : Type} {f : PUnit → Prog (TpuEff nD τ sig (Elt F) Λ₀ .tc) α} {Q : α → sProp 𝕄} :
    iprop(records I K ∗ oweA c 12 ∗ recv2 (F := F) c k j)
      ⊢ iprop((oweA c 12 ∗ done2 (F := F) c k j ∗ ptC c (cg (nx c k) j) fullShare (CG I) -∗ wpc c (f ⟨⟩) Q)
        -∗ wpc c (.op (.waitDma2 q' sm (sC off inb) hs hd') f) Q) := by
  exact wait_last I K c hq (by simp only [r2s]; omega) (dut_r2 c (nx c k) j (nx_ne c k)) (pay_r2 I c 0 (nx c k) j) (amt_r2 c (nx c k) j).symm

/-- The wait for the end of a copy of keys and values (big). -/
theorem waitS1_big (k : Fin 3) (hlt : c.val < 2) {q' : DmaSem sig} (hq : q' = s1s k)
    {off : Fin 4 → ℕ} {inb} {sp' : Space} {s' : Shape} {e' : EltTy} {sm : Memref sig .tc sp' s' e'} {hs : sm.view.WordExact} {hd' : (sA_big off inb).view.WordExact}
    {α : Type} {f : PUnit → Prog (TpuEff nD τ sig (Elt F) Λ₀ .tc) α} {Q : α → sProp 𝕄} :
    iprop(records I K ∗ oweA c 12 ∗ back1 (F := F) c k)
      ⊢ iprop((oweA c 12 ∗ home1 I c k -∗ wpc c (f ⟨⟩) Q)
        -∗ wpc c (.op (.waitDma2 q' sm (sA_big off inb) hs hd') f) Q) := by
  exact wait_last I K c hq (by simp only [s1s]; omega) (dut_s1 c k) (pay_s1 I c 0 k) ((amt_s1 c k).trans (if_pos hlt)).symm

/-- The wait for the end of a copy of keys and values (half). -/
theorem waitS1_half (k : Fin 3) (hlt : ¬ c.val < 2) {q' : DmaSem sig} (hq : q' = s1s k)
    {off : Fin 4 → ℕ} {inb} {sp' : Space} {s' : Shape} {e' : EltTy} {sm : Memref sig .tc sp' s' e'} {hs : sm.view.WordExact} {hd' : (sA_half off inb).view.WordExact}
    {α : Type} {f : PUnit → Prog (TpuEff nD τ sig (Elt F) Λ₀ .tc) α} {Q : α → sProp 𝕄} :
    iprop(records I K ∗ oweA c 12 ∗ back1 (F := F) c k)
      ⊢ iprop((oweA c 12 ∗ home1 I c k -∗ wpc c (f ⟨⟩) Q)
        -∗ wpc c (.op (.waitDma2 q' sm (sA_half off inb) hs hd') f) Q) := by
  exact wait_last I K c hq (by simp only [s1s]; omega) (dut_s1 c k) (pay_s1 I c 0 k) ((amt_s1 c k).trans (if_neg hlt)).symm

/-- The wait for the end of a copy of a context. -/
theorem waitS2 (k : Fin 3) (j : Fin 2) {q' : DmaSem sig} (hq : q' = s2s k j)
    {off : Fin 4 → ℕ} {inb} {sp' : Space} {s' : Shape} {e' : EltTy} {sm : Memref sig .tc sp' s' e'} {hs : sm.view.WordExact} {hd' : (sC off inb).view.WordExact}
    {α : Type} {f : PUnit → Prog (TpuEff nD τ sig (Elt F) Λ₀ .tc) α} {Q : α → sProp 𝕄} :
    iprop(records I K ∗ oweA c 12 ∗ back2 (F := F) c k j)
      ⊢ iprop((oweA c 12 ∗ home2 I c k j -∗ wpc c (f ⟨⟩) Q)
        -∗ wpc c (.op (.waitDma2 q' sm (sC off inb) hs hd') f) Q) := by
  exact wait_last I K c hq (by simp only [s2s]; omega) (dut_s2 c k j) (pay_s2 I c 0 k j) (amt_s2 c k j).symm
theorem sem_r2_0_0 : ((cc0_scratch6.slice (Rect.unit (s := S4x2) (k0_off18 c 1#32) S1x1.size (k0_off18_inb c 0))).squeeze S_ squeezes_S1x1_S_).sem = r2s (nx c 0) 0 := by
  revert c; decide +kernel
theorem sem_r2_0_1 : ((cc0_scratch6.slice (Rect.unit (s := S4x2) (k0_off23 c 1#32) S1x1.size (k0_off23_inb c 0))).squeeze S_ squeezes_S1x1_S_).sem = r2s (nx c 0) 1 := by
  revert c; decide +kernel
theorem sub_off21_0 : (mC.access (Rect.unit (s := S4x2x128x64) (k0_off21 c 1#32) S1x1x128x64.size (k0_off21_inb c 0))).setOn Finset.univ ⊆ cg (nx c 0) 0 :=
  accC_cg (nx c 0) 0 (off21_eq c 0)
theorem sub_off25_0 : (mC.access (Rect.unit (s := S4x2x128x64) (k0_off25 c 1#32) S1x1x128x64.size (k0_off25_inb c 0))).setOn Finset.univ ⊆ cg (nx c 0) 1 :=
  accC_cg (nx c 0) 1 (off25_eq c 0)
theorem sem_r2_1_0 : ((cc0_scratch6.slice (Rect.unit (s := S4x2) (k0_off18 c 2#32) S1x1.size (k0_off18_inb c 1))).squeeze S_ squeezes_S1x1_S_).sem = r2s (nx c 1) 0 := by
  revert c; decide +kernel
theorem sem_r2_1_1 : ((cc0_scratch6.slice (Rect.unit (s := S4x2) (k0_off23 c 2#32) S1x1.size (k0_off23_inb c 1))).squeeze S_ squeezes_S1x1_S_).sem = r2s (nx c 1) 1 := by
  revert c; decide +kernel
theorem sub_off21_1 : (mC.access (Rect.unit (s := S4x2x128x64) (k0_off21 c 2#32) S1x1x128x64.size (k0_off21_inb c 1))).setOn Finset.univ ⊆ cg (nx c 1) 0 :=
  accC_cg (nx c 1) 0 (off21_eq c 1)
theorem sub_off25_1 : (mC.access (Rect.unit (s := S4x2x128x64) (k0_off25 c 2#32) S1x1x128x64.size (k0_off25_inb c 1))).setOn Finset.univ ⊆ cg (nx c 1) 1 :=
  accC_cg (nx c 1) 1 (off25_eq c 1)
theorem sem_r2_2_0 : ((cc0_scratch6.slice (Rect.unit (s := S4x2) (k0_off18 c 3#32) S1x1.size (k0_off18_inb c 2))).squeeze S_ squeezes_S1x1_S_).sem = r2s (nx c 2) 0 := by
  revert c; decide +kernel
theorem sem_r2_2_1 : ((cc0_scratch6.slice (Rect.unit (s := S4x2) (k0_off23 c 3#32) S1x1.size (k0_off23_inb c 2))).squeeze S_ squeezes_S1x1_S_).sem = r2s (nx c 2) 1 := by
  revert c; decide +kernel
theorem sub_off21_2 : (mC.access (Rect.unit (s := S4x2x128x64) (k0_off21 c 3#32) S1x1x128x64.size (k0_off21_inb c 2))).setOn Finset.univ ⊆ cg (nx c 2) 0 :=
  accC_cg (nx c 2) 0 (off21_eq c 2)
theorem sub_off25_2 : (mC.access (Rect.unit (s := S4x2x128x64) (k0_off25 c 3#32) S1x1x128x64.size (k0_off25_inb c 2))).setOn Finset.univ ⊆ cg (nx c 2) 1 :=
  accC_cg (nx c 2) 1 (off25_eq c 2)

/-! ## The output -/

/-- The output read, and written, at 128 of its rows. -/
abbrev rdO (off : Fin 2 → ℕ) (inb : ∀ a, off a + S128x512.size a ≤ S256x512.size a) (f : S256x512.Idx → Elt F .f32) : Vec F S128x512 .f32 :=
  ((Memref.whole cc0_stg5_0 : Memref sig .tc .vmem S256x512 .f32).access (Rect.unit (s := S256x512) off S128x512.size inb)).read (Elt F) f
abbrev wrO (off : Fin 2 → ℕ) (inb : ∀ a, off a + S128x512.size a ≤ S256x512.size a) (f : S256x512.Idx → Elt F .f32) (w : Vec F S128x512 .f32) : S256x512.Idx → Elt F .f32 :=
  ((Memref.whole cc0_stg5_0 : Memref sig .tc .vmem S256x512 .f32).access (Rect.unit (s := S256x512) off S128x512.size inb)).write (Elt F) f w Finset.univ
/-- A context read. -/
abbrev rdC (off : Fin 4 → ℕ) (inb : ∀ a, off a + S1x1x128x64.size a ≤ S4x2x128x64.size a) : Vec F S1x1x128x64 .bf16 :=
  (mC.access (Rect.unit (s := S4x2x128x64) off S1x1x128x64.size inb)).read (Elt F) (CG I)
/-- The output weights read at 64 of their rows. -/
abbrev rdW (off : Fin 2 → ℕ) (inb : ∀ a, off a + S64x512.size a ≤ S256x512.size a) : Vec F S64x512 .f32 :=
  ((Memref.whole cc0_stg4_0 : Memref sig .tc .vmem S256x512 .f32).access (Rect.unit (s := S256x512) off S64x512.size inb)).read (Elt F) (I.wo c)

theorem part13_run (v2 : BitVec 32) {Q : (BitVec 32) → sProp 𝕄} : iprop(∀ v, Q v) ⊢ wpc c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part13_eq_skeleton]; unfold k0_part13_skel
  simp only [Prog.lift, Prog.bind_op, Prog.bind_ret, Prog.pure_eq_ret, wp_ret]
  iintro H
  imodintro
  iapply H

theorem part14_run (v2 : BitVec 32) (v828 : BitVec 32) {Q : (BitVec 32) → sProp 𝕄} : iprop(∀ v, Q v) ⊢ wpc c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part14_eq_skeleton]; unfold k0_part14_skel
  simp only [Prog.lift, Prog.bind_op, Prog.bind_ret, Prog.pure_eq_ret, wp_ret]
  iintro H
  imodintro
  iapply H

theorem part15_run (v2 : BitVec 32) (v867 : BitVec 32) {Q : (Σ' (v899 : BitVec 32) (v900 : BitVec 32), BitVec 1) → sProp 𝕄} : iprop(∀ v, Q v) ⊢ wpc c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part15_eq_skeleton]; unfold k0_part15_skel
  simp only [Prog.lift, Prog.bind_op, Prog.bind_ret, Prog.pure_eq_ret, wp_ret]
  iintro H
  imodintro
  iapply H

theorem part16_run (v2 : BitVec 32) {Q : (BitVec 32) → sProp 𝕄} : iprop(∀ v, Q v) ⊢ wpc c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part16_eq_skeleton]; unfold k0_part16_skel
  simp only [Prog.lift, Prog.bind_op, Prog.bind_ret, Prog.pure_eq_ret, wp_ret]
  iintro H
  imodintro
  iapply H

theorem part17_run (v2 : BitVec 32) (v828 : BitVec 32) {Q : (BitVec 32) → sProp 𝕄} : iprop(∀ v, Q v) ⊢ wpc c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part17_eq_skeleton]; unfold k0_part17_skel
  simp only [Prog.lift, Prog.bind_op, Prog.bind_ret, Prog.pure_eq_ret, wp_ret]
  iintro H
  imodintro
  iapply H

theorem part18_run (v2 : BitVec 32) (v867 : BitVec 32) {Q : (Σ' (v899 : BitVec 32) (v900 : BitVec 32), BitVec 1) → sProp 𝕄} : iprop(∀ v, Q v) ⊢ wpc c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part18_eq_skeleton]; unfold k0_part18_skel
  simp only [Prog.lift, Prog.bind_op, Prog.bind_ret, Prog.pure_eq_ret, wp_ret]
  iintro H
  imodintro
  iapply H

theorem part19_run (v2 : BitVec 32) {Q : (BitVec 32) → sProp 𝕄} : iprop(∀ v, Q v) ⊢ wpc c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2) Q := by
  rw [k0_part19_eq_skeleton]; unfold k0_part19_skel
  simp only [Prog.lift, Prog.bind_op, Prog.bind_ret, Prog.pure_eq_ret, wp_ret]
  iintro H
  imodintro
  iapply H

theorem part20_run (v2 : BitVec 32) (v828 : BitVec 32) {Q : (BitVec 32) → sProp 𝕄} : iprop(∀ v, Q v) ⊢ wpc c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v828) Q := by
  rw [k0_part20_eq_skeleton]; unfold k0_part20_skel
  simp only [Prog.lift, Prog.bind_op, Prog.bind_ret, Prog.pure_eq_ret, wp_ret]
  iintro H
  imodintro
  iapply H

theorem part21_run (v2 : BitVec 32) (v867 : BitVec 32) {Q : (Σ' (v899 : BitVec 32) (v900 : BitVec 32), BitVec 1) → sProp 𝕄} : iprop(∀ v, Q v) ⊢ wpc c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v867) Q := by
  rw [k0_part21_eq_skeleton]; unfold k0_part21_skel
  simp only [Prog.lift, Prog.bind_op, Prog.bind_ret, Prog.pure_eq_ret, wp_ret]
  iintro H
  imodintro
  iapply H

theorem part39_run (d0 : Dev nD) (v577 : BitVec 32) {Q : (Σ' (v594 : BitVec 32), BitVec 32) → sProp 𝕄} : iprop(∀ v, Q v) ⊢ wpc c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 d0 v577) Q := by
  rw [k0_part39_eq_skeleton]; unfold k0_part39_skel
  simp only [Prog.lift, Prog.bind_op, Prog.bind_ret, Prog.pure_eq_ret, wp_ret]
  iintro H
  imodintro
  iapply H

set_option maxHeartbeats 800000 in
theorem part35_run {f : S256x512.Idx → Elt F .f32} (v2 : BitVec 32) (v19 : BitVec 32) (v30 : BitVec 32) {Q : (Σ' (v470 : FVec F S128x512 .f32), BitVec 32) → sProp 𝕄} :
    iprop(records I K ∗ oweA c 11 ∗ ptC c (cg c 1) (sh 2) (CG I) ∗ dest2 (F := F) c 2 1 ∗ pt5 c f ∗ pt4 c (I.wo c) ∗ ptC c (cg c 0) shk (CG I) ∗ ptC c (cg c 1) shk (CG I)
      ∗ (∀ w, oweA c 12 ∗ sent2 (F := F) c 2 1
        ∗ pt5 c (wrO (k0_off8 c) (k0_off8_inb c) (wrO (k0_off16 c) (k0_off16_inb c) f k0_pay31) (k0_pay32 (rdC I (k0_off10 c) (k0_off10_inb c)) (rdW I c (k0_off17 c 0#32) (k0_off17_inb c 0))))
        ∗ pt4 c (I.wo c) ∗ ptC c (cg c 0) shk (CG I) ∗ ptC c (cg c 1) shk (CG I)
        -∗ Q ⟨k0_pay33 (rdC I (k0_off13 c) (k0_off13_inb c)) (rdW I c (k0_off17 c 1#32) (k0_off17_inb c 1)), w⟩))
      ⊢ wpc c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v19 v30) Q := by
  rw [k0_part35_eq_skeleton]; unfold k0_part35_skel
  simp only [semSignalWord, semWaitWord, Prog.lift, Prog.bind_op, Prog.bind_ret, Prog.pure_eq_ret]
  iintro ⟨#HR, HO, HC, HD, H5, H4, Hc0, Hc1, Hk⟩
  iapply (send2_run I K c 2 1 (n := 11) (m := 12) (dev_c1 c).2.2 (by decide) (r2_out1 c) (k0_off15_eq c) rfl rfl) $$ [HO HC HD]
  · isplitr; · iexact HR
    iframe HO HC HD
  iintro ⟨HO, HS⟩
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply (wp_load_rect 𝒱₀ (c : Thread nD τ) none Set.univ (accC_cg c 0 (k0_off10_eq c))) $$ [Hc0]
  · iexact Hc0
  iintro Hc0
  iapply (wp_load_rect 𝒱₀ (c : Thread nD τ) none Set.univ (Finset.subset_univ _)) $$ [H4]
  · iexact H4
  iintro H4
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply (wp_load_rect 𝒱₀ (c : Thread nD τ) none Set.univ (accC_cg c 1 (k0_off13_eq c))) $$ [Hc1]
  · iexact Hc1
  iintro Hc1
  iapply (wp_load_rect 𝒱₀ (c : Thread nD τ) none Set.univ (Finset.subset_univ _)) $$ [H4]
  · iexact H4
  iintro H4
  iapply ret_run
  iapply Hk
  iframe HO HS H5 H4 Hc0 Hc1

theorem part36_run {f : S256x512.Idx → Elt F .f32} (v2 : BitVec 32) (v470 : FVec F S128x512 .f32) (v471 : BitVec 32) {Q : (Σ' (v488 : BitVec 32) (v505 : BitVec 32) (v507 : BitVec 32) (v508 : BitVec 32) (v509 : BitVec 1), BitVec 1) → sProp 𝕄} :
    iprop(pt5 c f ∗ (∀ v, pt5 c (wrO (k0_off8 c) (k0_off8_inb c) f (k0_pay34 v470 (rdO (k0_off8 c) (k0_off8_inb c) f))) -∗ Q v))
      ⊢ wpc c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v470 v471) Q := by
  rw [k0_part36_eq_skeleton]; unfold k0_part36_skel
  simp only [semSignalWord, semWaitWord, Prog.lift, Prog.bind_op, Prog.bind_ret, Prog.pure_eq_ret]
  iintro ⟨H5, Hk⟩
  iapply (wp_load_rect 𝒱₀ (c : Thread nD τ) none Set.univ (Finset.subset_univ _)) $$ [H5]
  · iexact H5
  iintro H5
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply ret_run
  iapply Hk
  iexact H5

set_option maxHeartbeats 800000 in
theorem part37_run {f : S256x512.Idx → Elt F .f32} (v488 : BitVec 32) (v505 : BitVec 32) (v507 : BitVec 32) (v508 : BitVec 32) (v509 : BitVec 1) (v510 : BitVec 1) {Q : (Σ' (v516 : BitVec 32), BitVec 32) → sProp 𝕄} :
    iprop(records I K ∗ oweA c 12 ∗ recv2 (F := F) c 0 0 ∗ pt5 c f ∗ pt4 c (I.wo c)
      ∗ (∀ v, oweA c 12 ∗ done2 (F := F) c 0 0 ∗ ptC c (cg (nx c 0) 0) fullShare (CG I) ∗ pt5 c (wrO (k0_off20 c 1#32) (k0_off20_inb c 0) f (k0_pay35 (rdO (k0_off20 c 1#32) (k0_off20_inb c 0) f) (rdC I (k0_off21 c 1#32) (k0_off21_inb c 0)) (rdW I c (k0_off22 c 1#32 0#32) (k0_off22_inb c 0 0)))) ∗ pt4 c (I.wo c) -∗ Q v))
      ⊢ wpc c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v488 v505 v507 v508 v509 v510) Q := by
  rw [k0_part37_eq_skeleton]; unfold k0_part37_skel
  simp only [semSignalWord, semWaitWord, Prog.lift, Prog.bind_op, Prog.bind_ret, Prog.pure_eq_ret]
  iintro ⟨#HR, HO, HV, H5, H4, Hk⟩
  iapply (wait2 I K c 0 0 (sem_r2_0_0 c)) $$ [HO HV]
  · isplitr; · iexact HR
    iframe HO HV
  iintro ⟨HO, Hd, HC⟩
  iapply (wp_load_rect 𝒱₀ (c : Thread nD τ) none Set.univ (Finset.subset_univ _)) $$ [H5]
  · iexact H5
  iintro H5
  iapply (wp_load_rect 𝒱₀ (c : Thread nD τ) none Set.univ (sub_off21_0 c)) $$ [HC]
  · iexact HC
  iintro HC
  iapply (wp_load_rect 𝒱₀ (c : Thread nD τ) none Set.univ (Finset.subset_univ _)) $$ [H4]
  · iexact H4
  iintro H4
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply ret_run
  iapply Hk
  iframe HO Hd HC H5 H4

set_option maxHeartbeats 800000 in
theorem part38_run {f : S256x512.Idx → Elt F .f32} (v2 : BitVec 32) (v488 : BitVec 32) (v505 : BitVec 32) (v516 : BitVec 32) (c1_i32_372 : BitVec 32) {Q : (BitVec 32) → sProp 𝕄} :
    iprop(records I K ∗ oweA c 12 ∗ recv2 (F := F) c 0 1 ∗ pt5 c f ∗ pt4 c (I.wo c)
      ∗ (∀ v, oweA c 12 ∗ done2 (F := F) c 0 1 ∗ ptC c (cg (nx c 0) 1) fullShare (CG I) ∗ pt5 c (wrO (k0_off20 c 1#32) (k0_off20_inb c 0) f (k0_pay36 (rdO (k0_off20 c 1#32) (k0_off20_inb c 0) f) (rdC I (k0_off25 c 1#32) (k0_off25_inb c 0)) (rdW I c (k0_off22 c 1#32 1#32) (k0_off22_inb c 0 1)))) ∗ pt4 c (I.wo c) -∗ Q v))
      ⊢ wpc c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v488 v505 v516 c1_i32_372) Q := by
  rw [k0_part38_eq_skeleton]; unfold k0_part38_skel
  simp only [semSignalWord, semWaitWord, Prog.lift, Prog.bind_op, Prog.bind_ret, Prog.pure_eq_ret]
  iintro ⟨#HR, HO, HV, H5, H4, Hk⟩
  iapply (wait2 I K c 0 1 (sem_r2_0_1 c)) $$ [HO HV]
  · isplitr; · iexact HR
    iframe HO HV
  iintro ⟨HO, Hd, HC⟩
  iapply (wp_load_rect 𝒱₀ (c : Thread nD τ) none Set.univ (Finset.subset_univ _)) $$ [H5]
  · iexact H5
  iintro H5
  iapply (wp_load_rect 𝒱₀ (c : Thread nD τ) none Set.univ (sub_off25_0 c)) $$ [HC]
  · iexact HC
  iintro HC
  iapply (wp_load_rect 𝒱₀ (c : Thread nD τ) none Set.univ (Finset.subset_univ _)) $$ [H4]
  · iexact H4
  iintro H4
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply ret_run
  iapply Hk
  iframe HO Hd HC H5 H4

set_option maxHeartbeats 800000 in
theorem part40_run {f : S256x512.Idx → Elt F .f32} (v577 : BitVec 32) (v594 : BitVec 32) (v605 : BitVec 32) {Q : (Σ' (v639 : BitVec 32) (v642 : FVec F S128x512 .f32), FVec F S128x64 .bf16) → sProp 𝕄} :
    iprop(records I K ∗ oweA c 12 ∗ recv2 (F := F) c 2 0 ∗ recv2 (F := F) c 2 1 ∗ pt5 c f ∗ pt4 c (I.wo c)
      ∗ (∀ w, oweA c 12 ∗ done2 (F := F) c 2 0 ∗ ptC c (cg (nx c 2) 0) fullShare (CG I) ∗ done2 (F := F) c 2 1 ∗ ptC c (cg (nx c 2) 1) fullShare (CG I)
        ∗ pt5 c (wrO (k0_off20 c 3#32) (k0_off20_inb c 2) f (k0_pay37 (rdO (k0_off20 c 3#32) (k0_off20_inb c 2) f) (rdC I (k0_off21 c 3#32) (k0_off21_inb c 2)) (rdW I c (k0_off22 c 3#32 0#32) (k0_off22_inb c 2 0)))) ∗ pt4 c (I.wo c)
        -∗ Q ⟨w, k0_pay38 (rdO (k0_off20 c 3#32) (k0_off20_inb c 2) (wrO (k0_off20 c 3#32) (k0_off20_inb c 2) f (k0_pay37 (rdO (k0_off20 c 3#32) (k0_off20_inb c 2) f) (rdC I (k0_off21 c 3#32) (k0_off21_inb c 2)) (rdW I c (k0_off22 c 3#32 0#32) (k0_off22_inb c 2 0))))), k0_pay39 (rdC I (k0_off25 c 3#32) (k0_off25_inb c 2))⟩))
      ⊢ wpc c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v577 v594 v605) Q := by
  rw [k0_part40_eq_skeleton]; unfold k0_part40_skel
  simp only [semSignalWord, semWaitWord, Prog.lift, Prog.bind_op, Prog.bind_ret, Prog.pure_eq_ret]
  iintro ⟨#HR, HO, HV, HV', H5, H4, Hk⟩
  iapply (wait2 I K c 2 0 (sem_r2_2_0 c)) $$ [HO HV]
  · isplitr; · iexact HR
    iframe HO HV
  iintro ⟨HO, Hd, HC⟩
  iapply (wp_load_rect 𝒱₀ (c : Thread nD τ) none Set.univ (Finset.subset_univ _)) $$ [H5]
  · iexact H5
  iintro H5
  iapply (wp_load_rect 𝒱₀ (c : Thread nD τ) none Set.univ (sub_off21_2 c)) $$ [HC]
  · iexact HC
  iintro HC
  iapply (wp_load_rect 𝒱₀ (c : Thread nD τ) none Set.univ (Finset.subset_univ _)) $$ [H4]
  · iexact H4
  iintro H4
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply (wait2 I K c 2 1 (sem_r2_2_1 c)) $$ [HO HV']
  · isplitr; · iexact HR
    isplitl [HO]; · iexact HO
    iexact HV'
  iintro ⟨HO, He, HD⟩
  iapply (wp_load_rect 𝒱₀ (c : Thread nD τ) none Set.univ (Finset.subset_univ _)) $$ [H5]
  · iexact H5
  iintro H5
  iapply (wp_load_rect 𝒱₀ (c : Thread nD τ) none Set.univ (sub_off25_2 c)) $$ [HD]
  · iexact HD
  iintro HD
  iapply ret_run
  iapply Hk
  iframe HO Hd HC He HD H5 H4

theorem part41_run {f : S256x512.Idx → Elt F .f32} (v2 : BitVec 32) (v605 : BitVec 32) (v639 : BitVec 32) (v642 : FVec F S128x512 .f32) (v645 : FVec F S128x64 .bf16) {Q : (Σ' (v666 : BitVec 32) (v683 : BitVec 32) (c2_i32_463 : BitVec 32), BitVec 32) → sProp 𝕄} :
    iprop(pt5 c f ∗ pt4 c (I.wo c) ∗ (∀ v, pt5 c (wrO (k0_off20 c 3#32) (k0_off20_inb c 2) f (k0_pay40 v642 v645 (rdW I c (k0_off22 c 3#32 1#32) (k0_off22_inb c 2 1)))) ∗ pt4 c (I.wo c) -∗ Q v))
      ⊢ wpc c (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v605 v639 v642 v645) Q := by
  rw [k0_part41_eq_skeleton]; unfold k0_part41_skel
  simp only [semSignalWord, semWaitWord, Prog.lift, Prog.bind_op, Prog.bind_ret, Prog.pure_eq_ret]
  iintro ⟨H5, H4, Hk⟩
  iapply (wp_load_rect 𝒱₀ (c : Thread nD τ) none Set.univ (Finset.subset_univ _)) $$ [H4]
  · iexact H4
  iintro H4
  iapply (wp_load_rect 𝒱₀ (c : Thread nD τ) none Set.univ (Finset.subset_univ _)) $$ [H5]
  · iexact H5
  iintro H5
  iapply (wp_store 𝒱₀ (c : Thread nD τ) none Set.univ (Finset.subset_univ _)) $$ [H5]
  · iexact H5
  iintro H5
  iapply ret_run
  iapply Hk
  iframe H5 H4

set_option maxHeartbeats 800000 in
theorem part42_run {f : S256x512.Idx → Elt F .f32} (v666 : BitVec 32) (v683 : BitVec 32) (c2_i32_463 : BitVec 32) (c0_i32_464 : BitVec 32) {Q : (Σ' (v694 : BitVec 32), FVec F S128x512 .f32) → sProp 𝕄} :
    iprop(records I K ∗ oweA c 12 ∗ recv2 (F := F) c 1 0 ∗ pt5 c f ∗ pt4 c (I.wo c)
      ∗ (∀ w, oweA c 12 ∗ done2 (F := F) c 1 0 ∗ ptC c (cg (nx c 1) 0) fullShare (CG I) ∗ pt5 c f ∗ pt4 c (I.wo c)
        -∗ Q ⟨w, k0_pay41 (rdO (k0_off20 c 2#32) (k0_off20_inb c 1) f) (rdC I (k0_off21 c 2#32) (k0_off21_inb c 1)) (rdW I c (k0_off22 c 2#32 0#32) (k0_off22_inb c 1 0))⟩))
      ⊢ wpc c (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v666 v683 c2_i32_463 c0_i32_464) Q := by
  rw [k0_part42_eq_skeleton]; unfold k0_part42_skel
  simp only [semSignalWord, semWaitWord, Prog.lift, Prog.bind_op, Prog.bind_ret, Prog.pure_eq_ret]
  iintro ⟨#HR, HO, HV, H5, H4, Hk⟩
  iapply (wait2 I K c 1 0 (sem_r2_1_0 c)) $$ [HO HV]
  · isplitr; · iexact HR
    iframe HO HV
  iintro ⟨HO, Hd, HC⟩
  iapply (wp_load_rect 𝒱₀ (c : Thread nD τ) none Set.univ (Finset.subset_univ _)) $$ [H5]
  · iexact H5
  iintro H5
  iapply (wp_load_rect 𝒱₀ (c : Thread nD τ) none Set.univ (sub_off21_1 c)) $$ [HC]
  · iexact HC
  iintro HC
  iapply (wp_load_rect 𝒱₀ (c : Thread nD τ) none Set.univ (Finset.subset_univ _)) $$ [H4]
  · iexact H4
  iintro H4
  iapply ret_run
  iapply Hk
  iframe HO Hd HC H5 H4

set_option maxHeartbeats 1600000 in
theorem part43_run {f : S256x512.Idx → Elt F .f32} (v2 : BitVec 32) (v666 : BitVec 32) (v683 : BitVec 32) (v694 : BitVec 32) (v717 : FVec F S128x512 .f32) {Q : (Σ' (v749 : BitVec 32), BitVec 32) → sProp 𝕄} :
    iprop(records I K ∗ oweA c 12 ∗ recv2 (F := F) c 1 1 ∗ pt5 c f ∗ pt4 c (I.wo c) ∗ back1 (F := F) c 0 ∗ back1 (F := F) c 1 ∗ back1 (F := F) c 2
      ∗ (∀ v, oweA c 12 ∗ done2 (F := F) c 1 1 ∗ ptC c (cg (nx c 1) 1) fullShare (CG I)
        ∗ pt5 c (wrO (k0_off20 c 2#32) (k0_off20_inb c 1) (wrO (k0_off20 c 2#32) (k0_off20_inb c 1) f v717) (k0_pay42 (rdO (k0_off20 c 2#32) (k0_off20_inb c 1) (wrO (k0_off20 c 2#32) (k0_off20_inb c 1) f v717)) (rdC I (k0_off25 c 2#32) (k0_off25_inb c 1)) (rdW I c (k0_off22 c 2#32 1#32) (k0_off22_inb c 1 1)))) ∗ pt4 c (I.wo c)
        ∗ (if c.val < 2 then iprop(home1 I c 0 ∗ home1 I c 1 ∗ home1 I c 2) else iprop(back1 (F := F) c 0 ∗ back1 (F := F) c 1 ∗ back1 (F := F) c 2)) -∗ Q v))
      ⊢ wpc c (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v666 v683 v694 v717) Q := by
  rw [k0_part43_eq_skeleton]; unfold k0_part43_skel
  simp only [semSignalWord, semWaitWord, Prog.lift, Prog.bind_op, Prog.bind_ret, Prog.pure_eq_ret]
  by_cases h : c.val < 2
  · rw [if_pos h, dif_pos ((cond8_iff c).mpr h)]
    iintro ⟨#HR, HO, HV, H5, H4, HA0, HA1, HA2, Hk⟩
    iapply (wp_load_rect 𝒱₀ (c : Thread nD τ) none Set.univ (Finset.subset_univ _)) $$ [H5]
    · iexact H5
    iintro H5
    iapply (wp_store 𝒱₀ (c : Thread nD τ) none Set.univ (Finset.subset_univ _)) $$ [H5]
    · iexact H5
    iintro H5
    iapply (wait2 I K c 1 1 (sem_r2_1_1 c)) $$ [HO HV]
    · isplitr; · iexact HR
      iframe HO HV
    iintro ⟨HO, Hd, HC⟩
    iapply (wp_load_rect 𝒱₀ (c : Thread nD τ) none Set.univ (Finset.subset_univ _)) $$ [H5]
    · iexact H5
    iintro H5
    iapply (wp_load_rect 𝒱₀ (c : Thread nD τ) none Set.univ (sub_off25_1 c)) $$ [HC]
    · iexact HC
    iintro HC
    iapply (wp_load_rect 𝒱₀ (c : Thread nD τ) none Set.univ (Finset.subset_univ _)) $$ [H4]
    · iexact H4
    iintro H4
    iapply (wp_load_rect 𝒱₀ (c : Thread nD τ) none Set.univ (Finset.subset_univ _)) $$ [H5]
    · iexact H5
    iintro H5
    iapply (wp_store 𝒱₀ (c : Thread nD τ) none Set.univ (Finset.subset_univ _)) $$ [H5]
    · iexact H5
    iintro H5
    simp only [Prog.bind_op, Prog.bind_ret, wp_bind]
    iapply part13_run; iintro %v13
    iapply part14_run; iintro %v14
    iapply part15_run; iintro %v15
    obtain ⟨_, _, _⟩ := v15
    iapply (waitS1_big I K c 0 h rfl) $$ [HO HA0]
    · isplitr; · iexact HR
      iframe HO HA0
    iintro ⟨HO, HA0⟩
    iapply (waitS1_big I K c 1 h rfl) $$ [HO HA1]
    · isplitr; · iexact HR
      iframe HO HA1
    iintro ⟨HO, HA1⟩
    iapply (waitS1_big I K c 2 h rfl) $$ [HO HA2]
    · isplitr; · iexact HR
      iframe HO HA2
    iintro ⟨HO, HA2⟩
    iapply ret_run
    iapply Hk
    iframe HO Hd HC H5 H4 HA0 HA1 HA2
  · rw [if_neg h, dif_neg (fun e => h ((cond8_iff c).mp e))]
    iintro ⟨#HR, HO, HV, H5, H4, HA0, HA1, HA2, Hk⟩
    iapply (wp_load_rect 𝒱₀ (c : Thread nD τ) none Set.univ (Finset.subset_univ _)) $$ [H5]
    · iexact H5
    iintro H5
    iapply (wp_store 𝒱₀ (c : Thread nD τ) none Set.univ (Finset.subset_univ _)) $$ [H5]
    · iexact H5
    iintro H5
    iapply (wait2 I K c 1 1 (sem_r2_1_1 c)) $$ [HO HV]
    · isplitr; · iexact HR
      iframe HO HV
    iintro ⟨HO, Hd, HC⟩
    iapply (wp_load_rect 𝒱₀ (c : Thread nD τ) none Set.univ (Finset.subset_univ _)) $$ [H5]
    · iexact H5
    iintro H5
    iapply (wp_load_rect 𝒱₀ (c : Thread nD τ) none Set.univ (sub_off25_1 c)) $$ [HC]
    · iexact HC
    iintro HC
    iapply (wp_load_rect 𝒱₀ (c : Thread nD τ) none Set.univ (Finset.subset_univ _)) $$ [H4]
    · iexact H4
    iintro H4
    iapply (wp_load_rect 𝒱₀ (c : Thread nD τ) none Set.univ (Finset.subset_univ _)) $$ [H5]
    · iexact H5
    iintro H5
    iapply (wp_store 𝒱₀ (c : Thread nD τ) none Set.univ (Finset.subset_univ _)) $$ [H5]
    · iexact H5
    iintro H5
    iapply ret_run
    iapply Hk
    iframe HO Hd HC H5 H4 HA0 HA1 HA2

set_option maxHeartbeats 1600000 in
theorem part44_run (v2 : BitVec 32) (v749 : BitVec 32) (c0_i32_513 : BitVec 32) {Q : (PUnit) → sProp 𝕄} :
    iprop(records I K ∗ oweA c 12 ∗ (if c.val < 2 then iprop(home1 I c 0 ∗ home1 I c 1 ∗ home1 I c 2) else iprop(back1 (F := F) c 0 ∗ back1 (F := F) c 1 ∗ back1 (F := F) c 2))
      ∗ back2 (F := F) c 0 0 ∗ back2 (F := F) c 1 0 ∗ back2 (F := F) c 2 0
      ∗ (oweA c 12 ∗ home1 I c 0 ∗ home1 I c 1 ∗ home1 I c 2 ∗ home2 I c 0 0 ∗ home2 I c 1 0 ∗ home2 I c 2 0 -∗ Q ⟨⟩))
      ⊢ wpc c (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v749 c0_i32_513) Q := by
  rw [k0_part44_eq_skeleton]; unfold k0_part44_skel
  simp only [semSignalWord, semWaitWord, Prog.lift, Prog.bind_op, Prog.bind_ret, Prog.pure_eq_ret]
  have hc : c.val < 4 := c.isLt
  obtain h | h | h : c.val < 2 ∨ c.val = 2 ∨ c.val = 3 := by omega
  · rw [if_pos h, dif_neg (fun e => absurd ((cond9_iff c).mp e) (by omega)), dif_neg (fun e => absurd ((cond10_iff c).mp e) (by omega))]
    iintro ⟨#HR, HO, ⟨HA0, HA1, HA2⟩, HS0, HS1, HS2, Hk⟩
    iapply (waitS2 I K c 0 0 rfl) $$ [HO HS0]
    · isplitr; · iexact HR
      iframe HO HS0
    iintro ⟨HO, HS0⟩
    iapply (waitS2 I K c 1 0 rfl) $$ [HO HS1]
    · isplitr; · iexact HR
      iframe HO HS1
    iintro ⟨HO, HS1⟩
    iapply (waitS2 I K c 2 0 rfl) $$ [HO HS2]
    · isplitr; · iexact HR
      iframe HO HS2
    iintro ⟨HO, HS2⟩
    iapply ret_run
    iapply Hk
    iframe HO HA0 HA1 HA2 HS0 HS1 HS2
  · rw [if_neg (by omega), dif_pos ((cond9_iff c).mpr h), dif_neg (fun e => absurd ((cond10_iff c).mp e) (by omega))]
    iintro ⟨#HR, HO, ⟨HA0, HA1, HA2⟩, HS0, HS1, HS2, Hk⟩
    simp only [Prog.bind_op, Prog.bind_ret, wp_bind]
    iapply part16_run; iintro %v16
    iapply part17_run; iintro %v17
    iapply part18_run; iintro %v18
    obtain ⟨_, _, _⟩ := v18
    iapply (waitS1_half I K c 0 (by omega) rfl) $$ [HO HA0]
    · isplitr; · iexact HR
      iframe HO HA0
    iintro ⟨HO, HA0⟩
    iapply (waitS1_half I K c 1 (by omega) rfl) $$ [HO HA1]
    · isplitr; · iexact HR
      iframe HO HA1
    iintro ⟨HO, HA1⟩
    iapply (waitS1_half I K c 2 (by omega) rfl) $$ [HO HA2]
    · isplitr; · iexact HR
      iframe HO HA2
    iintro ⟨HO, HA2⟩
    iapply (waitS2 I K c 0 0 rfl) $$ [HO HS0]
    · isplitr; · iexact HR
      iframe HO HS0
    iintro ⟨HO, HS0⟩
    iapply (waitS2 I K c 1 0 rfl) $$ [HO HS1]
    · isplitr; · iexact HR
      iframe HO HS1
    iintro ⟨HO, HS1⟩
    iapply (waitS2 I K c 2 0 rfl) $$ [HO HS2]
    · isplitr; · iexact HR
      iframe HO HS2
    iintro ⟨HO, HS2⟩
    iapply ret_run
    iapply Hk
    iframe HO HA0 HA1 HA2 HS0 HS1 HS2
  · rw [if_neg (by omega), dif_neg (fun e => absurd ((cond9_iff c).mp e) (by omega)), dif_pos ((cond10_iff c).mpr h)]
    iintro ⟨#HR, HO, ⟨HA0, HA1, HA2⟩, HS0, HS1, HS2, Hk⟩
    simp only [Prog.bind_op, Prog.bind_ret, wp_bind]
    iapply part19_run; iintro %v19
    iapply part20_run; iintro %v20
    iapply part21_run; iintro %v21
    obtain ⟨_, _, _⟩ := v21
    iapply (waitS1_half I K c 0 (by omega) rfl) $$ [HO HA0]
    · isplitr; · iexact HR
      iframe HO HA0
    iintro ⟨HO, HA0⟩
    iapply (waitS1_half I K c 1 (by omega) rfl) $$ [HO HA1]
    · isplitr; · iexact HR
      iframe HO HA1
    iintro ⟨HO, HA1⟩
    iapply (waitS1_half I K c 2 (by omega) rfl) $$ [HO HA2]
    · isplitr; · iexact HR
      iframe HO HA2
    iintro ⟨HO, HA2⟩
    iapply (waitS2 I K c 0 0 rfl) $$ [HO HS0]
    · isplitr; · iexact HR
      iframe HO HS0
    iintro ⟨HO, HS0⟩
    iapply (waitS2 I K c 1 0 rfl) $$ [HO HS1]
    · isplitr; · iexact HR
      iframe HO HS1
    iintro ⟨HO, HS1⟩
    iapply (waitS2 I K c 2 0 rfl) $$ [HO HS2]
    · isplitr; · iexact HR
      iframe HO HS2
    iintro ⟨HO, HS2⟩
    iapply ret_run
    iapply Hk
    iframe HO HA0 HA1 HA2 HS0 HS1 HS2

end Run

end Cert.KernelIdeal.Talk
end
-- ==== Proof.Body5.lean ====
/-
  One device's whole run of the kernel.
-/
module

public import proofs.«01_k».proof.Proof.Body4

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

section Run
variable (I : Inp F) (K : GSem nD τ sig → ℕ) (c : Dev nD)

/-- Something said of every counter of the kernel, neighbour by neighbour. -/
abbrev all21 (Ψ : DmaSem sig → sProp 𝕄) : sProp 𝕄 :=
  iprop(Ψ (s1s 0) ∗ Ψ (s2s 0 0) ∗ Ψ (s2s 0 1) ∗ Ψ (r1s (nx c 0)) ∗ Ψ (r2s (nx c 0) 0) ∗ Ψ (r2s (nx c 0) 1) ∗ Ψ (s1s 1) ∗ Ψ (s2s 1 0) ∗ Ψ (s2s 1 1) ∗ Ψ (r1s (nx c 1)) ∗ Ψ (r2s (nx c 1) 0) ∗ Ψ (r2s (nx c 1) 1) ∗ Ψ (s1s 2) ∗ Ψ (s2s 2 0) ∗ Ψ (s2s 2 1) ∗ Ψ (r1s (nx c 2)) ∗ Ψ (r2s (nx c 2) 0) ∗ Ψ (r2s (nx c 2) 1) ∗ Ψ (r1s c) ∗ Ψ (r2s c 0) ∗ Ψ (r2s c 1))
/-- A counter whose round has begun. -/
abbrev opn (q : DmaSem sig) : sProp 𝕄 := iprop(atPos ER (dc c q) 0 ∅ 0 ∗ reached ER (dc c q) 0)
/-- The duties the device pays at, or for, the device `k + 1` after. -/
def kit (k : Fin 3) : sProp 𝕄 :=
  iprop(dutyTok ER (bar (nx c k)) 0 c ∗ dutyTok ER (dc c (s1s k)) 0 0 ∗ dutyTok ER (dc (nx c k) (r1s c)) 0 0
    ∗ dutyTok ER (dc c (s2s k 0)) 0 0 ∗ dutyTok ER (dc (nx c k) (r2s c 0)) 0 0 ∗ dutyTok ER (dc c (s2s k 1)) 0 0 ∗ dutyTok ER (dc (nx c k) (r2s c 1)) 0 0)
/-- What the device may wait for from the device `k + 1` after. -/
def due (k : Fin 3) : sProp 𝕄 :=
  iprop(cred (tallyAt (dc c (r1s (nx c k))) () (amt c (.dma (r1s (nx c k)))))
    ∗ cred (tallyAt (dc c (r2s (nx c k) 0)) () (amt c (.dma (r2s (nx c k) 0)))) ∗ cred (tallyAt (dc c (r2s (nx c k) 1)) () (amt c (.dma (r2s (nx c k) 1)))))

/-! ## The counters, at the end -/

/-- Where every counter stands when the run is over. -/
abbrev ended : sProp 𝕄 :=
  iprop(atPos ER (dc c (s1s 0)) (0 + 1) ∅ 0 ∗ atPos ER (dc c (s2s 0 0)) (0 + 1) ∅ 0 ∗ atPos ER (dc c (s2s 0 1)) (0 + 1) ∅ 0 ∗ atPos ER (dc c (r1s (nx c 0))) (0 + 1) ∅ 0 ∗ atPos ER (dc c (r2s (nx c 0) 0)) (0 + 1) ∅ 0 ∗ atPos ER (dc c (r2s (nx c 0) 1)) (0 + 1) ∅ 0 ∗ atPos ER (dc c (s1s 1)) (0 + 1) ∅ 0 ∗ atPos ER (dc c (s2s 1 0)) (0 + 1) ∅ 0 ∗ atPos ER (dc c (s2s 1 1)) (0 + 1) ∅ 0 ∗ atPos ER (dc c (r1s (nx c 1))) (0 + 1) ∅ 0 ∗ atPos ER (dc c (r2s (nx c 1) 0)) (0 + 1) ∅ 0 ∗ atPos ER (dc c (r2s (nx c 1) 1)) (0 + 1) ∅ 0 ∗ atPos ER (dc c (s1s 2)) (0 + 1) ∅ 0 ∗ atPos ER (dc c (s2s 2 0)) (0 + 1) ∅ 0 ∗ atPos ER (dc c (s2s 2 1)) (0 + 1) ∅ 0 ∗ atPos ER (dc c (r1s (nx c 2))) (0 + 1) ∅ 0 ∗ atPos ER (dc c (r2s (nx c 2) 0)) (0 + 1) ∅ 0 ∗ atPos ER (dc c (r2s (nx c 2) 1)) (0 + 1) ∅ 0 ∗ atPos ER (dc c (r1s c)) 0 ∅ 0 ∗ atPos ER (dc c (r2s c 0)) 0 ∅ 0 ∗ atPos ER (dc c (r2s c 1)) 0 ∅ 0)

set_option maxHeartbeats 1000000 in
theorem close_all : iprop(records I K ∗ atPos ER (bar c) (0 + 1) ∅ 0 ∗ ended (F := F) c)
    ⊢ (|={Set.univ}=> iprop(semVal (bar c) 0 ∗ all21 (F := F) c fun q => semVal (dc c q) 0) : sProp 𝕄) := by
  iintro ⟨#HR, Hb, H0, H1, H2, H3, H4, H5, H6, H7, H8, H9, H10, H11, H12, H13, H14, H15, H16, H17, H18, H19, H20⟩
  imod (close_bar I K c) $$ [Hb] with Hb
  · isplitr; · iexact HR
    iexact Hb
  imod (close_cell I K c (s1s 0) (by simp only [s1s, s2s, r1s, r2s]; omega)) $$ [H0] with H0
  · isplitr; · iexact HR
    iexact H0
  imod (close_cell I K c (s2s 0 0) (by simp only [s1s, s2s, r1s, r2s]; omega)) $$ [H1] with H1
  · isplitr; · iexact HR
    iexact H1
  imod (close_cell I K c (s2s 0 1) (by simp only [s1s, s2s, r1s, r2s]; omega)) $$ [H2] with H2
  · isplitr; · iexact HR
    iexact H2
  imod (close_cell I K c (r1s (nx c 0)) (by simp only [s1s, s2s, r1s, r2s]; omega)) $$ [H3] with H3
  · isplitr; · iexact HR
    iexact H3
  imod (close_cell I K c (r2s (nx c 0) 0) (by simp only [s1s, s2s, r1s, r2s]; omega)) $$ [H4] with H4
  · isplitr; · iexact HR
    iexact H4
  imod (close_cell I K c (r2s (nx c 0) 1) (by simp only [s1s, s2s, r1s, r2s]; omega)) $$ [H5] with H5
  · isplitr; · iexact HR
    iexact H5
  imod (close_cell I K c (s1s 1) (by simp only [s1s, s2s, r1s, r2s]; omega)) $$ [H6] with H6
  · isplitr; · iexact HR
    iexact H6
  imod (close_cell I K c (s2s 1 0) (by simp only [s1s, s2s, r1s, r2s]; omega)) $$ [H7] with H7
  · isplitr; · iexact HR
    iexact H7
  imod (close_cell I K c (s2s 1 1) (by simp only [s1s, s2s, r1s, r2s]; omega)) $$ [H8] with H8
  · isplitr; · iexact HR
    iexact H8
  imod (close_cell I K c (r1s (nx c 1)) (by simp only [s1s, s2s, r1s, r2s]; omega)) $$ [H9] with H9
  · isplitr; · iexact HR
    iexact H9
  imod (close_cell I K c (r2s (nx c 1) 0) (by simp only [s1s, s2s, r1s, r2s]; omega)) $$ [H10] with H10
  · isplitr; · iexact HR
    iexact H10
  imod (close_cell I K c (r2s (nx c 1) 1) (by simp only [s1s, s2s, r1s, r2s]; omega)) $$ [H11] with H11
  · isplitr; · iexact HR
    iexact H11
  imod (close_cell I K c (s1s 2) (by simp only [s1s, s2s, r1s, r2s]; omega)) $$ [H12] with H12
  · isplitr; · iexact HR
    iexact H12
  imod (close_cell I K c (s2s 2 0) (by simp only [s1s, s2s, r1s, r2s]; omega)) $$ [H13] with H13
  · isplitr; · iexact HR
    iexact H13
  imod (close_cell I K c (s2s 2 1) (by simp only [s1s, s2s, r1s, r2s]; omega)) $$ [H14] with H14
  · isplitr; · iexact HR
    iexact H14
  imod (close_cell I K c (r1s (nx c 2)) (by simp only [s1s, s2s, r1s, r2s]; omega)) $$ [H15] with H15
  · isplitr; · iexact HR
    iexact H15
  imod (close_cell I K c (r2s (nx c 2) 0) (by simp only [s1s, s2s, r1s, r2s]; omega)) $$ [H16] with H16
  · isplitr; · iexact HR
    iexact H16
  imod (close_cell I K c (r2s (nx c 2) 1) (by simp only [s1s, s2s, r1s, r2s]; omega)) $$ [H17] with H17
  · isplitr; · iexact HR
    iexact H17
  imod (close_idle I K c (r1s c) (by simp only [s1s, s2s, r1s, r2s]; omega) (dut_r1_self c)) $$ [H18] with H18
  · isplitr; · iexact HR
    iexact H18
  imod (close_idle I K c (r2s c 0) (by simp only [s1s, s2s, r1s, r2s]; omega) (dut_r2_self c 0)) $$ [H19] with H19
  · isplitr; · iexact HR
    iexact H19
  imod (close_idle I K c (r2s c 1) (by simp only [s1s, s2s, r1s, r2s]; omega) (dut_r2_self c 1)) $$ [H20] with H20
  · isplitr; · iexact HR
    iexact H20
  imodintro
  iframe Hb H0 H1 H2 H3 H4 H5 H6 H7 H8 H9 H10 H11 H12 H13 H14 H15 H16 H17 H18 H19 H20

theorem join_C : iprop(ptC c (cg c 0) (sh 0) (CG I) ∗ ptC c (cg c 0) (sh 1) (CG I) ∗ ptC c (cg c 0) (sh 2) (CG I) ∗ ptC c (cg c 0) shk (CG I)
      ∗ ptC c (cg c 1) (sh 0) (CG I) ∗ ptC c (cg c 1) (sh 1) (CG I) ∗ ptC c (cg c 1) (sh 2) (CG I) ∗ ptC c (cg c 1) shk (CG I)
      ∗ ptC c (cg (nx c 0) 0) fullShare (CG I) ∗ ptC c (cg (nx c 0) 1) fullShare (CG I) ∗ ptC c (cg (nx c 1) 0) fullShare (CG I) ∗ ptC c (cg (nx c 1) 1) fullShare (CG I) ∗ ptC c (cg (nx c 2) 0) fullShare (CG I) ∗ ptC c (cg (nx c 2) 1) fullShare (CG I))
    ⊢ ptC c Finset.univ fullShare (CG I) := by
  iintro ⟨H0, H1, H2, H3, H4, H5, H6, H7, H8, H9, H10, H11, H12, H13⟩
  iapply (open_C c (CG I)).2
  isplitl [H0 H1 H2 H3 H4 H5 H6 H7]
  · isplitl [H0 H1 H2 H3]
    · iapply (quarters _ _).2
      iframe H0 H1
      isplitl [H2] <;> iassumption
    · iapply (quarters _ _).2
      iframe H4 H5
      isplitl [H6] <;> iassumption
  isplitl [H8 H9]; · isplitl [H8] <;> iassumption
  isplitl [H10 H11]; · isplitl [H10] <;> iassumption
  isplitl [H12] <;> iassumption

/-! ## The output, stage by stage -/

theorem rdC_ld (off inb) : rdC I off inb = ld (s := S4x2x128x64) off S1x1x128x64.size inb (CG I) := rfl
theorem rdW_ld (off inb) : rdW I c off inb = ld (s := S256x512) off S64x512.size inb (I.wo c) := rfl
theorem rdO_ld (off inb) (f : S256x512.Idx → Elt F .f32) : rdO off inb f = ld (s := S256x512) off S128x512.size inb f := rfl

theorem out0_eq : wrO (k0_off8 c) (k0_off8_inb c) (wrO (k0_off8 c) (k0_off8_inb c) (wrO (k0_off16 c) (k0_off16_inb c) (I.o c) k0_pay31) (k0_pay32 (rdC I (k0_off10 c) (k0_off10_inb c)) (rdW I c (k0_off17 c 0#32) (k0_off17_inb c 0))))
    (k0_pay34 (k0_pay33 (rdC I (k0_off13 c) (k0_off13_inb c)) (rdW I c (k0_off17 c 1#32) (k0_off17_inb c 1)))
      (rdO (k0_off8 c) (k0_off8_inb c) (wrO (k0_off8 c) (k0_off8_inb c) (wrO (k0_off16 c) (k0_off16_inb c) (I.o c) k0_pay31) (k0_pay32 (rdC I (k0_off10 c) (k0_off10_inb c)) (rdW I c (k0_off17 c 0#32) (k0_off17_inb c 0))))))
    = out0 I c := by
  unfold out0; simp only [rdC_ld, rdW_ld, rdO_ld]
theorem out1_eq : wrO (k0_off20 c 1#32) (k0_off20_inb c 0) (wrO (k0_off20 c 1#32) (k0_off20_inb c 0) (out0 I c) (k0_pay35 (rdO (k0_off20 c 1#32) (k0_off20_inb c 0) (out0 I c)) (rdC I (k0_off21 c 1#32) (k0_off21_inb c 0)) (rdW I c (k0_off22 c 1#32 0#32) (k0_off22_inb c 0 0)))) (k0_pay36 (rdO (k0_off20 c 1#32) (k0_off20_inb c 0) (wrO (k0_off20 c 1#32) (k0_off20_inb c 0) (out0 I c) (k0_pay35 (rdO (k0_off20 c 1#32) (k0_off20_inb c 0) (out0 I c)) (rdC I (k0_off21 c 1#32) (k0_off21_inb c 0)) (rdW I c (k0_off22 c 1#32 0#32) (k0_off22_inb c 0 0))))) (rdC I (k0_off25 c 1#32) (k0_off25_inb c 0)) (rdW I c (k0_off22 c 1#32 1#32) (k0_off22_inb c 0 1)))
    = out1 I c := by
  unfold out1; simp only [rdC_ld, rdW_ld, rdO_ld]
theorem out2_eq : wrO (k0_off20 c 3#32) (k0_off20_inb c 2) (wrO (k0_off20 c 3#32) (k0_off20_inb c 2) (out1 I c) (k0_pay37 (rdO (k0_off20 c 3#32) (k0_off20_inb c 2) (out1 I c)) (rdC I (k0_off21 c 3#32) (k0_off21_inb c 2)) (rdW I c (k0_off22 c 3#32 0#32) (k0_off22_inb c 2 0)))) (k0_pay40 (k0_pay38 (rdO (k0_off20 c 3#32) (k0_off20_inb c 2) (wrO (k0_off20 c 3#32) (k0_off20_inb c 2) (out1 I c) (k0_pay37 (rdO (k0_off20 c 3#32) (k0_off20_inb c 2) (out1 I c)) (rdC I (k0_off21 c 3#32) (k0_off21_inb c 2)) (rdW I c (k0_off22 c 3#32 0#32) (k0_off22_inb c 2 0)))))) (k0_pay39 (rdC I (k0_off25 c 3#32) (k0_off25_inb c 2))) (rdW I c (k0_off22 c 3#32 1#32) (k0_off22_inb c 2 1)))
    = out2 I c := by
  unfold out2; simp only [rdC_ld, rdW_ld, rdO_ld]
theorem out3_eq : wrO (k0_off20 c 2#32) (k0_off20_inb c 1) (wrO (k0_off20 c 2#32) (k0_off20_inb c 1) (out2 I c) (k0_pay41 (rdO (k0_off20 c 2#32) (k0_off20_inb c 1) (out2 I c)) (rdC I (k0_off21 c 2#32) (k0_off21_inb c 1)) (rdW I c (k0_off22 c 2#32 0#32) (k0_off22_inb c 1 0)))) (k0_pay42 (rdO (k0_off20 c 2#32) (k0_off20_inb c 1) (wrO (k0_off20 c 2#32) (k0_off20_inb c 1) (out2 I c) (k0_pay41 (rdO (k0_off20 c 2#32) (k0_off20_inb c 1) (out2 I c)) (rdC I (k0_off21 c 2#32) (k0_off21_inb c 1)) (rdW I c (k0_off22 c 2#32 0#32) (k0_off22_inb c 1 0))))) (rdC I (k0_off25 c 2#32) (k0_off25_inb c 1)) (rdW I c (k0_off22 c 2#32 1#32) (k0_off22_inb c 1 1)))
    = out3 I c := by
  unfold out3; simp only [rdC_ld, rdW_ld, rdO_ld]
theorem see {f g : S256x512.Idx → Elt F .f32} (h : f = g) : pt5 c f ⊢ (pt5 c g : sProp 𝕄) := Entails.of_eq (congrArg (pt5 c) h)

/-! ## The run -/

/-- What a run starts from, beside the buffers. -/
def before : sProp 𝕄 :=
  iprop(oweA c 0 ∗ cred (tallyAt (bar c) () 3) ∗ atPos ER (bar c) 0 ∅ 0 ∗ (kit (F := F) c 0 ∗ kit (F := F) c 1 ∗ kit (F := F) c 2)
    ∗ (due (F := F) c 0 ∗ due (F := F) c 1 ∗ due (F := F) c 2) ∗ all21 c (opn (F := F) c))
/-- The buffers the kernel reads. -/
def reads : sProp 𝕄 := iprop(pt0 c (I.x c) ∗ pt1 c (I.wq c) ∗ pt2 c (I.k c) ∗ pt3 c (I.v c) ∗ pt4 c (I.wo c))
/-- The buffers of the kernel's own, at any contents. -/
def own3 : sProp 𝕄 := iprop((∃ f, ptA (F := F) c Finset.univ fullShare f) ∗ (∃ f, ptB (F := F) c Finset.univ fullShare f) ∗ (∃ f, ptC (F := F) c Finset.univ fullShare f))

set_option maxHeartbeats 1000000 in
theorem part45_run {Q : Dev nD → sProp 𝕄} :
    iprop(records I K ∗ levAts L lv ∗ before (F := F) c ∗ reads I c ∗ pt5 c (I.o c) ∗ own3 (F := F) c
      ∗ (oweA c 12 ∗ atPos ER (bar c) (0 + 1) ∅ 0
        ∗ (done1 (F := F) c 0 ∗ done1 (F := F) c 1 ∗ done1 (F := F) c 2) ∗ (done2 (F := F) c 0 0 ∗ done2 (F := F) c 0 1 ∗ done2 (F := F) c 1 0 ∗ done2 (F := F) c 1 1 ∗ done2 (F := F) c 2 0 ∗ done2 (F := F) c 2 1)
        ∗ (home1 I c 0 ∗ home1 I c 1 ∗ home1 I c 2) ∗ (home2 I c 0 0 ∗ home2 I c 1 0 ∗ home2 I c 2 0 ∗ home2 I c 0 1 ∗ home2 I c 1 1 ∗ back2 (F := F) c 2 1)
        ∗ (atPos ER (dc c (r1s c)) 0 ∅ 0 ∗ atPos ER (dc c (r2s c 0)) 0 ∅ 0 ∗ atPos ER (dc c (r2s c 1)) 0 ∅ 0)
        ∗ (restA I c ∗ ptA c Finset.univ shk (kvbf I c)) ∗ ptB c Finset.univ fullShare (KV I c)
        ∗ (ptC c (cg c 0) shk (CG I) ∗ ptC c (cg c 1) shk (CG I))
        ∗ (ptC c (cg (nx c 0) 0) fullShare (CG I) ∗ ptC c (cg (nx c 0) 1) fullShare (CG I) ∗ ptC c (cg (nx c 1) 0) fullShare (CG I) ∗ ptC c (cg (nx c 1) 1) fullShare (CG I) ∗ ptC c (cg (nx c 2) 0) fullShare (CG I) ∗ ptC c (cg (nx c 2) 1) fullShare (CG I))
        ∗ reads I c ∗ pt5 c (out3 I c) -∗ Q c))
      ⊢ wpc c (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [k0_part45_eq_skeleton]; unfold k0_part45_skel
  rw [k0_part22_eq_skeleton]; unfold k0_part22_skel
  simp only [Prog.lift, Prog.bind_op, Prog.bind_ret, Prog.pure_eq_ret, wp_bind, wp_deviceId]
  unfold before kit due reads own3
  iintro ⟨#HR, #HL, ⟨HO, Hcb, Hab, ⟨⟨T00, T10, T20, T30, T40, T50, T60⟩, ⟨T01, T11, T21, T31, T41, T51, T61⟩, ⟨T02, T12, T22, T32, T42, T52, T62⟩⟩, ⟨⟨D00, D10, D20⟩, ⟨D01, D11, D21⟩, ⟨D02, D12, D22⟩⟩, ⟨P10, #P10r⟩, ⟨P200, #P200r⟩, ⟨P210, #P210r⟩, ⟨P30, #P30r⟩, ⟨P400, #P400r⟩, ⟨P410, #P410r⟩, ⟨P11, #P11r⟩, ⟨P201, #P201r⟩, ⟨P211, #P211r⟩, ⟨P31, #P31r⟩, ⟨P401, #P401r⟩, ⟨P411, #P411r⟩, ⟨P12, #P12r⟩, ⟨P202, #P202r⟩, ⟨P212, #P212r⟩, ⟨P32, #P32r⟩, ⟨P402, #P402r⟩, ⟨P412, #P412r⟩, ⟨P5, #P5r⟩, ⟨P60, #P60r⟩, ⟨P61, #P61r⟩⟩, ⟨H0, H1, H2, H3, H4⟩, H5, ⟨HA, ⟨%fB, HB⟩, ⟨%fC, HC⟩⟩, Hk⟩
  ihave HB := (open_B c fB).1 $$ HB
  icases HB with ⟨HB, HB0, HB1, HB2⟩
  ihave HC := (open_C c fC).1 $$ HC
  icases HC with ⟨⟨HC0, HC1⟩, ⟨HX0, HY0⟩, ⟨HX1, HY1⟩, ⟨HX2, HY2⟩⟩
  ihave HP0 : iprop(dutyTok ER (bar (nx c 0)) 0 c ∗ barPay (F := F) (nx c 0) c) $$ [T00 HB0 HX0 HY0]
  · unfold barPay
    isplitl [T00]; · iexact T00
    isplitl [HB0]; · iexists fB; iexact HB0
    isplitl [HX0]; · iexists fC; iexact HX0
    isplitl [HY0]; · iexists fC; iexact HY0
    isplitr; · iexact P30r
    isplitr; · iexact P400r
    iexact P410r
  ihave HT0 : toks1 (F := F) c 0 $$ [T10 T20]
  · unfold toks1
    isplitl [T10]; · iexact T10
    isplitr; · iexact P10r
    iexact T20
  ihave HP1 : iprop(dutyTok ER (bar (nx c 1)) 0 c ∗ barPay (F := F) (nx c 1) c) $$ [T01 HB1 HX1 HY1]
  · unfold barPay
    isplitl [T01]; · iexact T01
    isplitl [HB1]; · iexists fB; iexact HB1
    isplitl [HX1]; · iexists fC; iexact HX1
    isplitl [HY1]; · iexists fC; iexact HY1
    isplitr; · iexact P31r
    isplitr; · iexact P401r
    iexact P411r
  ihave HT1 : toks1 (F := F) c 1 $$ [T11 T21]
  · unfold toks1
    isplitl [T11]; · iexact T11
    isplitr; · iexact P11r
    iexact T21
  ihave HP2 : iprop(dutyTok ER (bar (nx c 2)) 0 c ∗ barPay (F := F) (nx c 2) c) $$ [T02 HB2 HX2 HY2]
  · unfold barPay
    isplitl [T02]; · iexact T02
    isplitl [HB2]; · iexists fB; iexact HB2
    isplitl [HX2]; · iexists fC; iexact HX2
    isplitl [HY2]; · iexists fC; iexact HY2
    isplitr; · iexact P32r
    isplitr; · iexact P402r
    iexact P412r
  ihave HT2 : toks1 (F := F) c 2 $$ [T12 T22]
  · unfold toks1
    isplitl [T12]; · iexact T12
    isplitr; · iexact P12r
    iexact T22
  iapply (part23_run I K c _ _ _ _ _)
  isplitr; · iexact HR
  iframe HO HP0 HP1
  iintro HO
  iapply (part24_run I K c _)
  isplitr; · iexact HR
  isplitr; · iexact HL
  iframe Hcb Hab HO HP2 H2 H3 HA
  isplitl [HB]; · iexists fB; iexact HB
  iframe HT0 HT1 HT2
  iintro %v24
  iintro ⟨HS, HQ0, HQ1, HQ2, Hab, H2, H3, Hrest, HA, HB⟩
  iapply (part25_run I K c _ _ _ _)
  isplitr; · iexact HR
  iframe HS H0 H1 HA HB
  iintro ⟨HS, HA, HB, H0, H1⟩
  unfold allSent
  icases HS with ⟨HO, HS0, HS1, HS2⟩
  iapply (part26_run c _ _ _ _ _ _)
  iapply (part27_run I K c _ _ _ _ _)
  isplitr; · iexact HR
  isplitr; · iexact HL
  isplitl [HO]; · iexact HO
  isplitl [D00 P30]
  · unfold recv1; isplitl [D00] <;> iassumption
  isplitl [D01 P31]
  · unfold recv1; isplitl [D01] <;> iassumption
  isplitl [D02 P32]
  · unfold recv1; isplitl [D02] <;> iassumption
  isplitl [HB]; · iexact HB
  iintro ⟨HO, HE0, HE1, HE2, HB⟩
  iapply (part28_run I c _ _ _ _)
  isplitl [HB]; · iexact HB
  iintro HB
  iapply (part29_run I c _ _ _ _ _ _)
  isplitr; · ipureintro; rfl
  isplitl [HB]; · iexact HB
  isplitl [HC0]; · iexists fC; iexact HC0
  iintro ⟨HB, Hc0, Hc1, Hc2, HC0⟩
  unfold place2
  icases HQ0 with ⟨HX0, HY0, #Hu0, #Hv0⟩
  ihave HD00 : dest2 (F := F) c 0 0 $$ [HX0 T30 T40]
  · unfold dest2
    iframe HX0 T30
    isplitr; · iexact P200r
    iframe T40 Hu0
  ihave HD01 : dest2 (F := F) c 0 1 $$ [HY0 T50 T60]
  · unfold dest2
    iframe HY0 T50
    isplitr; · iexact P210r
    iframe T60 Hv0
  icases HQ1 with ⟨HX1, HY1, #Hu1, #Hv1⟩
  ihave HD10 : dest2 (F := F) c 1 0 $$ [HX1 T31 T41]
  · unfold dest2
    iframe HX1 T31
    isplitr; · iexact P201r
    iframe T41 Hu1
  ihave HD11 : dest2 (F := F) c 1 1 $$ [HY1 T51 T61]
  · unfold dest2
    iframe HY1 T51
    isplitr; · iexact P211r
    iframe T61 Hv1
  icases HQ2 with ⟨HX2, HY2, #Hu2, #Hv2⟩
  ihave HD20 : dest2 (F := F) c 2 0 $$ [HX2 T32 T42]
  · unfold dest2
    iframe HX2 T32
    isplitr; · iexact P202r
    iframe T42 Hu2
  ihave HD21 : dest2 (F := F) c 2 1 $$ [HY2 T52 T62]
  · unfold dest2
    iframe HY2 T52
    isplitr; · iexact P212r
    iframe T62 Hv2
  iapply (part30_run I K c _)
  isplitr; · iexact HR
  iframe HO Hc0 HD00 Hc1 HD10
  iintro %v30
  obtain ⟨_, _, _, _⟩ := v30
  iintro ⟨HO, HW00, HW10⟩
  iapply (part31_run I K c _ _ _ _ _)
  isplitr; · iexact HR
  iframe HO Hc2 HD20 HB
  iintro ⟨HO, HW20, HB⟩
  iapply (part32_run I c _ _ _)
  isplitl [HB]; · iexact HB
  iintro HB
  iapply (part33_run I K c _ _ _)
  isplitr; · ipureintro; rfl
  isplitr; · iexact HR
  isplitl [HO]; · iexact HO
  isplitl [HC1]; · iexists fC; iexact HC1
  isplitl [HD01]; · iexact HD01
  iintro %v33
  obtain ⟨_, _, _, _⟩ := v33
  iintro ⟨HO, HW01, Hc1, Hc2, HC1⟩
  iapply (part34_run I K c _ _ _ _ _)
  isplitr; · iexact HR
  iframe HO Hc1 HD11
  iintro ⟨HO, HW11⟩
  iapply (part35_run I K c _ _ _)
  isplitr; · iexact HR
  iframe HO Hc2 HD21 H5 H4 HC0 HC1
  iintro %v35
  iintro ⟨HO, HW21, H5, H4, HC0, HC1⟩
  iapply (part36_run c _ _ _)
  isplitl [H5]; · iexact H5
  iintro %v36
  obtain ⟨_, _, _, _, _, _⟩ := v36
  iintro H5
  ihave H5 := (see c (out0_eq I c)) $$ H5
  iapply (part37_run I K c _ _ _ _ _ _)
  isplitr; · iexact HR
  isplitl [HO]; · iexact HO
  isplitl [D10 P400]
  · unfold recv2; isplitl [D10] <;> iassumption
  iframe H5 H4
  iintro %v37
  obtain ⟨_, _⟩ := v37
  iintro ⟨HO, HF00, HG00, H5, H4⟩
  iapply (part38_run I K c _ _ _ _ _)
  isplitr; · iexact HR
  isplitl [HO]; · iexact HO
  isplitl [D20 P410]
  · unfold recv2; isplitl [D20] <;> iassumption
  iframe H5 H4
  iintro %v38
  iintro ⟨HO, HF01, HG01, H5, H4⟩
  ihave H5 := (see c (out1_eq I c)) $$ H5
  iapply (part39_run c _ _)
  iintro %v39
  obtain ⟨_, _⟩ := v39
  iapply (part40_run I K c _ _ _)
  isplitr; · iexact HR
  isplitl [HO]; · iexact HO
  isplitl [D12 P402]
  · unfold recv2; isplitl [D12] <;> iassumption
  isplitl [D22 P412]
  · unfold recv2; isplitl [D22] <;> iassumption
  iframe H5 H4
  iintro %v40
  iintro ⟨HO, HF20, HG20, HF21, HG21, H5, H4⟩
  iapply (part41_run I c _ _ _ _ _)
  iframe H5 H4
  iintro %v41
  obtain ⟨_, _, _, _⟩ := v41
  iintro ⟨H5, H4⟩
  ihave H5 := (see c (out2_eq I c)) $$ H5
  iapply (part42_run I K c _ _ _ _)
  isplitr; · iexact HR
  isplitl [HO]; · iexact HO
  isplitl [D11 P401]
  · unfold recv2; isplitl [D11] <;> iassumption
  iframe H5 H4
  iintro %v42
  iintro ⟨HO, HF10, HG10, H5, H4⟩
  iapply (part43_run I K c _ _ _ _ _)
  isplitr; · iexact HR
  isplitl [HO]; · iexact HO
  isplitl [D21 P411]
  · unfold recv2; isplitl [D21] <;> iassumption
  iframe H5 H4
  isplitl [HS0 P10]
  · unfold back1; isplitl [HS0] <;> iassumption
  isplitl [HS1 P11]
  · unfold back1; isplitl [HS1] <;> iassumption
  isplitl [HS2 P12]
  · unfold back1; isplitl [HS2] <;> iassumption
  iintro %v43
  obtain ⟨_, _⟩ := v43
  iintro ⟨HO, HF11, HG11, H5, H4, HS⟩
  ihave H5 := (see c (out3_eq I c)) $$ H5
  iapply (part44_run I K c _ _ _)
  isplitr; · iexact HR
  iframe HO HS
  isplitl [HW00 P200]
  · unfold back2; isplitl [HW00] <;> iassumption
  isplitl [HW10 P201]
  · unfold back2; isplitl [HW10] <;> iassumption
  isplitl [HW20 P202]
  · unfold back2; isplitl [HW20] <;> iassumption
  iintro ⟨HO, HS0, HS1, HS2, HW00, HW10, HW20⟩
  iapply (waitS2 I K c 0 1 rfl) $$ [HO HW01 P210]
  · isplitr; · iexact HR
    isplitl [HO]; · iexact HO
    unfold back2; isplitl [HW01] <;> iassumption
  iintro ⟨HO, HW01⟩
  iapply (waitS2 I K c 1 1 rfl) $$ [HO HW11 P211]
  · isplitr; · iexact HR
    isplitl [HO]; · iexact HO
    unfold back2; isplitl [HW11] <;> iassumption
  iintro ⟨HO, HW11⟩
  iapply ret_run
  iapply Hk
  iframe HO Hab
  isplitl [HE0 HE1 HE2]
  · isplitl [HE0]; · iexact HE0
    iframe HE1 HE2
  isplitl [HF00 HF01 HF10 HF11 HF20 HF21]
  · isplitl [HF00]; · iexact HF00
    iframe HF01 HF10 HF11 HF20 HF21
  isplitl [HS0 HS1 HS2]
  · isplitl [HS0]; · iexact HS0
    iframe HS1 HS2
  isplitl [HW00 HW10 HW20 HW01 HW11 HW21 P212]
  · isplitl [HW00]; · iexact HW00
    iframe HW10 HW20 HW01 HW11
    unfold back2; isplitl [HW21] <;> iassumption
  isplitl [P5 P60 P61]
  · isplitl [P5]; · iexact P5
    iframe P60 P61
  isplitl [Hrest HA]
  · isplitl [Hrest]; · iexact Hrest
    iexact HA
  isplitl [HB]; · iexact HB
  isplitl [HC0 HC1]
  · isplitl [HC0]; · iexact HC0
    iexact HC1
  isplitl [HG00 HG01 HG10 HG11 HG20 HG21]
  · isplitl [HG00]; · iexact HG00
    iframe HG01 HG10 HG11 HG20 HG21
  isplitl [H0 H1 H2 H3 H4]
  · isplitl [H0]; · iexact H0
    iframe H1 H2 H3 H4
  iexact H5

/-- What a run ends with. -/
def after : sProp 𝕄 := iprop(oweA c 12 ∗ semVal (bar c) 0 ∗ all21 c fun q => semVal (dc c q) 0)

theorem ret_close {α : Type} {a : α} {Q : α → sProp 𝕄} : (|={Set.univ}=> Q a : sProp 𝕄) ⊢ wpc c (Prog.ret a) Q := by
  exact Entails.of_eq (wp_ret ..).symm

set_option maxHeartbeats 4000000 in
/-- One device's run: from its buffers and its rights to every counter at zero and the output holding `out3`. -/
theorem body_run {Q : PUnit → sProp 𝕄} :
    iprop(records I K ∗ levAts L lv ∗ before (F := F) c ∗ reads I c ∗ pt5 c (I.o c) ∗ own3 (F := F) c
      ∗ (after (F := F) c ∗ reads I c ∗ pt5 c (out3 I c) ∗ own3 (F := F) c -∗ Q ⟨⟩))
      ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  rw [cc0_body_eq_skeleton]; unfold cc0_body_skel
  simp only [Prog.lift, Prog.bind_op, Prog.bind_ret, Prog.pure_eq_ret, wp_bind]
  iintro ⟨#HR, #HL, Hbef, Hrd, H5, Hown, Hk⟩
  iapply (part45_run I K c)
  isplitr; · iexact HR
  isplitr; · iexact HL
  iframe Hbef Hrd H5 Hown
  iintro ⟨HO, Hab, ⟨HE0, HE1, HE2⟩, ⟨HF00, HF01, HF10, HF11, HF20, HF21⟩, ⟨HS0, HS1, HS2⟩, ⟨HW00, HW10, HW20, HW01, HW11, HW21⟩, ⟨P5, P60, P61⟩, ⟨Hrest, HA⟩, HB, ⟨HC0, HC1⟩, ⟨HG00, HG01, HG10, HG11, HG20, HG21⟩, Hrd, H5⟩
  iapply (waitS2 I K c 2 1 rfl) $$ [HO HW21]
  · isplitr; · iexact HR
    isplitl [HO] <;> iassumption
  iintro ⟨HO, HW21⟩
  unfold home1 home2 done1 done2
  icases HS0 with ⟨P10, HA0⟩
  icases HW00 with ⟨P200, Hc00⟩
  icases HW01 with ⟨P210, Hc01⟩
  icases HS1 with ⟨P11, HA1⟩
  icases HW10 with ⟨P201, Hc10⟩
  icases HW11 with ⟨P211, Hc11⟩
  icases HS2 with ⟨P12, HA2⟩
  icases HW20 with ⟨P202, Hc20⟩
  icases HW21 with ⟨P212, Hc21⟩
  ihave HC := (join_C I c) $$ [Hc00 Hc10 Hc20 HC0 Hc01 Hc11 Hc21 HC1 HG00 HG01 HG10 HG11 HG20 HG21]
  · isplitl [Hc00]; · iexact Hc00
    iframe Hc10 Hc20 HC0 Hc01 Hc11 Hc21 HC1 HG00 HG01 HG10 HG11 HG20 HG21
  ihave HA := (open_A I c).2 $$ [HA0 HA1 HA2 Hrest HA]
  · isplitl [HA0]; · iexact HA0
    iframe HA1 HA2 Hrest HA
  iapply (ret_close c)
  imod (close_all I K c) $$ [Hab P10 P200 P210 HE0 HF00 HF01 P11 P201 P211 HE1 HF10 HF11 P12 P202 P212 HE2 HF20 HF21 P5 P60 P61] with ⟨Hb, Hz⟩
  · isplitr; · iexact HR
    iframe Hab P10 P200 P210 HE0 HF00 HF01 P11 P201 P211 HE1 HF10 HF11 P12 P202 P212 HE2 HF20 HF21 P5 P60 P61
  imodintro
  iapply Hk
  unfold after own3
  isplitl [HO Hb Hz]
  · isplitl [HO]; · iexact HO
    isplitl [Hb] <;> iassumption
  iframe Hrd H5
  isplitl [HA]; · iexists _; iexact HA
  isplitl [HB]; · iexists _; iexact HB
  iexists _; iexact HC

end Run

end Cert.KernelIdeal.Talk
end
-- ==== Proof.Deal.lean ====
/-
  Dealing out the launch: the tokens of every duty to the device that pays it, the credits to the device that waits, the counters to their owner.
-/
module

public import proofs.«01_k».proof.Proof.Body5

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The duties, by the device that pays them -/

abbrev tokAt (c : Dev nD) (k : Fin 3) : Fin 7 → GSem nD τ sig × ℕ × Dev nD
  | 0 => (bar (nx c k), 0, c)
  | 1 => (dc c (s1s k), 0, 0)
  | 2 => (dc (nx c k) (r1s c), 0, 0)
  | 3 => (dc c (s2s k 0), 0, 0)
  | 4 => (dc (nx c k) (r2s c 0), 0, 0)
  | 5 => (dc c (s2s k 1), 0, 0)
  | 6 => (dc (nx c k) (r2s c 1), 0, 0)
theorem tokAt_inj : Function.Injective (fun x : Dev nD × Fin 3 × Fin 7 => tokAt x.1 x.2.1 x.2.2) := by decide +kernel
def allToks : Finset (GSem nD τ sig × ℕ × Dev nD) :=
  Finset.univ.map ⟨fun x : Dev nD × Fin 3 × Fin 7 => tokAt x.1 x.2.1 x.2.2, tokAt_inj⟩

theorem bigSep_three {M : Type} [URA M] (Φ : Fin 3 → sProp M) : bigSep Finset.univ Φ = iprop(Φ 0 ∗ Φ 1 ∗ Φ 2) :=
  bigSep_univ_eq_bigSepL [0, 1, 2] (by decide) (by decide) Φ
theorem bigSep_seven {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

abbrev kits (c : Dev nD) : sProp 𝕄 := iprop(kit (F := F) c 0 ∗ kit (F := F) c 1 ∗ kit (F := F) c 2)
theorem toks_eq : bigSep allToks (fun x => (dutyTok ER x.1 x.2.1 x.2.2 : sProp 𝕄)) = bigSep Finset.univ fun c : Dev nD => kits (F := F) c := by
  unfold allToks; rw [bigSep_map, bigSep_univ_prod]
  refine bigSep_congr fun c _ => ?_
  rw [bigSep_univ_prod, bigSep_three]
  simp only [bigSep_seven]
  rfl

/-! ## The counters, neighbour by neighbour -/

abbrev oq (i : Fin 21) : DmaSem sig := (⟨6 + i.val, by omega⟩ : Fin 27)
def ix21 (c : Dev nD) : List (Fin 21) :=
  let n (k : Fin 3) : ℕ := (nx c k).val
  [(0 : ℕ), 7, 8, 3 + n 0, 13 + 2 * n 0, 14 + 2 * n 0, 1, 9, 10, 3 + n 1, 13 + 2 * n 1, 14 + 2 * n 1,
    2, 11, 12, 3 + n 2, 13 + 2 * n 2, 14 + 2 * n 2, 3 + c.val, 13 + 2 * c.val, 14 + 2 * c.val].map fun i => ⟨i % 21, Nat.mod_lt _ (by decide)⟩
theorem all21_eq (c : Dev nD) (Ψ : DmaSem sig → sProp 𝕄) : bigSep Finset.univ (fun i : Fin 21 => Ψ (oq i)) = all21 c Ψ :=
  (bigSep_univ_eq_bigSepL (ix21 c) (by revert c; decide +kernel) (by revert c; decide +kernel) _).trans (by fin_cases c <;> rfl)

/-! ## The launch's credit -/

/-- What device `c` owes at launch. -/
def O₀ (c : Dev nD) : Tal := owed c 0

theorem ow_apply (g : GSem nD τ sig) : ∀ l : List (GSem nD τ sig × ℕ), ow l g () = (l.map fun x => if g = x.1 then x.2 else 0).sum
  | [] => rfl
  | x :: xs => by
    show ow xs g () + tallyAt x.1 () x.2 g () = _
    rw [ow_apply g xs, tallyAt_apply, List.map_cons, List.sum_cons, Nat.add_comm]
    congr 1
    exact if_congr (by simp) rfl rfl
abbrev dueAt (d : Dev nD) (i : Fin 12) : GSem nD τ sig × ℕ := (dues d)[i.val]'i.isLt
theorem owed_apply (d : Dev nD) (g : GSem nD τ sig) : O₀ d g () = ∑ i : Fin 12, if g = (dueAt d i).1 then (dueAt d i).2 else 0 :=
  (ow_apply g (dues d)).trans (Fin.sum_univ_fun_getElem (dues d) fun x => if g = x.1 then x.2 else 0).symm

theorem credit_one (g : GSem nD τ sig) (d₀ : Dev nD) (i₀ : Fin 12) (h : ∀ d i, g = (dueAt d i).1 ↔ d = d₀ ∧ i = i₀) :
    ∑ d, O₀ d g () = (dueAt d₀ i₀).2 := by
  rw [Finset.sum_congr rfl fun d _ => owed_apply d g, Finset.sum_eq_single d₀, Finset.sum_eq_single i₀, if_pos ((h _ _).mpr ⟨rfl, rfl⟩)]
  · exact fun i _ hi => if_neg fun e => hi ((h _ _).mp e).2
  · exact fun h => absurd (Finset.mem_univ _) h
  · exact fun d _ hd => Finset.sum_eq_zero fun i _ => if_neg fun e => hd ((h _ _).mp e).1
  · exact fun h => absurd (Finset.mem_univ _) h

theorem launch_of (g : GSem nD τ sig) (n : ℕ) (h : ∑ d, O₀ d g () = n) :
    tallyOn g (launchCredit (Pipeline.owing O₀) 0 g) = (tallyAt g () n : Tal) := by
  unfold tallyAt; refine congrArg _ (Finsupp.ext fun u => ?_); cases u
  rw [Pipeline.launchCredit_owing, Finsupp.single_eq_same, h]

theorem launch_bar (c : Dev nD) : tallyOn (bar c) (launchCredit (Pipeline.owing O₀) 0 (bar c)) = (tallyAt (bar c) () 3 : Tal) :=
  launch_of _ _ (by
    have e : ∀ d i, (if bar c = (dueAt d i).1 then (dueAt d i).2 else 0) = if bar c = (dueAt d i).1 then 1 else 0 := by
      intro d i
      by_cases hi : i.val < 3
      · have : (dueAt d i).2 = 1 := by
          obtain ⟨i, h⟩ := i
          interval_cases i <;> rfl
        rw [this]
      · have : bar c ≠ (dueAt d i).1 := by
          have : ∀ c d : Dev nD, ∀ i : Fin 12, ¬ i.val < 3 → bar c ≠ (dueAt d i).1 := by decide +kernel
          exact this c d i hi
        rw [if_neg this, if_neg this]
    rw [Finset.sum_congr rfl fun d _ => (owed_apply d (bar c)).trans (Finset.sum_congr rfl fun i _ => e d i)]
    revert c; decide +kernel)
theorem launch_r1 (c : Dev nD) (k : Fin 3) : tallyOn (dc c (r1s (nx c k))) (launchCredit (Pipeline.owing O₀) 0 (dc c (r1s (nx c k))))
    = (tallyAt (dc c (r1s (nx c k))) () (amt c (.dma (r1s (nx c k)))) : Tal) :=
  launch_of _ _ ((credit_one _ (nx c k) ⟨5 - k.val, by omega⟩ (by revert c k; decide +kernel)).trans (by
    rw [amt_r1]; fin_cases k <;> rfl))
theorem launch_r2 (c : Dev nD) (k : Fin 3) (j : Fin 2) : tallyOn (dc c (r2s (nx c k) j)) (launchCredit (Pipeline.owing O₀) 0 (dc c (r2s (nx c k) j)))
    = (tallyAt (dc c (r2s (nx c k) j)) () (amt c (.dma (r2s (nx c k) j))) : Tal) :=
  launch_of _ _ ((credit_one _ (nx c k) ⟨8 + 3 * j.val - k.val, by omega⟩ (by revert c k j; decide +kernel)).trans (by
    rw [amt_r2]; fin_cases k <;> fin_cases j <;> rfl))

theorem bigSep_pick {M X : Type} [URA M] [Fintype X] [DecidableEq X] (l : List X) (h : l.Nodup) (Φ : X → sProp M) : bigSep Finset.univ Φ ⊢ bigSepL l Φ := by
  rw [← bigSep_eq_bigSepL l h]; exact bigSep_subset (Finset.subset_univ _)

abbrev dueAll (c : Dev nD) : sProp 𝕄 := iprop(due (F := F) c 0 ∗ due (F := F) c 1 ∗ due (F := F) c 2)
def credSems (c : Dev nD) : List (SemLoc sig) :=
  [.reg barrier0, .dma (r1s (nx c 0)), .dma (r2s (nx c 0) 0), .dma (r2s (nx c 0) 1), .dma (r1s (nx c 1)), .dma (r2s (nx c 1) 0), .dma (r2s (nx c 1) 1),
    .dma (r1s (nx c 2)), .dma (r2s (nx c 2) 0), .dma (r2s (nx c 2) 1)]
theorem creds (c : Dev nD) : (Pipeline.launchCred O₀ c : sProp 𝕄) ⊢ iprop(cred (tallyAt (bar c) () 3) ∗ dueAll (F := F) c) := by
  unfold dueAll due
  unfold Pipeline.launchCred
  refine (bigSep_pick (credSems c) (by revert c; decide +kernel) _).trans ?_
  rw [← launch_bar, ← launch_r1 c 0, ← launch_r1 c 1, ← launch_r1 c 2, ← launch_r2 c 0 0, ← launch_r2 c 0 1, ← launch_r2 c 1 0, ← launch_r2 c 1 1,
      ← launch_r2 c 2 0, ← launch_r2 c 2 1]
  unfold credSems
  show iprop(_ ∗ _ ∗ _ ∗ _ ∗ _ ∗ _ ∗ _ ∗ _ ∗ _ ∗ cred _) ⊢ _
  iintro ⟨Hb, H0, H1, H2, H3, H4, H5, H6, H7, H8⟩
  isplitl [Hb]; · iexact Hb
  isplitl [H0 H1 H2]
  · isplitl [H0]; · iexact H0
    isplitl [H1] <;> iassumption
  isplitl [H3 H4 H5]
  · isplitl [H3]; · iexact H3
    isplitl [H4] <;> iassumption
  iframe H6 H7 H8

/-! ## The launch's ghost state -/

section Deal
variable (I : Inp F)

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact (by decide : ∀ k : Fin 21, osem k ≠ .reg barrier0) ck.2 (congrArg Prod.snd h)

/-- What a device holds of the protocol before the region: the records, its place at its barrier, the duties it pays, the rights to open its counters. -/
def held0 (c : Dev nD) : sProp 𝕄 :=
  iprop(∃ K, records I K ∗ atPos ER (bar c) 0 ∅ 0 ∗ kits (F := F) c ∗ bigSep Finset.univ fun i : Fin 21 => openTok ER (dc c (oq i)))
/-- The same once its counters are open. -/
def held1 (c : Dev nD) : sProp 𝕄 :=
  iprop(∃ K, records I K ∗ atPos ER (bar c) 0 ∅ 0 ∗ kits (F := F) c ∗ all21 (F := F) c (opn c))

theorem deal0 : iprop((bigSep Finset.univ fun c : Dev nD => (semVal (bar c) 0 : sProp 𝕄)) ∗ BI.own (ER (launchOf barCells scCells allToks)))
    ⊢ (|={Set.univ}=> bigSep Finset.univ fun c : Dev nD => held0 I c : sProp 𝕄) := by
  iintro ⟨Hv, Hu⟩
  imod (Rounds.fund_launch ER (Rd I) disjoint_cells (fun g _ h => h) allToks) $$ [Hv Hu] with ⟨%κ, -, #Hinv, #Hr, Hat, Hopen, Htok⟩
  · isplitl [Hv]
    · iapply (show bigSep Finset.univ (fun c : Dev nD => (semVal (bar c) 0 : sProp 𝕄)) ⊢ bigSep barCells (fun g => (semVal g 0 : sProp 𝕄)) from
        Entails.of_eq (bigSep_map (s := Finset.univ) barEmb (Φ := fun g : GSem nD τ sig => (semVal g 0 : sProp 𝕄))).symm) $$ Hv
    · iexact Hu
  imodintro
  iapply (bigSep_with_persistent (R := records I κ)
    (Φ := fun c => iprop(atPos ER (bar c) 0 ∅ 0 ∗ kits (F := F) c ∗ bigSep Finset.univ fun i : Fin 21 => openTok ER (dc c (oq i))))
    fun c _ => by unfold held0; iintro ⟨#HR, H⟩; iexists κ; isplitr; · iexact HR
                  iexact H)
  isplitr
  · unfold records
    isplitr; · iexact Hinv
    iexact Hr
  iapply (Entails.of_eq (bigSep_sep' _ _ _).symm); isplitl [Hat]
  · iapply (show bigSep barCells (fun g => (atPos ER g 0 ∅ 0 : sProp 𝕄)) ⊢ bigSep Finset.univ (fun c : Dev nD => (atPos ER (bar c) 0 ∅ 0 : sProp 𝕄)) from
      Entails.of_eq (bigSep_map (s := Finset.univ) barEmb (Φ := fun g : GSem nD τ sig => (atPos ER g 0 ∅ 0 : sProp 𝕄)))) $$ Hat
  iapply (Entails.of_eq (bigSep_sep' _ _ _).symm); isplitl [Htok]
  · iapply (Entails.of_eq (toks_eq (F := F))) $$ Htok
  iapply (Entails.of_eq (show bigSep scCells (fun g => (openTok ER g : sProp 𝕄))
      = bigSep Finset.univ (fun c : Dev nD => bigSep Finset.univ fun i : Fin 21 => (openTok ER (dc c (oq i)) : sProp 𝕄)) from by
        rw [bigSep_map, bigSep_univ_prod]; rfl)) $$ Hopen

theorem open_all (c : Dev nD) : iprop(held0 I c ∗ Pipeline.ownSems0 osem c) ⊢ (|={Set.univ}=> held1 I c : sProp 𝕄) := by
  unfold held0 held1
  iintro ⟨⟨%K, #HR, Hat, Hk, Ho⟩, Hs⟩
  imod (show iprop(records I K ∗ bigSep Finset.univ fun i : Fin 21 => iprop(openTok ER (dc c (oq i)) ∗ semVal (dc c (oq i)) 0))
      ⊢ (|={Set.univ}=> bigSep Finset.univ fun i : Fin 21 => opn c (oq i) : sProp 𝕄) from
      (bigSep_with_persistent (R := records I K) (Ψ := fun i : Fin 21 => iprop(|={Set.univ}=> opn c (oq i))) fun i _ => by
        iintro ⟨#HR, Ho, Hv⟩
        iapply (Rounds.cell_open ER (Rd I) (g := dc c (oq i)) (Set.mem_univ (K (dc c (oq i)))))
        isplitr; · iapply (inv_dma I K c (oq i) (Nat.le_add_right 6 i.val)); iexact HR
        isplitl [Ho] <;> iassumption).trans (bigSep_fupd _ _)) $$ [Ho Hs] with Hop
  · isplitr; · iexact HR
    iapply (Entails.of_eq (bigSep_sep' _ _ _).symm)
    isplitl [Ho]; · iexact Ho
    unfold Pipeline.ownSems0; iexact Hs
  imodintro
  iexists K
  isplitr; · iexact HR
  iframe Hat Hk
  iapply (Entails.of_eq (all21_eq (F := F) c (opn c))) $$ Hop

end Deal

end Cert.KernelIdeal.Talk
end
-- ==== Proof.Region.lean ====
/-
  The region: what its windows hold, the body obligation from the run of one device, the region as a segment of the program.
-/
module

public import proofs.«01_k».proof.Proof.Deal
public import proofs.«01_k».proof.Proof.Gen.KernelIdeal.Frame

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## Rows of the output -/

theorem wr_in (off : Fin 2 → ℕ) (inb : ∀ a, off a + S128x512.size a ≤ S256x512.size a) (f : S256x512.Idx → Elt F .f32)
    (w : FVec F S128x512 .f32) (i : S256x512.Idx) (j : S128x512.Idx) (h : ∀ a, (i a).val = off a + (j a).val) : wr off inb f w i = w j := by
  have e : (Rect.unit (s := S256x512) off S128x512.size inb).emb j = i := by
    funext a; apply Fin.ext
    show off a + 1 * (j a).val = (i a).val
    rw [Nat.one_mul]; exact (h a).symm
  rw [← e]
  exact View.write_emb_of_mem (v := (Memref.whole cc0_stg5_0 : Memref sig .tc .vmem S256x512 .f32).access (Rect.unit (s := S256x512) off S128x512.size inb))
    (Val := Elt F) f w (Finset.mem_univ j)

theorem wr_out (off : Fin 2 → ℕ) (inb : ∀ a, off a + S128x512.size a ≤ S256x512.size a) (f : S256x512.Idx → Elt F .f32)
    (w : FVec F S128x512 .f32) (i : S256x512.Idx) (a : Fin 2) (h : (i a).val < off a ∨ off a + S128x512.size a ≤ (i a).val) : wr off inb f w i = f i := by
  refine View.write_of_not_mem (v := (Memref.whole cc0_stg5_0 : Memref sig .tc .vmem S256x512 .f32).access (Rect.unit (s := S256x512) off S128x512.size inb))
    (Val := Elt F) f w _ fun hi => ?_
  have e : ((Memref.whole cc0_stg5_0 : Memref sig .tc .vmem S256x512 .f32).access (Rect.unit (s := S256x512) off S128x512.size inb)).setOn Finset.univ
      = (Rect.unit (s := S256x512) off S128x512.size inb).set := View.set_slice_whole _ _
  have hi' := (mem_rect (s := S256x512) off S128x512.size inb i).mp (e ▸ hi)
  have := hi' a
  omega

theorem off8_val (c : Dev nD) : k0_off8 c = ![128 * (c.val / 2), 0] := by revert c; decide
theorem off16_val (c : Dev nD) : k0_off16 c = ![128 * (1 - c.val / 2), 0] := by revert c; decide
theorem off20_1 (c : Dev nD) : k0_off20 c 1#32 = ![128 * ((nx c 0).val / 2), 0] := by revert c; decide
theorem off20_3 (c : Dev nD) : k0_off20 c 3#32 = ![128 * ((nx c 2).val / 2), 0] := by revert c; decide
theorem off20_2 (c : Dev nD) : k0_off20 c 2#32 = ![128 * ((nx c 1).val / 2), 0] := by revert c; decide

/-- Zeros in one batch's rows and any rows in the other's leave nothing of what the buffer held. -/
theorem wr_both (c : Dev nD) (f g : S256x512.Idx → Elt F .f32) (z w : FVec F S128x512 .f32) :
    wr (k0_off8 c) (k0_off8_inb c) (wr (k0_off16 c) (k0_off16_inb c) f z) w = wr (k0_off8 c) (k0_off8_inb c) (wr (k0_off16 c) (k0_off16_inb c) g z) w := by
  funext i
  have hc : c.val / 2 < 2 := Nat.div_lt_of_lt_mul c.isLt
  have h0 : (i 0).val < 256 := (i 0).isLt
  have h1 : (i 1).val < 512 := (i 1).isLt
  have e8 : k0_off8 c 0 = 128 * (c.val / 2) := by rw [off8_val]; rfl
  have e8' : k0_off8 c 1 = 0 := by rw [off8_val]; rfl
  have e16 : k0_off16 c 0 = 128 * (1 - c.val / 2) := by rw [off16_val]; rfl
  have e16' : k0_off16 c 1 = 0 := by rw [off16_val]; rfl
  have s0 : S128x512.size 0 = 128 := rfl
  by_cases h : 128 * (c.val / 2) ≤ (i 0).val ∧ (i 0).val < 128 * (c.val / 2) + 128
  · have hj : ∀ a : Fin 2, (i a).val = k0_off8 c a + ((ix2 (⟨(i 0).val - 128 * (c.val / 2), by omega⟩ : Fin 128) (⟨(i 1).val, h1⟩ : Fin 512) : S128x512.Idx) a).val := by
      intro a; fin_cases a
      · show (i 0).val = k0_off8 c 0 + ((i 0).val - 128 * (c.val / 2)); omega
      · show (i 1).val = k0_off8 c 1 + (i 1).val; omega
    rw [wr_in _ _ _ _ i _ hj, wr_in _ _ _ _ i _ hj]
  · have hm : (i 0).val < k0_off8 c 0 ∨ k0_off8 c 0 + S128x512.size 0 ≤ (i 0).val := by omega
    rw [wr_out _ _ _ _ i 0 hm, wr_out _ _ _ _ i 0 hm]
    have hj : ∀ a : Fin 2, (i a).val = k0_off16 c a + ((ix2 (⟨(i 0).val - 128 * (1 - c.val / 2), by omega⟩ : Fin 128) (⟨(i 1).val, h1⟩ : Fin 512) : S128x512.Idx) a).val := by
      intro a; fin_cases a
      · show (i 0).val = k0_off16 c 0 + ((i 0).val - 128 * (1 - c.val / 2)); omega
      · show (i 1).val = k0_off16 c 1 + (i 1).val; omega
    rw [wr_in _ _ _ _ i _ hj, wr_in _ _ _ _ i _ hj]

section Io
variable (I : Inp F)
/-- The same inputs over another starting output. -/
def Inp.at (o : Dev nD → S256x512.Idx → Elt F .f32) : Inp F := { I with o := o }
theorem CG_at (o : Dev nD → S256x512.Idx → Elt F .f32) : CG (I.at o) = CG I := rfl
theorem out0_at (c : Dev nD) (o : Dev nD → S256x512.Idx → Elt F .f32) : out0 (I.at o) c = out0 I c := by
  unfold out0
  simp only [CG_at]
  rw [wr_both c ((I.at o).o c) (I.o c)]
  rfl
theorem out3_at (c : Dev nD) (o : Dev nD → S256x512.Idx → Elt F .f32) : out3 (I.at o) c = out3 I c := by
  have e1 : out1 (I.at o) c = out1 I c := by unfold out1; rw [out0_at, CG_at]; rfl
  have e2 : out2 (I.at o) c = out2 I c := by unfold out2; rw [e1, CG_at]; rfl
  unfold out3; rw [e2, CG_at]; rfl
theorem Rd_at (o : Dev nD → S256x512.Idx → Elt F .f32) : Rd (I.at o) = Rd I := rfl
theorem records_at (K : GSem nD τ sig → ℕ) (o : Dev nD → S256x512.Idx → Elt F .f32) : records (I.at o) K = records I K := by
  unfold records; rw [Rd_at]
end Io

/-! ## The region's data -/

section Reg
variable (m : (ℓ : Loc nD τ sig) → Buf (Elt F) ℓ)

/-- What the six windows hold when the region is entered. -/
def inp : Inp F where
  x c := V m c main_v1
  wq c := V m c main_arg1
  k c := V m c main_v2
  v c := V m c main_v3
  wo c := V m c main_arg4
  o c := V m c main_v4

theorem iblk_0 (c : Dev nD) (t : Fin cfg0.N) : iblk m c 0 t = (inp m).x c := by
  obtain rfl := fin_N0 t; funext j
  show V m c main_v1 (((cfg0.win 0).blk t0_0).view.emb j) = V m c main_v1 j
  congr 1; funext a; exact Fin.ext (Pipeline.Window.rect_emb_val_of_index_zero _ _ _ (by revert a; decide) _)
theorem iblk_1 (c : Dev nD) (t : Fin cfg0.N) : iblk m c 1 t = (inp m).wq c := by
  obtain rfl := fin_N0 t; funext j
  show V m c main_arg1 (((cfg0.win 1).blk t0_0).view.emb j) = V m c main_arg1 j
  congr 1; funext a; exact Fin.ext (Pipeline.Window.rect_emb_val_of_index_zero _ _ _ (by revert a; decide) _)
theorem iblk_2 (c : Dev nD) (t : Fin cfg0.N) : iblk m c 2 t = (inp m).k c := by
  obtain rfl := fin_N0 t; funext j
  show V m c main_v2 (((cfg0.win 2).blk t0_0).view.emb j) = V m c main_v2 j
  congr 1; funext a; exact Fin.ext (Pipeline.Window.rect_emb_val_of_index_zero _ _ _ (by revert a; decide) _)
theorem iblk_3 (c : Dev nD) (t : Fin cfg0.N) : iblk m c 3 t = (inp m).v c := by
  obtain rfl := fin_N0 t; funext j
  show V m c main_v3 (((cfg0.win 3).blk t0_0).view.emb j) = V m c main_v3 j
  congr 1; funext a; exact Fin.ext (Pipeline.Window.rect_emb_val_of_index_zero _ _ _ (by revert a; decide) _)
theorem iblk_4 (c : Dev nD) (t : Fin cfg0.N) : iblk m c 4 t = (inp m).wo c := by
  obtain rfl := fin_N0 t; funext j
  show V m c main_arg4 (((cfg0.win 4).blk t0_0).view.emb j) = V m c main_arg4 j
  congr 1; funext a; exact Fin.ext (Pipeline.Window.rect_emb_val_of_index_zero _ _ _ (by revert a; decide) _)

abbrev prng (c : Dev nD) : sProp 𝕄 := iprop(∃ r, prngReg c r)
/-- What the invariant holds before the one point: the protocol opened, the credits, the levels, the three shared buffers. -/
def Xk (c : Dev nD) : sProp 𝕄 := iprop(held1 (inp m) c ∗ cred (tallyAt (bar c) () 3) ∗ dueAll (F := F) c ∗ levAts L lv)
def Ph0 (c : Dev nD) : sProp 𝕄 := iprop(Xk m c ∗ own3 (F := F) c ∗ prng (F := F) c)
/-- And after it: every counter back at zero. -/
def Ph1 (c : Dev nD) : sProp 𝕄 :=
  iprop((semVal (bar c) 0 ∗ all21 (F := F) c fun q => semVal (dc c q) 0) ∗ own3 (F := F) c ∗ prng (F := F) c)

def dat (c : Dev nD) : Dat τ (Elt F) Unit ℕ UU ℕ cfg0 c where
  A w := V m c (Pipeline.arrRef spec0 w)
  after w t := match w, t with
    | 0, t => iblk m c 0 t
    | 1, t => iblk m c 1 t
    | 2, t => iblk m c 2 t
    | 3, t => iblk m c 3 t
    | 4, t => iblk m c 4 t
    | 5, _ => out3 (inp m) c
    | ⟨_ + 6, h⟩, _ => absurd h (Nat.not_lt.2 (Nat.le_add_left _ _))
  Φ t := if t.val = 0 then Ph0 m c else Ph1 c
  q _ := fullShare
  owed t := if t.val = 0 then O₀ c else 0

theorem bef0 (c : Dev nD) (t : Fin cfg0.N) (d) : (dat m c).before 0 t d = (inp m).x c := (((dat m c).before_in_eq_fetched 0 rfl (fun _ => rfl) (fun _ _ _ => rfl) (fun _ => rfl) t d).trans (rfl : _ = iblk m c 0 t)).trans (iblk_0 m c t)
theorem bef1 (c : Dev nD) (t : Fin cfg0.N) (d) : (dat m c).before 1 t d = (inp m).wq c := (((dat m c).before_in_eq_fetched 1 rfl (fun _ => rfl) (fun _ _ _ => rfl) (fun _ => rfl) t d).trans (rfl : _ = iblk m c 1 t)).trans (iblk_1 m c t)
theorem bef2 (c : Dev nD) (t : Fin cfg0.N) (d) : (dat m c).before 2 t d = (inp m).k c := (((dat m c).before_in_eq_fetched 2 rfl (fun _ => rfl) (fun _ _ _ => rfl) (fun _ => rfl) t d).trans (rfl : _ = iblk m c 2 t)).trans (iblk_2 m c t)
theorem bef3 (c : Dev nD) (t : Fin cfg0.N) (d) : (dat m c).before 3 t d = (inp m).v c := (((dat m c).before_in_eq_fetched 3 rfl (fun _ => rfl) (fun _ _ _ => rfl) (fun _ => rfl) t d).trans (rfl : _ = iblk m c 3 t)).trans (iblk_3 m c t)
theorem bef4 (c : Dev nD) (t : Fin cfg0.N) (d) : (dat m c).before 4 t d = (inp m).wo c := (((dat m c).before_in_eq_fetched 4 rfl (fun _ => rfl) (fun _ _ _ => rfl) (fun _ => rfl) t d).trans (rfl : _ = iblk m c 4 t)).trans (iblk_4 m c t)

theorem owesAt_intro {cfg : Pipeline.Cfg sig Λ₀} {c : Dev nD} (d : Dat τ (Elt F) Unit ℕ UU ℕ cfg c) (t : Fin (cfg.N + 1))
    (O : Tal) (h0 : d.owed t = O) (W : Waits sig Unit) (hr : d.recorded t = Set.univ) :
    (owes (c : Thread nD τ) O W : sProp 𝕄) ⊢ d.owesAt () t := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (d : Dat τ (Elt F) Unit ℕ UU ℕ cfg c) (t : Fin (cfg.N + 1))
    (O : Tal) (h0 : d.owed t = O) : (d.owesAt () t : sProp 𝕄) ⊢ iprop(∃ W, owes (c : Thread nD τ) O W) := by
  unfold Dat.owesAt Pipeline.owesWithin; rw [h0]
  iintro ⟨%W, -, HO⟩; iexists W; iexact HO

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)
theorem Phi_first (c : Dev nD) : (dat m c).Φ t0_0.castSucc = Ph0 m c := by
  show (if (t0_0.castSucc : Fin (cfg0.N + 1)).val = 0 then Ph0 m c else Ph1 c) = Ph0 m c; exact if_pos rfl
theorem Phi_last (c : Dev nD) : (dat m c).Φ t0_0.succ = Ph1 c := by
  show (if (t0_0.succ : Fin (cfg0.N + 1)).val = 0 then Ph0 m c else Ph1 c) = Ph1 c; exact if_neg (Nat.succ_ne_zero _)

theorem after5 (c : Dev nD) : (dat m c).after 5 t0_0 = out3 (inp m) c := by dsimp only [dat]

/-- The body's run with the invariant on both sides, whatever the output's buffer held. -/
theorem run0 (c : Dev nD) (f : S256x512.Idx → Elt F .f32) {Q : PUnit → sProp 𝕄} :
    iprop(Ph0 m c ∗ oweA (F := F) c 0 ∗ reads (inp m) c ∗ pt5 c f ∗ (Ph1 c ∗ oweA (F := F) c 12 ∗ reads (inp m) c ∗ pt5 c (out3 (inp m) c) -∗ Q ⟨⟩))
      ⊢ wpc c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q := by
  unfold Ph0 Xk held1
  iintro ⟨⟨⟨⟨%K, #HR, Hat, Hk, Hop⟩, Hcb, Hdu, #HL⟩, Hown, Hp⟩, HO, Hr, H5, Hcont⟩
  iapply (body_run ((inp m).at fun _ => f) K c)
  rw [records_at, out3_at]
  isplitr; · iexact HR
  isplitr; · iexact HL
  isplitl [Hat Hk Hop Hcb Hdu HO]
  · unfold before
    iframe HO Hcb Hat Hk Hdu Hop
  iframe Hr H5 Hown
  unfold after Ph1
  iintro ⟨⟨HO, Hb, Ha⟩, Hr, H5, Hown⟩
  iapply Hcont
  isplitl [Hb Ha Hown Hp]
  · isplitl [Hb Ha]; · isplitl [Hb] <;> iassumption
    iframe Hown Hp
  iframe HO Hr H5

set_option maxHeartbeats 4000000 in
theorem body0 (c : Dev nD) : BodyObligation (dat m c) (defs₀ (F := F)) 𝒱₀ () Set.univ := fun t => by
  obtain rfl := fin_N0 t
  rw [bigSep_W0, bigSep_W0]
  simp only [owns_whole_eq]
  rw [Phi_first, Phi_last]
  iintro ⟨HP, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩⟩
  obtain rfl := e0.trans (bef0 m c t0_0 d0)
  obtain rfl := e1.trans (bef1 m c t0_0 d1)
  obtain rfl := e2.trans (bef2 m c t0_0 d2)
  obtain rfl := e3.trans (bef3 m c t0_0 d3)
  obtain rfl := e4.trans (bef4 m c t0_0 d4)
  ihave HO' := (owesAt_elim (dat m c) _ (O₀ c) (owed_first m c)) $$ HO
  iapply (run0 m c f5)
  isplitl [HP]; · iexact HP
  isplitl [HO']; · iexact HO'
  isplitl [H0 H1 H2 H3 H4]
  · unfold reads
    iframe H0 H1 H2 H3 H4
  isplitl [H5]; · iexact H5
  unfold reads
  iintro ⟨HP, ⟨%W, HO⟩, ⟨H0, H1, H2, H3, H4⟩, H5⟩
  isplitl [HP]; · iexact HP
  isplitl [HO]; · iapply (owesAt_intro (dat m c) t0_0.succ 0 (owed_last m c) W rfl); iexact HO
  isplitl [H0]
  · iexists _; isplitr
    · ipureintro; exact (iblk_0 m c t0_0).symm
    iexact H0
  isplitl [H1]
  · iexists _; isplitr
    · ipureintro; exact (iblk_1 m c t0_0).symm
    iexact H1
  isplitl [H2]
  · iexists _; isplitr
    · ipureintro; exact (iblk_2 m c t0_0).symm
    iexact H2
  isplitl [H3]
  · iexists _; isplitr
    · ipureintro; exact (iblk_3 m c t0_0).symm
    iexact H3
  isplitl [H4]
  · iexists _; isplitr
    · ipureintro; exact (iblk_4 m c t0_0).symm
    iexact H4
  iexists _; isplitr
  · ipureintro; exact (after5 m c).symm
  iexact H5
end Reg

end Cert.KernelIdeal.Talk
end
-- ==== Proof.Run.lean ====
/-
  The run of the whole program: three reshapes, the region that talks, one reshape, on four devices at once.
-/
module

public import proofs.«01_k».proof.Proof.Region
public import Idealize.ShloMosaic.Lib.Pipeline.ValueKit.Geometry

@[expose] public section

set_option maxRecDepth 16384

noncomputable section

namespace Cert.KernelIdeal.Talk

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev adm : (p : Fin 1) → (pcfgs (F := F) p).Adm := fun p => (cfgs p).toPCfg_adm
abbrev pdats : (p : Fin 1) → (c : Dev nD) → Dat τ (Elt F) Unit ℕ UU ℕ (Pipeline.pin (pcfgs (F := F)) adm p) c :=
  fun _ c => dat m c
abbrev uc : Finset (DevRef τ sig) := Pipeline.ucRefs τ sig
abbrev heldU (c : Dev nD) (S : Finset (DevRef τ sig)) (W : Valuation τ sig (Elt F)) : sProp 𝕄 := StableHlo.held (c.tc : Thread nD τ) S W
abbrev debt (c : Dev nD) (O : Tal) : sProp 𝕄 := iprop(∃ W, owes (c : Thread nD τ) O W)

/-- The buffers once the region has left its output, and at the end. -/
def W1 (c : Dev nD) : Valuation τ sig (Elt F) := Function.update (V0 m c) (Proc.devRef .tc main_v4) (out3 (inp m) c)
def W2 (c : Dev nD) : Valuation τ sig (Elt F) := StableHlo.after hostOps1 (W1 m c)

theorem W1_v4 (c : Dev nD) : W1 m c (Proc.devRef .tc main_v4) = out3 (inp m) c := Function.update_self ..
theorem W1_ne (c : Dev nD) {r : Ref sig .tc} (h : r ≠ main_v4) : W1 m c (Proc.devRef .tc r) = V m c r :=
  Function.update_of_ne (StableHlo.devRef_ne_of_ne h) ..
theorem W2_ne (c : Dev nD) {r : Ref sig .tc} (h : r ≠ main_v4) (h' : r ≠ main_v5) : W2 m c (Proc.devRef .tc r) = V m c r := by
  unfold W2
  rw [StableHlo.after_cons, StableHlo.after_nil, StableHlo.reshape_result_ne _ _ _ _ _ _ _ h', W1_ne m c h]

/-! ## The region as a segment -/

/-- What a device carries into the region beside its buffers. -/
def Tk (c : Dev nD) : sProp 𝕄 := iprop(held0 (inp m) c ∗ cred (tallyAt (bar c) () 3) ∗ dueAll (F := F) c)
def Yk (c : Dev nD) : sProp 𝕄 := semVal (bar c) 0

theorem hopen (c : Dev nD) : iprop(Tk m c ∗ Pipeline.ownSems0 osem c ∗ levAts L lv) ⊢ (|={Set.univ}=> Xk m c : sProp 𝕄) := by
  unfold Tk Xk
  iintro ⟨⟨Hh, Hc, Hd⟩, Hs, #HL⟩
  imod (open_all (inp m) c) $$ [Hh Hs] with H
  · isplitl [Hh]; · iexact Hh
    iexact Hs
  imodintro
  iframe H Hc Hd HL

theorem rest_eq (c : Dev nD) : (Pipeline.scopedRest spec0 c : sProp 𝕄) = own3 (F := F) c := (scopedRest0_eq c).trans rfl

theorem hin (c : Dev nD) : iprop(Pipeline.scopedRest (Pipeline.pin (pcfgs (F := F)) adm 0).spec c ∗ (∃ r, prngReg c r) ∗ heldU c ∅ (V0 m c) ∗ Xk m c)
    ⊢ (pdats m 0 c).Φ 0 := by
  rw [show (pdats m 0 c).Φ 0 = Ph0 m c from Phi_first m c]
  unfold Ph0
  iintro ⟨Hs, Hp, -, HX⟩
  isplitl [HX]; · iexact HX
  isplitl [Hs]; · iapply (Entails.of_eq (rest_eq c)) $$ Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ heldU c ∅ (W1 m c) ∗ Pipeline.ownSems0 osem c ∗ Yk c) := by
  rw [show (pdats m 0 c).Φ (Fin.last (Pipeline.pin (pcfgs (F := F)) adm 0).N) = Ph1 c from Phi_last m c]
  unfold Ph1 Yk
  rw [← all21_eq]
  iintro ⟨⟨Hb, Hs⟩, Hown, Hp⟩
  isplitl [Hown]; · iapply (Entails.of_eq (rest_eq c).symm) $$ Hown
  isplitl [Hp]; · iexact Hp
  isplitr; · unfold heldU StableHlo.held; rw [BI.bigSep_empty]; iempintro
  isplitl [Hs]; · unfold Pipeline.ownSems0; iexact Hs
  iexact Hb

theorem owed_pos {c : Dev nD} {g : GSem nD τ sig} {u : Unit} (h : 0 < O₀ c g u) : g.1.2 = .tc ∧ 0 < lv g u := by
  obtain ⟨x, hx, rfl⟩ := ow_pos h
  exact (by decide +kernel : ∀ c : Dev nD, ∀ x ∈ dues c, x.1.1.2 = .tc ∧ 0 < lvs x.1.2) c x (List.drop_subset _ _ hx)

theorem cutD (c : Dev nD) (t : Fin ((Pipeline.pin (pcfgs (F := F)) adm 0).N + 1)) (g : GSem nD τ sig) (i : Unit)
    (h : 0 < (pdats m 0 c).owed t g i) : i ∈ L g ∧ (0 : ℕ) < lv g i := by
  have e : (pdats m 0 c).owed t = if t.val = 0 then O₀ c else 0 := rfl
  rw [e] at h
  split at h
  · obtain ⟨h1, h2⟩ := owed_pos h
    exact ⟨by unfold L; rw [if_pos h1]; exact Finset.mem_singleton_self _, h2⟩
  · exact absurd h (Nat.lt_irrefl 0)

theorem hshare (c : Dev nD) (w : Fin 6) : (pdats m 0 c).share w = fullShare := by
  unfold Dat.share; split <;> rfl

theorem arr0 (c : Dev nD) (w : Fin 6) : (pdats m 0 c).arrAt w 0 = V0 m c (Proc.devRef .tc (Pipeline.arrRef spec0 w)) := rfl

set_option maxHeartbeats 1000000 in
theorem arrN (c : Dev nD) (w : Fin 6) : (pdats m 0 c).arrAt w cfg0.N = W1 m c (Proc.devRef .tc (Pipeline.arrRef spec0 w)) := by
  by_cases h : w = 5
  · subst h
    refine (Pipeline.Dat.arrAt_eq_of_after_last (dat m c) 5 t0_0 (by decide +kernel) (out3 (inp m) c) (fun j => ?_)).trans (W1_v4 m c).symm
    rw [after5]; generalize out3 (inp m) c = f; rfl
  · have hw : (cfg0.win w).isOut = false := by revert h; revert w; decide
    refine (Dat.arrAt_in (dat m c) w hw cfg0.N).trans ?_
    exact (W1_ne m c (by revert h; revert w; decide)).symm

abbrev Sr : Finset (DevRef τ sig) := uc \ Pipeline.arrRefs (pcfgs (F := F) 0).spec

theorem arr_mem : Pipeline.arrRefs (pcfgs (F := F) 0).spec ⊆ uc := Pipeline.arrRefs_sub_ucRefs _ launch0.win.arr_unscoped
theorem held_uc (c : Dev nD) (W : Valuation τ sig (Elt F)) :
    (heldU c uc W : sProp 𝕄) = iprop(heldU c (Pipeline.arrRefs (pcfgs (F := F) 0).spec) W ∗ heldU c (Sr (F := F)) W) :=
  StableHlo.held_sub_split _ (arr_mem (F := F)) W

theorem hrest (c : Dev nD) (b : DevRef τ sig) (hb : b ∈ Sr (F := F) \ ∅) : W1 m c b = V0 m c b := by
  refine Function.update_of_ne (fun e => ?_) ..
  subst e
  rw [Finset.sdiff_empty] at hb
  refine (Finset.mem_sdiff.mp hb).2 (Finset.mem_map.mpr ⟨main_v4, Finset.mem_image.mpr ⟨(5 : Fin 6), Finset.mem_univ _, rfl⟩, rfl⟩)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ (Sr (F := F)) (Finset.empty_subset _) launch0.toP rfl (fun c => (body0 m c).loose)
    (fun _ => 0) O₀ (fun c => (owed_first m c).trans (zero_add _).symm) (owed_last m) (fun _ => rfl) (hshare m)
    (V0 m) (W1 m) (hrest m)
    (Tk m) Yk (Xk m) Yk (hopen m) (hin m) (hout m)
    (fun c => by iintro H; imodintro; iexact H)
    (fun _ => 0)
    ⟨fun c w s => by rw [L_tc]; exact Finset.mem_singleton_self _,
      fun c w s => (by decide +kernel : ∀ (w : Fin 6) (s : Fin (cfg0.win w).nbuf), lvs (.dma ((cfg0.win w).sem s)) ≤ 0) w s, fun c t g i h => cutD m c t g i h⟩
    (fun _ => iprop(emp)) (arr0 m) (arrN m)

/-- What rides beside the buffers before the region, and after it. -/
def R0 (c : Dev nD) : sProp 𝕄 := iprop(prng (F := F) c ∗ Tk m c ∗ debt (F := F) c (O₀ c))
def R1 (c : Dev nD) : sProp 𝕄 := iprop(prng (F := F) c ∗ Yk (F := F) c ∗ debt (F := F) c 0)

theorem reg0_pre (c : Dev nD) : iprop(heldU c uc (V0 m c) ∗ R0 m c) ⊢ (reg0 m).pre c := by
  show _ ⊢ iprop(heldU c (Pipeline.arrRefs (pcfgs (F := F) 0).spec) (V0 m c) ∗ (∃ r, prngReg c r)
    ∗ (heldU c (Sr (F := F)) (V0 m c) ∗ emp) ∗ Tk m c ∗ ∃ Wd, owes (c : Thread nD τ) (0 + O₀ c) Wd)
  rw [held_uc, zero_add]
  unfold R0
  iintro ⟨⟨Ha, Hr⟩, Hp, HT, HO⟩
  iframe Ha Hp
  isplitl [Hr]
  · isplitl [Hr]; · iexact Hr
    iempintro
  iframe HT HO

theorem reg0_post (c : Dev nD) : (reg0 m).post c ⊢ iprop(heldU c uc (W1 m c) ∗ R1 (F := F) c) := by
  show iprop(heldU c (Pipeline.arrRefs (pcfgs (F := F) 0).spec) (W1 m c) ∗ (∃ r, prngReg c r)
    ∗ (heldU c (Sr (F := F)) (W1 m c) ∗ emp) ∗ Yk c ∗ ∃ Wd, owes (c : Thread nD τ) (0 : Tal) Wd) ⊢ _
  rw [held_uc]
  unfold R1
  iintro ⟨Ha, Hp, ⟨Hr, -⟩, HY, HO⟩
  isplitl [Ha Hr]
  · isplitl [Ha]; · iexact Ha
    iexact Hr
  iframe Hp HY HO

/-! ## The host's two stretches -/

local notation "ℍ" => Pipeline.HostSeg (Name := ℕ) (U := UU) (pcfgs (F := F)) defs₀ 𝒱₀ L lv

def seg0 : ℍ := Pipeline.HostSeg.ofOps _ _ _ _ _ uc hostOps0
  (fun op h => Pipeline.sub_ucRefs op (List.forall_iff_forall_mem.mp hostOps0_sub op h)) (List.forall_iff_forall_mem.mp hostOps0_fresh)
  (fun c b => m (c, b)) (R0 m)
def seg1 : ℍ := Pipeline.HostSeg.ofOps _ _ _ _ _ uc hostOps1
  (fun op h => Pipeline.sub_ucRefs op (List.forall_iff_forall_mem.mp hostOps1_sub op h)) (List.forall_iff_forall_mem.mp hostOps1_fresh)
  (W1 m) (R1 (F := F))

/-- What a device holds at the start and at the end. -/
def T₀ (c : Dev nD) : sProp 𝕄 := iprop(heldU c uc (fun b => m (c, b)) ∗ R0 m c)
def Tₙ (c : Dev nD) : sProp 𝕄 := iprop(heldU c uc (W2 m c) ∗ Yk (F := F) c)

/-! ## The launch -/

def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's share of the launch, all of it dealt from device 0. -/
abbrev lump : sProp 𝕄 := BI.own (ER (launchOf barCells scCells allToks))
def G (c : Dev nD) : sProp 𝕄 := if c = 0 then lump else iprop(emp)
theorem G_all : bigSep Finset.univ (G (F := F)) = lump := by
  rw [bigSep_univ_at _ 0, bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems0_eq (c : Dev nD) : (unscopedSems0 c : sProp 𝕄) = semVal (bar c) 0 := by
  unfold unscopedSems0
  rw [show (Finset.univ.filter fun sm : SemLoc sig => ¬ sm.isScoped .tc) = {SemLoc.reg barrier0} from by decide, BI.bigSep_singleton]

/-- What each device is dealt, apart from the protocol. -/
def bundle (c : Dev nD) : sProp 𝕄 := iprop(heldU c uc (fun b => m (c, b)) ∗ prng (F := F) c ∗ cred (tallyAt (bar c) () 3) ∗ dueAll (F := F) c ∗ debt (F := F) c (O₀ c))

theorem core_eq (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (bar c) 0 ∗ G c)) : sProp 𝕄) := by
  rw [show unscopedBufs c (fun b => m ((c : Thread nD τ).loc b)) = heldU c uc (fun b => m (c, b)) from
    Pipeline.unscopedBufs_held c (fun b => m (c, b)), unscopedSems0_eq]
  unfold bundle
  iintro ⟨Hh, Hus, HO, Hcr, Hp, HG⟩
  ihave Hc := (creds (F := F) c) $$ Hcr
  icases Hc with ⟨H1, HN⟩
  isplitr [Hus HG]
  · isplitl [Hh]; · iexact Hh
    isplitl [Hp]; · iexists (ρ c); iexact Hp
    iframe H1 HN
    iexists _; iexact HO
  iframe Hus HG

theorem start_eq (c : Dev nD) : iprop(bundle m c ∗ held0 (inp m) c) ⊢ T₀ m c := by
  unfold bundle T₀ R0 Tk
  iintro ⟨⟨Hh, Hp, H1, HN, HO⟩, Hd⟩
  iframe Hh Hp
  isplitr [HO]
  · isplitl [Hd]; · iexact Hd
    iframe H1 HN
  iexact HO

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, -⟩
  ihave H := (show _ ⊢ (iprop((bigSep Finset.univ fun c : Dev nD => bundle m c) ∗ (bigSep Finset.univ fun c : Dev nD => (semVal (bar c) 0 : sProp 𝕄))
      ∗ bigSep Finset.univ (G (F := F))) : sProp 𝕄) from
    (bigSep_mono fun c _ => core_eq m ρ c).trans ((Entails.of_eq (bigSep_sep' _ _ _)).trans (sep_mono .rfl (Entails.of_eq (bigSep_sep' _ _ _))))) $$ H
  icases H with ⟨HB, Hv, HG⟩
  imod (deal0 (inp m)) $$ [Hv HG] with Hd
  · isplitl [Hv]; · iexact Hv
    iapply (Entails.of_eq (G_all (F := F))) $$ HG
  imodintro
  iapply (show (iprop((bigSep Finset.univ fun c : Dev nD => bundle m c) ∗ bigSep Finset.univ fun c : Dev nD => held0 (inp m) c) : sProp 𝕄)
      ⊢ bigSep Finset.univ (T₀ m) from (Entails.of_eq (bigSep_sep' _ _ _).symm).trans (bigSep_mono fun c _ => start_eq m c))
  iframe HB Hd

/-! ## Reading the end -/

def ends : List (Ref sig .tc) := [main_arg0, main_arg1, main_arg2, main_arg3, main_arg4, main_v5]
theorem held_ends (c : Dev nD) (W : Valuation τ sig (Elt F)) : (heldU c uc W : sProp 𝕄)
    ⊢ bigSepL (ends.map (Proc.devRef (τ := τ) (sig := sig) .tc)) fun b => ((c, b) ↦{fullShare} W b : sProp 𝕄) := by
  rw [← bigSep_eq_bigSepL _ (by decide)]
  exact bigSep_subset (by decide)

abbrev endAt (c : Dev nD) (s : MemSt nD τ sig (Elt F)) (r : Ref sig .tc) : Prop := s.mem ((c : Thread nD τ).loc r) = W2 m c (Proc.devRef .tc r)

theorem unscoped_eq : ∀ sm : SemLoc sig, sm.isScoped .tc = false → sm = .reg barrier0 := by decide

theorem read_end (c : Dev nD) (s' : Phys nD τ sig (Elt F)) : iprop(Tₙ m c ∗ SI s') ⊢ |={Set.univ}=> (iprop(⌜(endAt m c s'.mem main_arg0
      ∧ endAt m c s'.mem main_arg1 ∧ endAt m c s'.mem main_arg2 ∧ endAt m c s'.mem main_arg3 ∧ endAt m c s'.mem main_arg4 ∧ endAt m c s'.mem main_v5)
      ∧ s'.mem.sem (bar c) = 0⌝ ∗ SI s') : sProp 𝕄) := by
  unfold Tₙ Yk
  iintro ⟨⟨Hh, Hb⟩, HSI⟩
  ihave H := (show (heldU c uc (W2 m c) : sProp 𝕄) ⊢ iprop((((c, Proc.devRef .tc main_arg0) : Loc nD τ sig) ↦{fullShare} W2 m c (Proc.devRef .tc main_arg0))
      ∗ (((c, Proc.devRef .tc main_arg1) : Loc nD τ sig) ↦{fullShare} W2 m c (Proc.devRef .tc main_arg1))
      ∗ (((c, Proc.devRef .tc main_arg2) : Loc nD τ sig) ↦{fullShare} W2 m c (Proc.devRef .tc main_arg2))
      ∗ (((c, Proc.devRef .tc main_arg3) : Loc nD τ sig) ↦{fullShare} W2 m c (Proc.devRef .tc main_arg3))
      ∗ (((c, Proc.devRef .tc main_arg4) : Loc nD τ sig) ↦{fullShare} W2 m c (Proc.devRef .tc main_arg4))
      ∗ (((c, Proc.devRef .tc main_v5) : Loc nD τ sig) ↦{fullShare} W2 m c (Proc.devRef .tc main_v5))) from held_ends c (W2 m c)) $$ Hh
  icases H with ⟨H0, H1, H2, H3, H4, H5⟩
  icombine HSI H0 gives %h0
  icombine HSI H1 gives %h1
  icombine HSI H2 gives %h2
  icombine HSI H3 gives %h3
  icombine HSI H4 gives %h4
  icombine HSI H5 gives %h5
  icombine HSI Hb gives %hb
  imodintro
  isplitr
  · ipureintro
    exact ⟨⟨Buf.eq_of_forall_mem_univ h0, Buf.eq_of_forall_mem_univ h1, Buf.eq_of_forall_mem_univ h2, Buf.eq_of_forall_mem_univ h3,
      Buf.eq_of_forall_mem_univ h4, Buf.eq_of_forall_mem_univ h5⟩, by simpa using hb⟩
  iexact HSI

/-! ## The run -/

set_option maxHeartbeats 2000000 in
set_option backward.isDefEq.respectTransparency.types false in
/-- From any memory with its counters at zero, every fair run of the program on four devices ends, with the arguments as they were,
    the result as the region left it, and every counter at zero. -/
theorem run_main : θ_run (defs (F := F)) (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_v5) = W2 m c (Proc.devRef .tc main_v5)) ∧ r.2.sem = fun _ => 0) :=
  Pipeline.θ_run_regions_kit_sems (pcfgs (F := F)) adm (pdats m) () cellOf_inj EP defs₀ 𝒱₀ L lv m ρ main [.host (seg0 m), .region (reg0 m), .host (seg1 m)]
    (fun c Q => by rw [main_segs adm (pdats m) () 𝒱₀ L lv (seg0 m) (seg1 m) (reg0 m) rfl rfl c])
    (by simp only [Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => reg0_pre m c, fun c => reg0_post m c, fun c => ?_⟩
      show iprop(heldU c uc (W2 m c) ∗ R1 (F := F) c) ⊢ iprop(Tₙ m c ∗ ∃ W, owes (c : Thread nD τ) (0 : Tal) W)
      unfold R1 Tₙ
      iintro ⟨Hh, -, HY, HO⟩
      isplitr [HO]
      · isplitl [Hh]; · iexact Hh
        iexact HY
      · iexact HO)
    (hinit := init m ρ)
    (QY := fun c s => (endAt m c s main_arg0 ∧ endAt m c s main_arg1 ∧ endAt m c s main_arg2 ∧ endAt m c s main_arg3 ∧ endAt m c s main_arg4
      ∧ endAt m c s main_v5) ∧ s.sem (bar c) = 0)
    (hfin := fun c s' => read_end m c s')
    (hQ := fun s h hs => ⟨fun c => by
        obtain ⟨⟨h0, h1, h2, h3, h4, h5⟩, -⟩ := h c
        exact ⟨h0.trans ((W2_ne m c (by decide) (by decide)).trans (V_main_arg0 m c)), h1.trans ((W2_ne m c (by decide) (by decide)).trans (V_main_arg1 m c)),
          h2.trans ((W2_ne m c (by decide) (by decide)).trans (V_main_arg2 m c)), h3.trans ((W2_ne m c (by decide) (by decide)).trans (V_main_arg3 m c)),
          h4.trans ((W2_ne m c (by decide) (by decide)).trans (V_main_arg4 m c)), h5⟩,
      sem_eq_zero hs fun c sm hsm => by
        obtain rfl := unscoped_eq sm hsm
        exact (h c).2⟩)

end Cert.KernelIdeal.Talk
end
-- ==== Proof.Frames.lean ====
/-
  The claims that say nothing of values: the frames of the kernel, of its ideal program and of the reference, and the
  one constant the ideal program names.
-/
module

public import proofs.«01_k».proof.Defs
public import proofs.«01_k».proof.Proof.Run
public import proofs.«01_k».proof.Proof.Bits.Run
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.Frames

/-- The kernel ends, with its arguments as they were and every counter at zero. -/
theorem frame_p : Cert.quiescent_Kernel := fun m ρ _ =>
  (θ_run Cert.Kernel.defs _ _).mono
    (fun _ h => ⟨fun c => ⟨(h.1 c).1, (h.1 c).2.1, (h.1 c).2.2.1, (h.1 c).2.2.2.1, (h.1 c).2.2.2.2.1⟩, h.2⟩)
    (Cert.Kernel.Talk.run_main (F := Bits) m ρ)

/-- So does its ideal program. -/
theorem frame_pi : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (Cert.KernelIdeal.Talk.run_main (F := Ideal) m ρ)

/-- The reference is a host program with no counter at all. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The mask's constant is named, and stands for minus infinity. -/
theorem preserves : Cert.preserves_Kernel_KernelIdeal :=
  IdealRules.named_const.statement Cert.KernelIdeal.κ "mask" .f32 0xCE6E6B28#32 (⊥ : EReal) rfl

end Cert.Proof.Frames

end
-- ==== Proof.Softmax.lean ====
/-
  One row of attention over the extended reals: the scores of 512 keys, some of them minus infinity (masked) and none plus
  infinity, their weights, and that dividing every weight by the row's sum is the same as scaling the weighted sum of the
  values by its reciprocal, whatever the values are.
-/
module

public import Idealize.ShloMosaic.PureOps.Ideal
public import Idealize.ShloMosaic.Lib.IdealHost

@[expose] public section

noncomputable section

namespace Cert.Attn

open Idealize.ShloMosaic

/-- The row's largest score. -/
def top (s : Fin 512 → EReal) : EReal := Finset.univ.fold max ⊥ s

/-- A key's weight before scaling. -/
def wgt (s : Fin 512 → EReal) (j : Fin 512) : EReal := Ideal.exp (s j - top s)

/-- The sum of the weights. -/
def den (s : Fin 512 → EReal) : EReal := ∑ j, wgt s j

/-- The row's weighted values, scaled once. -/
def row (s v : Fin 512 → EReal) : EReal := (∑ j, wgt s j * v j) * Ideal.div 1 (den s)

theorem le_top (s : Fin 512 → EReal) (j : Fin 512) : s j ≤ top s :=
  (Finset.fold_max_le (f := s) (b := ⊥) (s := Finset.univ) (top s)).mp le_rfl |>.2 j (Finset.mem_univ j)

theorem top_mem (s : Fin 512 → EReal) (h : top s ≠ ⊥) : ∃ j, top s = s j := by
  rcases (Finset.le_fold_max (f := s) (b := ⊥) (s := Finset.univ) (top s)).mp le_rfl with h' | ⟨j, _, hj⟩
  · exact absurd (le_bot_iff.mp h') h
  · exact ⟨j, le_antisymm hj (le_top s j)⟩

theorem wgt_bot (s : Fin 512 → EReal) (j : Fin 512) (h : s j = ⊥) : wgt s j = 0 := by
  rw [wgt, h, EReal.bot_sub, Ideal.exp_bot]

/-- A real factor that is not negative goes into a sum of extended reals. -/
theorem sum_mul_real {n : ℕ} (f : Fin n → EReal) (c : ℝ) (hc : 0 ≤ c) : (∑ j, f j) * (c : EReal) = ∑ j, f j * (c : EReal) := by
  have := map_sum (⟨⟨fun x : EReal => x * (c : EReal), zero_mul _⟩, fun x y =>
    EReal.right_distrib_of_nonneg_of_ne_top (EReal.coe_nonneg.mpr hc) (EReal.coe_ne_top c) x y⟩ : EReal →+ EReal) f Finset.univ
  exact this

section Row

variable (s : Fin 512 → EReal) (h : ∀ j, s j ≠ ⊤) (j0 : Fin 512) (h0 : s j0 ≠ ⊥)
include h h0

theorem top_real : ∃ r : ℝ, top s = r := by
  have hb : top s ≠ ⊥ := fun e => h0 (le_bot_iff.mp (e ▸ le_top s j0))
  obtain ⟨j, hj⟩ := top_mem s hb
  have ht : top s ≠ ⊤ := hj ▸ h j
  exact ⟨(top s).toReal, (EReal.coe_toReal ht hb).symm⟩

theorem wgt_real (j : Fin 512) : ∃ r : ℝ, 0 ≤ r ∧ wgt s j = r := by
  obtain ⟨t, ht⟩ := top_real s h j0 h0
  by_cases hb : s j = ⊥
  · exact ⟨0, le_rfl, by rw [wgt_bot s j hb]; rfl⟩
  · refine ⟨Real.exp ((s j).toReal - t), (Real.exp_pos _).le, ?_⟩
    rw [wgt, ht, ← EReal.coe_toReal (h j) hb, ← EReal.coe_sub, Ideal.exp_coe, EReal.toReal_coe]

theorem den_real : ∃ r : ℝ, 0 < r ∧ den s = r := by
  choose w hw he using wgt_real s h j0 h0
  obtain ⟨t, ht⟩ := top_real s h j0 h0
  obtain ⟨j, hj⟩ := top_mem s (by rw [ht]; exact EReal.coe_ne_bot t)
  have h1 : w j = 1 := by
    have : wgt s j = 1 := by
      rw [wgt, ← hj, ht, ← EReal.coe_sub, sub_self, Ideal.exp_coe, Real.exp_zero]; rfl
    exact_mod_cast (he j).symm.trans this
  refine ⟨∑ i, w i, ?_, ?_⟩
  · exact lt_of_lt_of_le (h1 ▸ one_pos) (Finset.single_le_sum (fun i _ => hw i) (Finset.mem_univ j))
  · rw [den, Finset.sum_congr rfl fun i _ => he i]
    exact (map_sum (⟨⟨fun r : ℝ => (r : EReal), rfl⟩, EReal.coe_add⟩ : ℝ →+ EReal) w Finset.univ).symm

/-- Dividing each weight by their sum is scaling the weighted sum. -/
theorem weigh (v : Fin 512 → EReal) : ∑ j, v j * Ideal.div (wgt s j) (den s) = row s v := by
  obtain ⟨d, hd, he⟩ := den_real s h j0 h0
  rw [row, he, Ideal.div_coe hd.ne' 1, one_mul, sum_mul_real _ _ (by positivity)]
  refine Finset.sum_congr rfl fun j _ => ?_
  rw [Ideal.div_coe hd.ne', ← mul_assoc, mul_comm (v j)]

end Row

/-- Values at masked keys do not matter. -/
theorem row_congr (s v v' : Fin 512 → EReal) (h : ∀ j, s j ≠ ⊥ → v j = v' j) : row s v = row s v' := by
  unfold row
  congr 1
  refine Finset.sum_congr rfl fun j _ => ?_
  by_cases hb : s j = ⊥
  · rw [wgt_bot s j hb, zero_mul, zero_mul]
  · rw [h j hb]

end Cert.Attn

end
-- ==== Proof.Spec.lean ====
/-
  The attention of the problem as sums over the extended reals: queries, masked and scaled scores, each head's context, and
  the product with the output weights.
-/
module

public import proofs.«01_k».proof.Proof.Softmax

@[expose] public section

noncomputable section

namespace Cert.Attn

open Idealize.ShloMosaic

/-- Query block `a` sees key block `b`. -/
def sees (a b : ℕ) : Bool := a == b || b == 0 || (a + b) % 3 == 0

/-- Component `d` of head `h` among the packed columns. -/
def hcol (h : Fin 4) (d : Fin 64) : Fin 256 := ⟨h.val * 64 + d.val, by omega⟩

/-- Key `i` of block `o`. -/
def key (o : Fin 4) (i : Fin 128) : Fin 512 := ⟨o.val * 128 + i.val, by omega⟩

theorem key_surj (j : Fin 512) : ∃ o i, j = key o i :=
  ⟨⟨j.val / 128, by omega⟩, ⟨j.val % 128, by omega⟩, Fin.ext (by simp only [key]; omega)⟩

section Terms

variable (X : Fin 2 → Fin 128 → Fin 512 → EReal) (Wq : Fin 512 → Fin 256 → EReal)
  (K V : Fin 2 → Fin 512 → Fin 4 → Fin 64 → EReal) (Wo : Fin 256 → Fin 512 → EReal)

def query (b : Fin 2) (r : Fin 128) (n : Fin 256) : EReal := ∑ k : Fin 512, X b r k * Wq k n

def score (b : Fin 2) (h : Fin 4) (r : Fin 128) (j : Fin 512) : EReal :=
  if sees (r.val / 64) (j.val / 64) = true then
    (∑ d : Fin 64, query X Wq b r (hcol h d) * K b j h d) * Ideal.ofBits .f32 0x3E000000#32
  else ⊥

def ctx (b : Fin 2) (h : Fin 4) (r : Fin 128) (d : Fin 64) : EReal :=
  row (score X Wq K b h r) (fun j => V b j h d)

def out (b : Fin 2) (r : Fin 128) (n : Fin 512) : EReal :=
  ∑ h : Fin 4, ∑ d : Fin 64, ctx X Wq K V b h r d * Wo (hcol h d) n

end Terms

end Cert.Attn

end
-- ==== Proof.Heads.lean ====
/-
  What the kernel computes of one head, element by element over the extended reals: the four blocks of scores, a row's
  weights, and the scaled sum of the four blocks of weighted values.
-/
module

public import proofs.«01_k».proof.Proof.Cont
public import proofs.«01_k».proof.Proof.Spec
public import Idealize.ShloMosaic.Lib.Pointwise

@[expose] public section

noncomputable section

namespace Cert.KernelIdeal.Heads

open Cert.KernelIdeal Cert.KernelIdeal.Gen Cert.KernelIdeal.Talk
open Idealize.ShloMosaic Idealize.ShloMosaic.TcCoe
open Cert.Attn

/-- A head's scores before scaling: its queries against the four blocks of keys, side by side. -/
def scr (q : FVec Ideal S128x64 .bf16) (k : Fin 4 → FVec Ideal S1x1x128x64 .bf16) : FVec Ideal S128x512 .f32 :=
  concatenate S128x512 1
    [⟨S128x128, matmul dot_S128x64_S128x64_S128x128_1_1_0_0_n_n none q (shapeCast S128x64 (k 0) shapeCasts_S1x1x128x64_S128x64) (constant S128x128 .f32 0x00000000#32)⟩,
     ⟨S128x128, matmul dot_S128x64_S128x64_S128x128_1_1_0_0_n_n none q (shapeCast S128x64 (k 1) shapeCasts_S1x1x128x64_S128x64) (constant S128x128 .f32 0x00000000#32)⟩,
     ⟨S128x128, matmul dot_S128x64_S128x64_S128x128_1_1_0_0_n_n none q (shapeCast S128x64 (k 2) shapeCasts_S1x1x128x64_S128x64) (constant S128x128 .f32 0x00000000#32)⟩,
     ⟨S128x128, matmul dot_S128x64_S128x64_S128x128_1_1_0_0_n_n none q (shapeCast S128x64 (k 3) shapeCasts_S1x1x128x64_S128x64) (constant S128x128 .f32 0x00000000#32)⟩]
    concatenates_S128x128_S128x128_S128x128_S128x128_S128x512_d1

theorem scr_apply (q : FVec Ideal S128x64 .bf16) (k : Fin 4 → FVec Ideal S1x1x128x64 .bf16) (r : Fin 128) (o : Fin 4) (i : Fin 128) :
    scr q k (ix2 r (key o i)) = ∑ d : Fin 64, q (ix2 r d) * k o (ix4 0 0 i d) := by
  have h1 : ∀ n, 128 + n - 128 = n := by omega
  have h2 : ∀ n, 256 + n - 128 - 128 = n := by omega
  have h3 : ∀ n, 384 + n - 128 - 128 - 128 = n := by omega
  have e2 : ¬ 256 + i.val < 128 := by omega
  have e2' : ¬ 256 + i.val - 128 < 128 := by omega
  have e3 : ¬ 384 + i.val < 128 := by omega
  have e3' : ¬ 384 + i.val - 128 < 128 := by omega
  have e3'' : ¬ 384 + i.val - 128 - 128 < 128 := by omega
  fin_cases o <;> pointwise [scr, key]
  · simp only [e2, e2', h2, i.isLt, ↓reduceDIte, Fin.eta]
  · simp only [e3, e3', e3'', ↓reduceDIte, h3, Fin.eta]

/-- A row of scores as the weights take it: scaled where the mask keeps the key, minus infinity elsewhere. -/
def srow (sc : FVec Ideal S128x512 .f32) (r : Fin 128) (j : Fin 512) : EReal :=
  if msk (ix2 r j) = 1#1 then sc (ix2 r j) * Ideal.ofBits .f32 0x3E000000#32 else ⊥

/-- The mask's constant is minus infinity. -/
theorem mask_bot : Named.named (F := Ideal) κ "mask" (φ := .f32) 0xCE6E6B28#32 = (⊥ : EReal) :=
  IdealRules.named_const.ideal_named_scalar _ _ _ _ rfl

theorem ofBits_bot : Ideal.ofBits .f32 0xFF800000#32 = (⊥ : EReal) := by simp [Ideal.ofBits, Ideal.ieee]

theorem pay27_apply (sc : FVec Ideal S128x512 .f32) (r : Fin 128) (j : Fin 512) :
    k0_pay27 msk sc k0_pay26 (ix2 r j) = wgt (srow sc r) j := by
  generalize hm : msk = M
  pointwise [k0_pay27, k0_pay26, mask_bot]
  have e : ∀ x, Scalar.select (M (ix2 r x)) (sc (ix2 r x) * Ideal.ofBits FTy.f32 1040187392#32) ⊥ = srow sc r x := by
    intro x
    unfold srow Scalar.select
    rw [hm]
    rfl
  simp only [e]
  unfold wgt top
  rw [ofBits_bot]

theorem pay29_apply (sc : FVec Ideal S128x512 .f32) (r : Fin 128) (d : Fin 64) :
    k0_pay29 msk sc k0_pay26 (ix2 r d) = Ideal.div 1 (den (srow sc r)) := by
  have h := fun j => pay27_apply sc r j
  unfold k0_pay29
  generalize k0_pay27 msk sc k0_pay26 = W at h
  pointwise []
  unfold den
  simp only [h]

theorem pay28_apply (sc : FVec Ideal S128x512 .f32) (v : Fin 4 → FVec Ideal S1x1x128x64 .bf16) (r : Fin 128) (d : Fin 64) :
    k0_pay28 msk sc k0_pay26 (v 0) (v 1) (v 2) (v 3) (ix2 r d)
      = ∑ o : Fin 4, ∑ i : Fin 128, wgt (srow sc r) (key o i) * v o (ix4 0 0 i d) := by
  have h := fun j => pay27_apply sc r j
  unfold k0_pay28
  generalize k0_pay27 msk sc k0_pay26 = W at h
  pointwise [Fin.sum_univ_four]
  have k0 : ∀ x : Fin 128, (⟨x.val, by omega⟩ : Fin 512) = key 0 x := fun x => Fin.ext (by simp [key])
  have k1 : ∀ x : Fin 128, (⟨128 + x.val, by omega⟩ : Fin 512) = key 1 x := fun x => Fin.ext (by simp [key])
  have k2 : ∀ x : Fin 128, (⟨256 + x.val, by omega⟩ : Fin 512) = key 2 x := fun x => Fin.ext (by simp [key])
  have k3 : ∀ x : Fin 128, (⟨384 + x.val, by omega⟩ : Fin 512) = key 3 x := fun x => Fin.ext (by simp [key])
  simp only [h, k0, k1, k2, k3]

/-- A sum over the keys is the sum of the four blocks' sums. -/
theorem sum_key (f : Fin 512 → EReal) : ∑ j, f j = ∑ o : Fin 4, ∑ i : Fin 128, f (key o i) :=
  Fin.sum_univ_tiles 4 128 rfl f

/-- One head's context: the weighted values of a row, scaled by the reciprocal of the weights' sum. -/
theorem head_apply (q : FVec Ideal S128x64 .bf16) (k v : Fin 4 → FVec Ideal S1x1x128x64 .bf16) (r : Fin 128) (d : Fin 64)
    (s vv : Fin 512 → EReal)
    (hs : ∀ o i, s (key o i) = if msk (ix2 r (key o i)) = 1#1 then
      (∑ e : Fin 64, q (ix2 r e) * k o (ix4 0 0 i e)) * Ideal.ofBits .f32 0x3E000000#32 else ⊥)
    (hv : ∀ o i, s (key o i) ≠ ⊥ → v o (ix4 0 0 i d) = vv (key o i)) :
    k0_pay30 (k0_pay28 msk (scr q k) k0_pay26 (v 0) (v 1) (v 2) (v 3)) (k0_pay29 msk (scr q k) k0_pay26) (ix4 0 0 r d)
      = row s vv := by
  have e : srow (scr q k) r = s := by
    funext j
    obtain ⟨o, i, rfl⟩ := key_surj j
    rw [hs, srow, scr_apply]
  have h1 := pay28_apply (scr q k) v r d
  have h2 := pay29_apply (scr q k) r d
  rw [e] at h1 h2
  generalize k0_pay28 msk (scr q k) k0_pay26 (v 0) (v 1) (v 2) (v 3) = A at h1
  generalize k0_pay29 msk (scr q k) k0_pay26 = B at h2
  pointwise [k0_pay30]
  rw [h1, h2, row, sum_key]
  congr 1
  refine Finset.sum_congr rfl fun o _ => Finset.sum_congr rfl fun i _ => ?_
  by_cases hb : s (key o i) = ⊥
  · rw [wgt_bot s _ hb, zero_mul, zero_mul]
  · rw [hv o i hb]

end Cert.KernelIdeal.Heads

end
-- ==== Proof.Mask.lean ====
/-
  Which keys a row of queries sees: by blocks of 64, those of its own block, of the first block, and of the blocks whose
  number makes with its own a multiple of three. The kernel's words say the same.
-/
module

public import proofs.«01_k».proof.Proof.Cont
public import proofs.«01_k».proof.Proof.Spec
public import Idealize.ShloMosaic.Lib.Pointwise

@[expose] public section

noncomputable section

namespace Cert.KernelIdeal.Heads

open Cert.KernelIdeal Cert.KernelIdeal.Gen Cert.KernelIdeal.Talk
open Idealize.ShloMosaic Idealize.ShloMosaic.TcCoe
open Cert.Attn

theorem pay9_apply (r : Fin 128) (j : Fin 512) :
    k0_pay9 (iota .tc S128x512 32 [0] iota_S128x512_d0_w32) 64#32 k0_pay7 k0_pay8
      (Scalar.extui (Scalar.cmpi .sgt 64#32 0#32)) (Scalar.extui (Scalar.cmpi .slt 64#32 0#32)) (ix2 r j) = BitVec.ofNat 32 (r.val / 64) := by
  pointwise [k0_pay9, k0_pay7, k0_pay8]
  revert r
  decide +kernel

theorem pay10_apply (r : Fin 128) (j : Fin 512) : k0_pay10 (ix2 r j) = BitVec.ofNat 32 (j.val / 64) := by
  pointwise [k0_pay10]
  revert j
  decide +kernel

theorem msk_apply (r : Fin 128) (j : Fin 512) : msk (ix2 r j) = BitVec.ofBool (sees (r.val / 64) (j.val / 64)) := by
  have h9 := pay9_apply r j
  have h10 := pay10_apply r j
  unfold msk k0_pay14 k0_pay11 k0_pay12 k0_pay13
  generalize k0_pay9 _ _ _ _ _ _ = A at h9 ⊢
  generalize k0_pay10 = B at h10 ⊢
  pointwise []
  rw [h9, h10]
  have ha : r.val / 64 < 2 := by omega
  have hb : j.val / 64 < 8 := by omega
  generalize r.val / 64 = a at ha ⊢
  generalize j.val / 64 = b at hb ⊢
  revert a b
  decide +kernel

end Cert.KernelIdeal.Heads

end
-- ==== Proof.Contents.lean ====
/-
  What the kernel's buffers hold, told by the problem's arrays: the queries, the gathered keys and values, every head's
  context, and the output after each device's share has been added.
-/
module

public import proofs.«01_k».proof.Proof.Region
public import proofs.«01_k».proof.Proof.Heads
public import proofs.«01_k».proof.Proof.Mask

@[expose] public section

noncomputable section

namespace Cert.KernelIdeal.Heads

open Cert.KernelIdeal Cert.KernelIdeal.Gen Cert.KernelIdeal.Talk
open Idealize.ShloMosaic Idealize.ShloMosaic.TcCoe
open Cert.Attn

/-- Row `r` of batch `b` among the flattened rows. -/
def brow (b : Fin 2) (r : Fin 128) : Fin 256 := ⟨b.val * 128 + r.val, by omega⟩

/-- Head `j` of device `t`'s two. -/
def hd (t : Dev nD) (j : Fin 2) : Fin 4 := ⟨2 * (t.val % 2) + j.val, by omega⟩

/-- Component `d` of the `j`-th of two heads. -/
def half (j : Fin 2) (d : Fin 64) : Fin 128 := ⟨64 * j.val + d.val, by omega⟩

/-- The kernel's arguments are the problem's arrays, keys and values cut by rows. -/
structure Given (I : Inp Ideal) (X : Fin 2 → Fin 128 → Fin 512 → EReal) (Wq : Fin 512 → Fin 256 → EReal)
    (K V : Fin 2 → Fin 512 → Fin 4 → Fin 64 → EReal) (Wo : Fin 256 → Fin 512 → EReal) : Prop where
  x : ∀ c b r k, I.x c (ix2 (brow b r) k) = X b r k
  wq : ∀ c k n, I.wq c (ix2 k n) = Wq k n
  k : ∀ (c : Dev nD) b i h d, I.k c (ix3 b i (hcol h d)) = K b (key c i) h d
  v : ∀ (c : Dev nD) b i h d, I.v c (ix3 b i (hcol h d)) = V b (key c i) h d
  wo : ∀ c e n, I.wo c (ix2 e n) = Wo e n

/-- A read rectangle's element is the buffer's element at the offset place. -/
theorem ld_at {α : Type} {s : Shape} {off off' : Fin s.rank → ℕ} (e : off = off') (size : Fin s.rank → ℕ)
    (inb : ∀ a, off a + size a ≤ s.size a) (f : s.Idx → α)
    (j : (Rect.unit off size inb).shape.Idx) (i : s.Idx) (h : ∀ a, (i a).val = off' a + (j a).val) : ld off size inb f j = f i := by
  subst e
  refine congrArg f (funext fun a => Fin.ext ?_)
  show off a + 1 * (j a).val = (i a).val
  rw [Nat.one_mul]; exact (h a).symm

/-! ## Where the body reads and writes -/

theorem off9_val (c : Dev nD) : k0_off9 c = ![0, 128 * (c.val % 2)] := by revert c; decide
theorem off10_val (c : Dev nD) : k0_off10 c = ![c.val, 0, 0, 0] := by revert c; decide
theorem off13_val (c : Dev nD) : k0_off13 c = ![c.val, 1, 0, 0] := by revert c; decide
theorem off17_0 (c : Dev nD) : k0_off17 c 0#32 = ![(hd c 0).val * 64, 0] := by revert c; decide
theorem off17_1 (c : Dev nD) : k0_off17 c 1#32 = ![(hd c 1).val * 64, 0] := by revert c; decide
theorem off21_1 (c : Dev nD) : k0_off21 c 1#32 = ![(nx c 0).val, 0, 0, 0] := by revert c; decide
theorem off21_2 (c : Dev nD) : k0_off21 c 2#32 = ![(nx c 1).val, 0, 0, 0] := by revert c; decide
theorem off21_3 (c : Dev nD) : k0_off21 c 3#32 = ![(nx c 2).val, 0, 0, 0] := by revert c; decide
theorem off25_1 (c : Dev nD) : k0_off25 c 1#32 = ![(nx c 0).val, 1, 0, 0] := by revert c; decide
theorem off25_2 (c : Dev nD) : k0_off25 c 2#32 = ![(nx c 1).val, 1, 0, 0] := by revert c; decide
theorem off25_3 (c : Dev nD) : k0_off25 c 3#32 = ![(nx c 2).val, 1, 0, 0] := by revert c; decide
theorem off22_10 (c : Dev nD) : k0_off22 c 1#32 0#32 = ![(hd (nx c 0) 0).val * 64, 0] := by revert c; decide
theorem off22_11 (c : Dev nD) : k0_off22 c 1#32 1#32 = ![(hd (nx c 0) 1).val * 64, 0] := by revert c; decide
theorem off22_20 (c : Dev nD) : k0_off22 c 2#32 0#32 = ![(hd (nx c 1) 0).val * 64, 0] := by revert c; decide
theorem off22_21 (c : Dev nD) : k0_off22 c 2#32 1#32 = ![(hd (nx c 1) 1).val * 64, 0] := by revert c; decide
theorem off22_30 (c : Dev nD) : k0_off22 c 3#32 0#32 = ![(hd (nx c 2) 0).val * 64, 0] := by revert c; decide
theorem off22_31 (c : Dev nD) : k0_off22 c 3#32 1#32 = ![(hd (nx c 2) 1).val * 64, 0] := by revert c; decide

section Given

variable {I : Inp Ideal} {X : Fin 2 → Fin 128 → Fin 512 → EReal} {Wq : Fin 512 → Fin 256 → EReal}
  {K V : Fin 2 → Fin 512 → Fin 4 → Fin 64 → EReal} {Wo : Fin 256 → Fin 512 → EReal} (G : Given I X Wq K V Wo)
include G

/-- The queries of the device's batch under its two heads' columns. -/
theorem qv_apply (c : Dev nD) (r : Fin 128) (j : Fin 2) (d : Fin 64) :
    qv I c (ix2 r (half j d)) = query X Wq (bt c) r (hcol (hd c j) d) := by
  have hx : ∀ k, ld (s := S256x512) (k0_off8 c) S128x512.size (k0_off8_inb c) (I.x c) (ix2 r k) = X (bt c) r k := fun k =>
    (ld_at (s := S256x512) (off8_val c) _ _ _ _ (ix2 (brow (bt c) r) k) (fun a => by
      fin_cases a
      · show (bt c).val * 128 + r.val = 128 * (c.val / 2) + r.val
        simp only [bt]; omega
      · exact (Nat.zero_add _).symm)).trans (G.x c _ r k)
  have hw : ∀ k, ld (s := S512x256) (k0_off9 c) S512x128.size (k0_off9_inb c) (I.wq c) (ix2 k (half j d)) = Wq k (hcol (hd c j) d) := fun k =>
    (ld_at (s := S512x256) (off9_val c) _ _ _ _ (ix2 k (hcol (hd c j) d)) (fun a => by
      fin_cases a
      · exact (Nat.zero_add _).symm
      · show (2 * (c.val % 2) + j.val) * 64 + d.val = 128 * (c.val % 2) + (64 * j.val + d.val)
        omega)).trans (G.wq c k _)
  unfold qv
  generalize ld (s := S256x512) (k0_off8 c) S128x512.size (k0_off8_inb c) (I.x c) = A at hx
  generalize ld (s := S512x256) (k0_off9 c) S512x128.size (k0_off9_inb c) (I.wq c) = B at hw
  pointwise [k0_pay6]
  simp only [hx, hw]
  rfl

omit G in
theorem kvl_apply (c : Dev nD) (o : Fin 4) (p : Fin 2) (j : Fin 2) (i : Fin 128) (d : Fin 64) (b : ℕ) (hb : b = 64 * j.val)
    (inb : ∀ a, (![o.val, p.val, 0, b] : Fin 4 → ℕ) a + S1x1x128x64.size a ≤ S4x2x128x128.size a) :
    kvl I c o.val p.val b inb (ix4 0 0 i d) = KV I c (ix4 o p i (half j d)) := by
  subst hb
  refine ld_at (s := S4x2x128x128) rfl _ _ _ _ _ (fun a => ?_)
  fin_cases a
  · exact (Nat.add_zero _).symm
  · exact (Nat.add_zero _).symm
  · exact (Nat.zero_add _).symm
  · rfl

omit G in
theorem col_half (c : Dev nD) (j : Fin 2) (d : Fin 64) : col c (half j d) = hcol (hd c j) d :=
  Fin.ext (by simp only [col, half, hcol, hd]; omega)

omit G in
/-- No row sees the rows that were never sent. -/
theorem sees_sent (r : Fin 128) (o : Fin 4) (i : Fin 128) (h : sees (r.val / 64) ((key o i).val / 64) = true) :
    ¬ (o.val = 2 ∧ i.val < 64) ∧ ¬ (o.val = 3 ∧ 64 ≤ i.val) := by
  have hr : r.val / 64 < 2 := by omega
  have key : ∀ a < 2, sees a 4 = false ∧ sees a 7 = false := by decide
  obtain ⟨h4, h7⟩ := key _ hr
  constructor
  · rintro ⟨h1, h2⟩
    have : (Attn.key o i).val / 64 = 4 := by simp only [Attn.key]; omega
    rw [this, h4] at h; cases h
  · rintro ⟨h1, h2⟩
    have : (Attn.key o i).val / 64 = 7 := by simp only [Attn.key]; omega
    rw [this, h7] at h; cases h

/-- The gathered keys that a row sees. -/
theorem kv_key (c : Dev nD) (r : Fin 128) (o : Fin 4) (i : Fin 128) (j : Fin 2) (d : Fin 64)
    (h : sees (r.val / 64) ((key o i).val / 64) = true) :
    KV I c (ix4 o 0 i (half j d)) = K (bt c) (key o i) (hd c j) d := by
  obtain ⟨h1, h2⟩ := sees_sent r o i h
  show (if o.val = 2 ∧ i.val < 64 ∧ c.val ≠ 2 then _ else if o.val = 3 ∧ 64 ≤ i.val ∧ c.val ≠ 3 then _ else
    if (0 : ℕ) = 0 then k0_pay1 (I.k o) (ValueIdx.ix4 (0 : Fin 1) (bt c) i (col c (half j d)))
    else k0_pay2 (I.v o) (ValueIdx.ix4 (0 : Fin 1) (bt c) i (col c (half j d)))) = _
  rw [if_neg (fun e => h1 ⟨e.1, e.2.1⟩), if_neg (fun e => h2 ⟨e.1, e.2.1⟩), if_pos rfl]
  rw [← G.k o (bt c) i (hd c j) d, ← col_half]
  rw [← ix4_eq_valueIdx]
  pointwise [k0_pay1]

/-- The gathered values that a row sees. -/
theorem kv_val (c : Dev nD) (r : Fin 128) (o : Fin 4) (i : Fin 128) (j : Fin 2) (d : Fin 64)
    (h : sees (r.val / 64) ((key o i).val / 64) = true) :
    KV I c (ix4 o 1 i (half j d)) = V (bt c) (key o i) (hd c j) d := by
  obtain ⟨h1, h2⟩ := sees_sent r o i h
  show (if o.val = 2 ∧ i.val < 64 ∧ c.val ≠ 2 then _ else if o.val = 3 ∧ 64 ≤ i.val ∧ c.val ≠ 3 then _ else
    if (1 : ℕ) = 0 then k0_pay1 (I.k o) (ValueIdx.ix4 (0 : Fin 1) (bt c) i (col c (half j d)))
    else k0_pay2 (I.v o) (ValueIdx.ix4 (0 : Fin 1) (bt c) i (col c (half j d)))) = _
  rw [if_neg (fun e => h1 ⟨e.1, e.2.1⟩), if_neg (fun e => h2 ⟨e.1, e.2.1⟩), if_neg (by omega)]
  rw [← G.v o (bt c) i (hd c j) d, ← col_half]
  rw [← ix4_eq_valueIdx]
  pointwise [k0_pay2]

/-- A head's context on the device that computes it, by its queries, keys and values. -/
theorem head_ctx (c : Dev nD) (j : Fin 2) (q : FVec Ideal S128x64 .bf16) (k v : Fin 4 → FVec Ideal S1x1x128x64 .bf16)
    (hq : ∀ r d, q (ix2 r d) = qv I c (ix2 r (half j d)))
    (hk : ∀ o i d, k o (ix4 0 0 i d) = KV I c (ix4 o 0 i (half j d)))
    (hv : ∀ o i d, v o (ix4 0 0 i d) = KV I c (ix4 o 1 i (half j d))) (r : Fin 128) (d : Fin 64) :
    k0_pay30 (k0_pay28 msk (scr q k) k0_pay26 (v 0) (v 1) (v 2) (v 3)) (k0_pay29 msk (scr q k) k0_pay26) (ix4 0 0 r d)
      = ctx X Wq K V (bt c) (hd c j) r d := by
  have hm : ∀ o i, (msk (ix2 r (key o i)) = 1#1) = (sees (r.val / 64) ((key o i).val / 64) = true) := fun o i => by
    rw [msk_apply]; cases sees (r.val / 64) ((key o i).val / 64) <;> simp
  refine head_apply q k v r d _ _ (fun o i => ?_) (fun o i hb => ?_)
  · simp only [hm]
    unfold score
    by_cases h : sees (r.val / 64) ((key o i).val / 64) = true
    · rw [if_pos h, if_pos h]
      congr 1
      exact Finset.sum_congr rfl fun e _ => by rw [hq, qv_apply G, hk, kv_key G c r o i j e h]
    · rw [if_neg h, if_neg h]
  · have h : sees (r.val / 64) ((key o i).val / 64) = true := by
      by_contra h; exact hb (by unfold score; rw [if_neg h])
    rw [hv, kv_val G c r o i j d h]

/-- The gathered contexts. -/
theorem CG_apply (c : Dev nD) (j : Fin 2) (r : Fin 128) (d : Fin 64) :
    CG I (ix4 c j r d) = ctx X Wq K V (bt c) (hd c j) r d := by
  unfold CG
  fin_cases j
  · rw [if_pos (by rfl)]
    show cx0 I c (ValueIdx.ix4 (0 : Fin 1) (0 : Fin 1) r d) = _
    rw [← ix4_eq_valueIdx]
    refine Eq.trans ?_ (head_ctx G c 0 (k0_pay15 (qv I c))
      ![kvl I c 0 0 0 inb_S4x2x128x128_S1x1x128x64_0_0_0_0, kvl I c 1 0 0 inb_S4x2x128x128_S1x1x128x64_1_0_0_0,
        kvl I c 2 0 0 inb_S4x2x128x128_S1x1x128x64_2_0_0_0, kvl I c 3 0 0 inb_S4x2x128x128_S1x1x128x64_3_0_0_0]
      ![kvl I c 0 1 0 inb_S4x2x128x128_S1x1x128x64_0_1_0_0, kvl I c 1 1 0 inb_S4x2x128x128_S1x1x128x64_1_1_0_0,
        kvl I c 2 1 0 inb_S4x2x128x128_S1x1x128x64_2_1_0_0, kvl I c 3 1 0 inb_S4x2x128x128_S1x1x128x64_3_1_0_0]
      ?_ ?_ ?_ r d)
    · rfl
    · intro r d
      pointwise [k0_pay15, half]
    · intro o i d
      fin_cases o
      · exact kvl_apply c 0 0 0 i d 0 rfl _
      · exact kvl_apply c 1 0 0 i d 0 rfl _
      · exact kvl_apply c 2 0 0 i d 0 rfl _
      · exact kvl_apply c 3 0 0 i d 0 rfl _
    · intro o i d
      fin_cases o
      · exact kvl_apply c 0 1 0 i d 0 rfl _
      · exact kvl_apply c 1 1 0 i d 0 rfl _
      · exact kvl_apply c 2 1 0 i d 0 rfl _
      · exact kvl_apply c 3 1 0 i d 0 rfl _
  · rw [if_neg (by show ¬ (1 : ℕ) = 0; omega)]
    show cx1 I c (ValueIdx.ix4 (0 : Fin 1) (0 : Fin 1) r d) = _
    rw [← ix4_eq_valueIdx]
    refine Eq.trans ?_ (head_ctx G c 1 (extractStridedSlice S128x64 ![0, 64] (qv I c) slices_S128x128_o0_64_S128x64)
      ![kvl I c 0 0 64 inb_S4x2x128x128_S1x1x128x64_0_0_0_64, kvl I c 1 0 64 inb_S4x2x128x128_S1x1x128x64_1_0_0_64,
        kvl I c 2 0 64 inb_S4x2x128x128_S1x1x128x64_2_0_0_64, kvl I c 3 0 64 inb_S4x2x128x128_S1x1x128x64_3_0_0_64]
      ![kvl I c 0 1 64 inb_S4x2x128x128_S1x1x128x64_0_1_0_64, kvl I c 1 1 64 inb_S4x2x128x128_S1x1x128x64_1_1_0_64,
        kvl I c 2 1 64 inb_S4x2x128x128_S1x1x128x64_2_1_0_64, kvl I c 3 1 64 inb_S4x2x128x128_S1x1x128x64_3_1_0_64]
      ?_ ?_ ?_ r d)
    · rfl
    · intro r d
      pointwise [half]
    · intro o i d
      fin_cases o
      · exact kvl_apply c 0 0 1 i d 64 rfl _
      · exact kvl_apply c 1 0 1 i d 64 rfl _
      · exact kvl_apply c 2 0 1 i d 64 rfl _
      · exact kvl_apply c 3 0 1 i d 64 rfl _
    · intro o i d
      fin_cases o
      · exact kvl_apply c 0 1 1 i d 64 rfl _
      · exact kvl_apply c 1 1 1 i d 64 rfl _
      · exact kvl_apply c 2 1 1 i d 64 rfl _
      · exact kvl_apply c 3 1 1 i d 64 rfl _

end Given

end Cert.KernelIdeal.Heads

end
-- ==== Proof.Output.lean ====
/-
  The kernel's output, told by the problem's arrays: each device's two heads are added to the rows of their batch, and the
  four devices' shares together are the attention's product with the output weights.
-/
module

public import proofs.«01_k».proof.Proof.Contents

@[expose] public section

noncomputable section

namespace Cert.KernelIdeal.Heads

open Cert.KernelIdeal Cert.KernelIdeal.Gen Cert.KernelIdeal.Talk
open Idealize.ShloMosaic Idealize.ShloMosaic.TcCoe
open Cert.Attn

theorem pay35_apply (f : FVec Ideal S128x512 .f32) (w : FVec Ideal S1x1x128x64 .bf16) (u : FVec Ideal S64x512 .f32) (r : Fin 128) (n : Fin 512) :
    k0_pay35 (F := Ideal) f w u (ix2 r n) = f (ix2 r n) + ∑ d : Fin 64, w (ix4 0 0 r d) * u (ix2 d n) := by
  pointwise [k0_pay35]

theorem pay32_apply (w : FVec Ideal S1x1x128x64 .bf16) (u : FVec Ideal S64x512 .f32) (r : Fin 128) (n : Fin 512) :
    k0_pay32 (F := Ideal) w u (ix2 r n) = ∑ d : Fin 64, w (ix4 0 0 r d) * u (ix2 d n) := by
  pointwise [k0_pay32]

theorem pay34_eq (f : FVec Ideal S128x512 .f32) (w : FVec Ideal S1x1x128x64 .bf16) (u : FVec Ideal S64x512 .f32) :
    k0_pay34 (F := Ideal) (k0_pay33 w u) f = k0_pay35 f w u := rfl
theorem pay36_eq (f : FVec Ideal S128x512 .f32) (w : FVec Ideal S1x1x128x64 .bf16) (u : FVec Ideal S64x512 .f32) :
    k0_pay36 (F := Ideal) f w u = k0_pay35 f w u := rfl
theorem pay37_eq (f : FVec Ideal S128x512 .f32) (w : FVec Ideal S1x1x128x64 .bf16) (u : FVec Ideal S64x512 .f32) :
    k0_pay37 (F := Ideal) f w u = k0_pay35 f w u := rfl
theorem pay40_eq (f : FVec Ideal S128x512 .f32) (w : FVec Ideal S1x1x128x64 .bf16) (u : FVec Ideal S64x512 .f32) :
    k0_pay40 (F := Ideal) (k0_pay38 f) (k0_pay39 w) u = k0_pay35 f w u := rfl
theorem pay41_eq (f : FVec Ideal S128x512 .f32) (w : FVec Ideal S1x1x128x64 .bf16) (u : FVec Ideal S64x512 .f32) :
    k0_pay41 (F := Ideal) f w u = k0_pay35 f w u := rfl
theorem pay42_eq (f : FVec Ideal S128x512 .f32) (w : FVec Ideal S1x1x128x64 .bf16) (u : FVec Ideal S64x512 .f32) :
    k0_pay42 (F := Ideal) f w u = k0_pay35 f w u := rfl

theorem pay31_apply (r : Fin 128) (n : Fin 512) : k0_pay31 (F := Ideal) (ix2 r n) = 0 := by
  pointwise [k0_pay31]

/-- The sum over the devices, in the order in which device `c` adds them. -/
theorem sum_order (f : Dev nD → EReal) (c : Dev nD) : f c + f (nx c 0) + f (nx c 2) + f (nx c 1) = ∑ t : Fin 4, f t := by
  rw [Fin.sum_univ_four]
  have h : ∀ t : Dev nD, t = 0 ∨ t = 1 ∨ t = 2 ∨ t = 3 := by decide
  rcases h c with rfl | rfl | rfl | rfl
  · show f 0 + f 1 + f 3 + f 2 = _; abel
  · show f 1 + f 2 + f 0 + f 3 = _; abel
  · show f 2 + f 3 + f 1 + f 0 = _; abel
  · show f 3 + f 0 + f 2 + f 1 = _; abel

section Given

variable {I : Inp Ideal} {X : Fin 2 → Fin 128 → Fin 512 → EReal} {Wq : Fin 512 → Fin 256 → EReal}
  {K V : Fin 2 → Fin 512 → Fin 4 → Fin 64 → EReal} {Wo : Fin 256 → Fin 512 → EReal} (G : Given I X Wq K V Wo)

/-- What head `j` of device `t` adds to row `r` of batch `b`. -/
def share (X : Fin 2 → Fin 128 → Fin 512 → EReal) (Wq : Fin 512 → Fin 256 → EReal)
    (K V : Fin 2 → Fin 512 → Fin 4 → Fin 64 → EReal) (Wo : Fin 256 → Fin 512 → EReal)
    (b : Fin 2) (r : Fin 128) (n : Fin 512) (t : Dev nD) (j : Fin 2) : EReal :=
  if b = bt t then ∑ d : Fin 64, ctx X Wq K V (bt t) (hd t j) r d * Wo (hcol (hd t j) d) n else 0

theorem sum_share (b : Fin 2) (r : Fin 128) (n : Fin 512) :
    ∑ t : Fin 4, (share X Wq K V Wo b r n t 0 + share X Wq K V Wo b r n t 1) = out X Wq K V Wo b r n := by
  unfold share out
  rw [Fin.sum_univ_four, Fin.sum_univ_four]
  have b0 : bt 0 = 0 := rfl
  have b1 : bt 1 = 0 := rfl
  have b2 : bt 2 = 1 := rfl
  have b3 : bt 3 = 1 := rfl
  have h00 : hd 0 0 = 0 := rfl
  have h01 : hd 0 1 = 1 := rfl
  have h10 : hd 1 0 = 2 := rfl
  have h11 : hd 1 1 = 3 := rfl
  have h20 : hd 2 0 = 0 := rfl
  have h21 : hd 2 1 = 1 := rfl
  have h30 : hd 3 0 = 2 := rfl
  have h31 : hd 3 1 = 3 := rfl
  rw [b0, b1, b2, b3, h00, h01, h10, h11, h20, h21, h30, h31]
  have hb : b = 0 ∨ b = 1 := by revert b; decide
  rcases hb with rfl | rfl
  · simp only [↓reduceIte, show ¬ (0 : Fin 2) = 1 from by decide, add_zero, add_assoc]
  · simp only [↓reduceIte, show ¬ (1 : Fin 2) = 0 from by decide, add_zero, zero_add, add_assoc]

include G

theorem rd_ctx {off : Fin 4 → ℕ} (t : Dev nD) (j : Fin 2) (e : off = ![t.val, j.val, 0, 0])
    (inb : ∀ a, off a + S1x1x128x64.size a ≤ S4x2x128x64.size a) (r : Fin 128) (d : Fin 64) :
    ld (s := S4x2x128x64) off S1x1x128x64.size inb (CG I) (ix4 0 0 r d) = ctx X Wq K V (bt t) (hd t j) r d := by
  refine (ld_at (s := S4x2x128x64) e _ _ _ _ (ix4 t j r d) (fun a => ?_)).trans (CG_apply G t j r d)
  fin_cases a
  · exact (Nat.add_zero _).symm
  · exact (Nat.add_zero _).symm
  · exact (Nat.zero_add _).symm
  · exact (Nat.zero_add _).symm

theorem rd_wo {off : Fin 2 → ℕ} (c : Dev nD) (h : Fin 4) (e : off = ![h.val * 64, 0])
    (inb : ∀ a, off a + S64x512.size a ≤ S256x512.size a) (d : Fin 64) (n : Fin 512) :
    ld (s := S256x512) off S64x512.size inb (I.wo c) (ix2 d n) = Wo (hcol h d) n := by
  refine (ld_at (s := S256x512) e _ _ _ _ (ix2 (hcol h d) n) (fun a => ?_)).trans (G.wo c _ _)
  fin_cases a
  · rfl
  · exact (Nat.zero_add _).symm

omit G in
theorem row_in {off : Fin 2 → ℕ} (b : Fin 2) (e : off = ![128 * b.val, 0]) (r : Fin 128) (n : Fin 512) :
    ∀ a : Fin 2, ((ix2 (brow b r) n : S256x512.Idx) a).val = off a + ((ix2 r n : S128x512.Idx) a).val := by
  subst e
  intro a
  fin_cases a
  · show b.val * 128 + r.val = 128 * b.val + r.val; omega
  · exact (Nat.zero_add _).symm

omit G in
theorem row_out {off : Fin 2 → ℕ} (b b' : Fin 2) (h : b ≠ b') (e : off = ![128 * b'.val, 0]) (r : Fin 128) (n : Fin 512) :
    ((ix2 (brow b r) n : S256x512.Idx) 0).val < off 0 ∨ off 0 + S128x512.size 0 ≤ ((ix2 (brow b r) n : S256x512.Idx) 0).val := by
  subst e
  have h' : b.val ≠ b'.val := fun e => h (Fin.ext e)
  show b.val * 128 + r.val < 128 * b'.val ∨ 128 * b'.val + 128 ≤ b.val * 128 + r.val
  omega

/-- Adding one head's product with the output weights to the rows of its batch. -/
theorem step (c t : Dev nD) (j : Fin 2) {o1 : Fin 2 → ℕ} (e1 : o1 = ![128 * (t.val / 2), 0]) (inb1 : ∀ a, o1 a + S128x512.size a ≤ S256x512.size a)
    {o2 : Fin 4 → ℕ} (e2 : o2 = ![t.val, j.val, 0, 0]) (inb2 : ∀ a, o2 a + S1x1x128x64.size a ≤ S4x2x128x64.size a)
    {o3 : Fin 2 → ℕ} (e3 : o3 = ![(hd t j).val * 64, 0]) (inb3 : ∀ a, o3 a + S64x512.size a ≤ S256x512.size a)
    (f : S256x512.Idx → Elt Ideal .f32) (b : Fin 2) (r : Fin 128) (n : Fin 512) :
    wr o1 inb1 f (k0_pay35 (ld (s := S256x512) o1 S128x512.size inb1 f) (ld (s := S4x2x128x64) o2 S1x1x128x64.size inb2 (CG I))
      (ld (s := S256x512) o3 S64x512.size inb3 (I.wo c))) (ix2 (brow b r) n)
      = f (ix2 (brow b r) n) + share X Wq K V Wo b r n t j := by
  have e1' : o1 = ![128 * (bt t).val, 0] := e1
  by_cases h : b = bt t
  · rw [wr_in _ _ _ _ _ (ix2 r n) (row_in b (h ▸ e1') r n), pay35_apply, share, if_pos h]
    congr 1
    · exact ld_at (s := S256x512) rfl _ _ _ _ _ (row_in b (h ▸ e1') r n)
    · exact Finset.sum_congr rfl fun d _ => by rw [rd_ctx G t j e2, rd_wo G c _ e3]
  · rw [wr_out _ _ _ _ _ 0 (row_out b (bt t) h e1' r n), share, if_neg h, add_zero]

/-- The device's own two heads. -/
theorem out0_apply (c : Dev nD) (b : Fin 2) (r : Fin 128) (n : Fin 512) :
    out0 I c (ix2 (brow b r) n) = share X Wq K V Wo b r n c 0 + share X Wq K V Wo b r n c 1 := by
  unfold out0
  dsimp only
  rw [pay34_eq, step G c c 1 (off8_val c) _ (off13_val c) _ (off17_1 c)]
  have z : ∀ p q s : EReal, p = q → p + s = q + s := fun _ _ _ e => e ▸ rfl
  apply z
  have e8 : k0_off8 c = ![128 * (bt c).val, 0] := off8_val c
  by_cases h : b = bt c
  · rw [wr_in _ _ _ _ _ (ix2 r n) (row_in b (h ▸ e8) r n), pay32_apply, share, if_pos h]
    exact Finset.sum_congr rfl fun d _ => by rw [rd_ctx G c 0 (off10_val c), rd_wo G c _ (off17_0 c)]
  · have e16 : k0_off16 c = ![128 * b.val, 0] := by
      rw [off16_val]
      have h' : b.val ≠ c.val / 2 := fun e => h (Fin.ext e)
      have hc : c.val / 2 < 2 := (bt c).isLt
      rw [show 1 - c.val / 2 = b.val from by omega]
    rw [wr_out _ _ _ _ _ 0 (row_out b (bt c) h e8 r n), wr_in _ _ _ _ _ (ix2 r n) (row_in b e16 r n), pay31_apply, share, if_neg h]

theorem out1_apply (c : Dev nD) (b : Fin 2) (r : Fin 128) (n : Fin 512) :
    out1 I c (ix2 (brow b r) n) = out0 I c (ix2 (brow b r) n)
      + share X Wq K V Wo b r n (nx c 0) 0 + share X Wq K V Wo b r n (nx c 0) 1 := by
  unfold out1
  dsimp only
  rw [pay36_eq, step G c (nx c 0) 1 (off20_1 c) _ (off25_1 c) _ (off22_11 c),
    step G c (nx c 0) 0 (off20_1 c) _ (off21_1 c) _ (off22_10 c)]

theorem out2_apply (c : Dev nD) (b : Fin 2) (r : Fin 128) (n : Fin 512) :
    out2 I c (ix2 (brow b r) n) = out1 I c (ix2 (brow b r) n)
      + share X Wq K V Wo b r n (nx c 2) 0 + share X Wq K V Wo b r n (nx c 2) 1 := by
  unfold out2
  dsimp only
  rw [pay37_eq, pay40_eq, step G c (nx c 2) 1 (off20_3 c) _ (off25_3 c) _ (off22_31 c),
    step G c (nx c 2) 0 (off20_3 c) _ (off21_3 c) _ (off22_30 c)]

/-- The kernel's output is the attention's. -/
theorem out3_apply (c : Dev nD) (b : Fin 2) (r : Fin 128) (n : Fin 512) :
    out3 I c (ix2 (brow b r) n) = out X Wq K V Wo b r n := by
  have h : out3 I c (ix2 (brow b r) n) = out2 I c (ix2 (brow b r) n)
      + share X Wq K V Wo b r n (nx c 1) 0 + share X Wq K V Wo b r n (nx c 1) 1 := by
    unfold out3
    dsimp only
    rw [pay41_eq, pay42_eq, step G c (nx c 1) 1 (off20_2 c) _ (off25_2 c) _ (off22_21 c),
      step G c (nx c 1) 0 (off20_2 c) _ (off21_2 c) _ (off22_20 c)]
  rw [h, out2_apply G, out1_apply G, out0_apply G, ← sum_share,
    ← sum_order (fun t => share X Wq K V Wo b r n t 0 + share X Wq K V Wo b r n t 1) c]
  simp only [add_assoc]

end Given

end Cert.KernelIdeal.Heads

end
-- ==== Proof.RefValue.lean ====
/-
  The reference's result, told by the problem's arrays.
-/
module

public import proofs.«01_k».proof.Proof.Gen.ReferenceIdeal.Run
public import proofs.«01_k».proof.Proof.Spec
public import Idealize.ShloMosaic.Lib.Pointwise
public import Idealize.ShloMosaic.Lib.KernelVsHost

@[expose] public section

noncomputable section

namespace Cert.ReferenceIdeal.Terms

open Cert.ReferenceIdeal Cert.ReferenceIdeal.Gen
open Idealize.ShloMosaic Idealize.ShloMosaic.TcCoe
open Cert.Attn

/-! ## The reference's steps by name -/

/-- The block of each query row. -/
def fd128 : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The block of each key. -/
def fd512 : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The blocks' numbers added. -/
def rsum : IVec S128x512 32 :=
  addi (broadcastInDim S128x512 ![0, 1] bcast_S128x1_S128x512_0_1 (broadcastInDim S128x1 ![0] bcast_S128_S128x1_0 fd128)) (broadcastInDim S128x512 ![0, 1] bcast_S1x512_S128x512_0_1 (broadcastInDim S1x512 ![1] bcast_S512_S1x512_1 fd512))

/-- Three. -/
def rthree : IVec S_ 32 :=
  select (cmpi .eq (id (constantI S_ 32 3#32)) (constantI S_ 32 0#32)) (constantI S_ 32 1#32) (id (constantI S_ 32 3#32))

/-- The sum's remainder by three. -/
def rrem : IVec S128x512 32 :=
  Host.remsi rsum (broadcastInDim S128x512 ![] bcast_S_S128x512 rthree)

/-- The mask. -/
def rmask : IVec S128x512 1 :=
  ori (ori (cmpi .eq (broadcastInDim S128x512 ![0, 1] bcast_S128x1_S128x512_0_1 (broadcastInDim S128x1 ![0] bcast_S128_S128x1_0 fd128)) (broadcastInDim S128x512 ![0, 1] bcast_S1x512_S128x512_0_1 (broadcastInDim S1x512 ![1] bcast_S512_S1x512_1 fd512))) (broadcastInDim S128x512 ![0, 1] bcast_S1x512_S128x512_0_1 (cmpi .eq (broadcastInDim S1x512 ![1] bcast_S512_S1x512_1 fd512) (broadcastInDim S1x512 ![] bcast_S_S1x512 (constantI S_ 32 0#32))))) (cmpi .eq (select (andi (cmpi .ne (cmpi .slt rrem (broadcastInDim S128x512 ![] bcast_S_S128x512 (constantI S_ 32 0#32))) (broadcastInDim S128x512 ![] bcast_S_S128x512 (cmpi .slt rthree (constantI S_ 32 0#32)))) (cmpi .ne rrem (broadcastInDim S128x512 ![] bcast_S_S128x512 (constantI S_ 32 0#32)))) (addi rrem (broadcastInDim S128x512 ![] bcast_S_S128x512 rthree)) rrem) (broadcastInDim S128x512 ![] bcast_S_S128x512 (constantI S_ 32 0#32)))

/-- The rows that see a key. -/
def rkeep : IVec S128 1 :=
  Host.reduce IntOp.ori rmask (constantI S_ 1 0#1) reducesTo_S128x512_S128_d1 h_S_

/-- The masked scores. -/
def rscore (x : FVec Ideal S2x128x512 .f32) (wq : FVec Ideal S512x256 .f32) (k : FVec Ideal S2x512x4x64 .f32) : FVec Ideal S2x4x128x512 .f32 :=
  select (broadcastInDim S2x4x128x512 ![0, 1, 2, 3] bcast_S1x1x128x512_S2x4x128x512_0_1_2_3 (broadcastInDim S1x1x128x512 ![2, 3] bcast_S128x512_S1x1x128x512_2_3 rmask)) (mulf (Host.dotGeneral dot_S2x128x4x64_S2x512x4x64_S2x4x128x512_3_3_1_1_02_02 none (shapeCast _ (Host.dotGeneral dot_S2x128x512_S512x256_S2x128x256_2_0_01_1_n_n none x wq) shapeCasts_S2x128x256_S2x128x4x64) k) (broadcastInDim S2x4x128x512 ![] bcast_S_S2x4x128x512 (constant S_ .f32 0x3E000000#32))) (broadcastInDim S2x4x128x512 ![] bcast_S_S2x4x128x512 (id (constant S_ .f32 0xFF800000#32)))

/-- The weights before dividing. -/
def rexp (SC : FVec Ideal S2x4x128x512 .f32) : FVec Ideal S2x4x128x512 .f32 :=
  Host.exp (subf SC (broadcastInDim S2x4x128x512 ![0, 1, 2, 3] bcast_S2x4x128x1_S2x4x128x512_0_1_2_3 (broadcastInDim S2x4x128x1 ![0, 1, 2] bcast_S2x4x128_S2x4x128x1_0_1_2 (Host.reduce FloatOps.maximumf SC (constant S_ .f32 0xFF800000#32) reducesTo_S2x4x128x512_S2x4x128_d3 h_S_))))

/-- The weights. -/
def rwgt (SC : FVec Ideal S2x4x128x512 .f32) : FVec Ideal S2x4x128x512 .f32 :=
  select (broadcastInDim S2x4x128x512 ![0, 1, 2, 3] bcast_S1x1x128x1_S2x4x128x512_0_1_2_3 (broadcastInDim S1x1x128x1 ![2] bcast_S128_S1x1x128x1_2 rkeep)) (Host.divf (rexp SC) (broadcastInDim S2x4x128x512 ![0, 1, 2, 3] bcast_S2x4x128x1_S2x4x128x512_0_1_2_3 (select (broadcastInDim S2x4x128x1 ![0, 1, 2, 3] bcast_S1x1x128x1_S2x4x128x1_0_1_2_3 (broadcastInDim S1x1x128x1 ![2] bcast_S128_S1x1x128x1_2 rkeep)) (broadcastInDim S2x4x128x1 ![0, 1, 2] bcast_S2x4x128_S2x4x128x1_0_1_2 (Host.reduceAdd (rexp SC) (constant S_ .f32 0x00000000#32) reducesTo_S2x4x128x512_S2x4x128_d3 h_S_)) (broadcastInDim S2x4x128x1 ![] bcast_S_S2x4x128x1 (id (constant S_ .f32 0x3F800000#32)))))) (broadcastInDim S2x4x128x512 ![] bcast_S_S2x4x128x512 (id (constant S_ .f32 0x00000000#32)))

/-- The result. -/
def rout (x : FVec Ideal S2x128x512 .f32) (wq : FVec Ideal S512x256 .f32) (k v : FVec Ideal S2x512x4x64 .f32) (wo : FVec Ideal S256x512 .f32) : FVec Ideal S2x128x512 .f32 :=
  Host.dotGeneral dot_S2x128x256_S256x512_S2x128x512_2_0_01_1_n_n none (shapeCast _ (transpose S2x128x4x64 [0, 3, 1, 2] (Host.dotGeneral dot_S2x512x4x64_S2x4x128x512_S2x4x64x128_1_3_3_2_02_01 none v (rwgt (rscore x wq k))) transposes_S2x4x64x128_S2x128x4x64_0_3_1_2) shapeCasts_S2x128x4x64_S2x128x256) wo

theorem res_eq (m : (ℓ : Loc nD τ sig) → Buf (Elt Ideal) ℓ) (c : Dev nD) :
    Value.res_main_v44 m c = rout (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v44
  rfl

/-! ## The mask -/

theorem fd128_apply (r : Fin 128) : fd128 (ix1 r) = BitVec.ofNat 32 (r.val / 64) := by
  pointwise [fd128]
  revert r
  decide +kernel

theorem fd512_apply (j : Fin 512) : fd512 (ix1 j) = BitVec.ofNat 32 (j.val / 64) := by
  pointwise [fd512]
  revert j
  decide +kernel

theorem rmask_apply (r : Fin 128) (j : Fin 512) : rmask (ix2 r j) = BitVec.ofBool (sees (r.val / 64) (j.val / 64)) := by
  have h1 := fd128_apply r
  have h2 := fd512_apply j
  unfold rmask rrem rsum
  generalize fd128 = A at h1 ⊢
  generalize fd512 = B at h2 ⊢
  pointwise [rthree]
  rw [h1, h2]
  have ha : r.val / 64 < 2 := by omega
  have hb : j.val / 64 < 8 := by omega
  generalize r.val / 64 = a at ha ⊢
  generalize j.val / 64 = b at hb ⊢
  revert a b
  decide +kernel

theorem ori_one (x : BitVec 1) : IntOp.ori (1#1) x = 1#1 := by
  revert x
  decide +kernel

/-- Every row sees the first key. -/
theorem rkeep_apply (r : Fin 128) : rkeep (ix1 r) = 1#1 := by
  have h := rmask_apply r 0
  have hs : sees (r.val / 64) ((0 : Fin 512).val / 64) = true := by
    simp [sees]
  rw [hs] at h
  unfold rkeep
  generalize rmask = A at h ⊢
  pointwise []
  rw [← Finset.insert_erase (Finset.mem_univ (0 : Fin 512)), Finset.fold_insert (Finset.notMem_erase _ _), h]
  exact ori_one _

/-! ## Scores and weights -/

theorem ofBits_bot : Ideal.ofBits .f32 0xFF800000#32 = (⊥ : EReal) := by simp [Ideal.ofBits, Ideal.ieee]

theorem rscore_apply (x : FVec Ideal S2x128x512 .f32) (wq : FVec Ideal S512x256 .f32) (k : FVec Ideal S2x512x4x64 .f32)
    (b : Fin 2) (h : Fin 4) (r : Fin 128) (j : Fin 512) :
    rscore x wq k (ix4 b h r j) = score (fun b r e => x (ix3 b r e)) (fun e n => wq (ix2 e n)) (fun b j h d => k (ix4 b j h d)) b h r j := by
  have hm := rmask_apply r j
  unfold rscore
  generalize rmask = A at hm ⊢
  pointwise []
  rw [hm]
  unfold score query hcol
  have e : (id (constant (F := Ideal) S_ FTy.f32 4286578688#32) ix0) = (⊥ : EReal) := ofBits_bot
  rw [e]
  cases sees (r.val / 64) (j.val / 64)
  · rfl
  · rfl

theorem rexp_apply (SC : FVec Ideal S2x4x128x512 .f32) (b : Fin 2) (h : Fin 4) (r : Fin 128) (j : Fin 512) :
    rexp SC (ix4 b h r j) = wgt (fun j => SC (ix4 b h r j)) j := by
  pointwise [rexp]
  unfold wgt top
  rw [ofBits_bot]

theorem rwgt_apply (SC : FVec Ideal S2x4x128x512 .f32) (b : Fin 2) (h : Fin 4) (r : Fin 128) (j : Fin 512) :
    rwgt SC (ix4 b h r j) = Ideal.div (wgt (fun j => SC (ix4 b h r j)) j) (den fun j => SC (ix4 b h r j)) := by
  have hk := rkeep_apply r
  have he := fun j => rexp_apply SC b h r j
  unfold rwgt
  generalize rexp SC = E at he ⊢
  generalize rkeep = A at hk ⊢
  pointwise []
  rw [hk]
  simp only [he]
  rfl

theorem rout_apply (x : FVec Ideal S2x128x512 .f32) (wq : FVec Ideal S512x256 .f32) (k v : FVec Ideal S2x512x4x64 .f32)
    (wo : FVec Ideal S256x512 .f32) (X : Fin 2 → Fin 128 → Fin 512 → EReal) (Wq : Fin 512 → Fin 256 → EReal)
    (K V : Fin 2 → Fin 512 → Fin 4 → Fin 64 → EReal) (Wo : Fin 256 → Fin 512 → EReal)
    (hx : X = fun b r e => x (ix3 b r e)) (hq : Wq = fun e n => wq (ix2 e n)) (hk : K = fun b j h d => k (ix4 b j h d))
    (hv : V = fun b j h d => v (ix4 b j h d)) (ho : Wo = fun e n => wo (ix2 e n))
    (ht : ∀ b h r j, score X Wq K b h r j ≠ ⊤) (h0 : ∀ b h r, score X Wq K b h r 0 ≠ ⊥)
    (b : Fin 2) (r : Fin 128) (n : Fin 512) :
    rout x wq k v wo (ix3 b r n) = out X Wq K V Wo b r n := by
  have hs : ∀ b h r, (fun j => rscore x wq k (ix4 b h r j)) = score X Wq K b h r := by
    intro b h r
    funext j
    rw [rscore_apply, hx, hq, hk]
  have hw := fun b h r j => rwgt_apply (rscore x wq k) b h r j
  unfold rout
  generalize rwgt (rscore x wq k) = W at hw ⊢
  pointwise []
  simp only [hw, hs]
  rw [Fin.sum_univ_tiles 4 64 rfl]
  unfold out
  refine Finset.sum_congr rfl fun h _ => Finset.sum_congr rfl fun d _ => ?_
  have e1 : (⟨(hcol h d).val / 64, by have := (hcol h d).isLt; omega⟩ : Fin 4) = h := Fin.ext (by simp only [hcol]; omega)
  have e2 : (⟨(hcol h d).val % 64, by omega⟩ : Fin 64) = d := Fin.ext (by simp only [hcol]; omega)
  show (∑ x, v (ix4 b x ⟨(hcol h d).val / 64, by have := (hcol h d).isLt; omega⟩ ⟨(hcol h d).val % 64, by omega⟩)
      * Ideal.div (wgt (score X Wq K b ⟨(hcol h d).val / 64, by have := (hcol h d).isLt; omega⟩ r) x)
        (den (score X Wq K b ⟨(hcol h d).val / 64, by have := (hcol h d).isLt; omega⟩ r))) * wo (ix2 (hcol h d) n) = _
  rw [e1, e2, ctx, ← weigh _ (ht b h r) 0 (h0 b h r), hv, ho]

/-! ## Scores of finite arrays -/

theorem scale_real : Ideal.ofBits .f32 0x3E000000#32 = ((1 / 8 : ℝ) : EReal) := by
  simp [Ideal.ofBits, Ideal.ieee]
  rw [← EReal.coe_mul]
  norm_num

theorem sum_real {n : ℕ} (f : Fin n → EReal) (h : ∀ j, ∃ r : ℝ, f j = r) : ∃ r : ℝ, ∑ j, f j = r := by
  choose w hw using h
  refine ⟨∑ j, w j, ?_⟩
  rw [Finset.sum_congr rfl fun j _ => hw j]
  exact (map_sum (⟨⟨fun r : ℝ => (r : EReal), rfl⟩, EReal.coe_add⟩ : ℝ →+ EReal) w Finset.univ).symm

theorem mul_real {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

section Finite

variable (X : Fin 2 → Fin 128 → Fin 512 → EReal) (Wq : Fin 512 → Fin 256 → EReal) (K : Fin 2 → Fin 512 → Fin 4 → Fin 64 → EReal)
  (hX : ∀ b r e, ∃ q : ℝ, X b r e = q) (hW : ∀ e n, ∃ q : ℝ, Wq e n = q) (hK : ∀ b j h d, ∃ q : ℝ, K b j h d = q)
include hX hW hK

theorem dot_real (b : Fin 2) (h : Fin 4) (r : Fin 128) (j : Fin 512) :
    ∃ q : ℝ, (∑ d : Fin 64, query X Wq b r (hcol h d) * K b j h d) * Ideal.ofBits .f32 0x3E000000#32 = q :=
  mul_real (sum_real _ fun d => mul_real (sum_real _ fun k => mul_real (hX b r k) (hW k _)) (hK b j h d)) ⟨_, scale_real⟩

theorem score_ne_top (b : Fin 2) (h : Fin 4) (r : Fin 128) (j : Fin 512) : score X Wq K b h r j ≠ ⊤ := by
  unfold score
  obtain ⟨q, hq⟩ := dot_real X Wq K hX hW hK b h r j
  split
  · rw [hq]; exact EReal.coe_ne_top q
  · exact bot_ne_top

theorem score_ne_bot (b : Fin 2) (h : Fin 4) (r : Fin 128) : score X Wq K b h r 0 ≠ ⊥ := by
  unfold score
  obtain ⟨q, hq⟩ := dot_real X Wq K hX hW hK b h r 0
  rw [if_pos (by simp [sees]), hq]
  exact EReal.coe_ne_bot q

end Finite

end Cert.ReferenceIdeal.Terms

end
-- ==== Proof.Value.lean ====
/-
  The claim about values: on finite arguments every device's result is the reference's.
-/
module

public import proofs.«01_k».proof.Proof.Frames
public import proofs.«01_k».proof.Proof.Output
public import proofs.«01_k».proof.Proof.RefValue

@[expose] public section

noncomputable section

open Idealize.ShloMosaic Idealize.ShloMosaic.TcCoe Idealize.SL.Sem
open Cert.Attn

namespace Cert.KernelIdeal.Heads

open Cert.KernelIdeal Cert.KernelIdeal.Gen Cert.KernelIdeal.Talk

variable (m : (ℓ : Loc nD τ sig) → Buf (Elt Ideal) ℓ)

/-! ## The reshapes around the kernel -/

theorem V_v1 (c : Dev nD) : V m c main_v1 = shapeCast S256x512 (m ((c : Thread nD τ).loc main_arg0)) shapeCasts_S2x128x512_S256x512 := by
  show StableHlo.after (List.flatten [hostOps0]) (fun b => m (c, b)) (Proc.devRef .tc main_v1) = _
  simp only [hostOps0, List.flatten_cons, List.flatten_nil, List.append_nil]
  after_results_simp
  rfl

theorem V_v2 (c : Dev nD) : V m c main_v2 = shapeCast S2x128x256 (m ((c : Thread nD τ).loc main_arg2)) shapeCasts_S2x128x4x64_S2x128x256 := by
  show StableHlo.after (List.flatten [hostOps0]) (fun b => m (c, b)) (Proc.devRef .tc main_v2) = _
  simp only [hostOps0, List.flatten_cons, List.flatten_nil, List.append_nil]
  after_results_simp
  rfl

theorem V_v3 (c : Dev nD) : V m c main_v3 = shapeCast S2x128x256 (m ((c : Thread nD τ).loc main_arg3)) shapeCasts_S2x128x4x64_S2x128x256 := by
  show StableHlo.after (List.flatten [hostOps0]) (fun b => m (c, b)) (Proc.devRef .tc main_v3) = _
  simp only [hostOps0, List.flatten_cons, List.flatten_nil, List.append_nil]
  after_results_simp
  rfl

theorem W2_v5 (c : Dev nD) : W2 m c (Proc.devRef .tc main_v5) = shapeCast S2x128x512 (out3 (inp m) c) shapeCasts_S256x512_S2x128x512 := by
  unfold W2
  rw [StableHlo.after_cons, StableHlo.after_nil, StableHlo.reshape_result, W1_v4]
  rfl

theorem cast_x (x : FVec Ideal S2x128x512 .f32) (b : Fin 2) (r : Fin 128) (k : Fin 512) :
    shapeCast S256x512 x shapeCasts_S2x128x512_S256x512 (ix2 (brow b r) k) = x (ix3 b r k) := by
  have e1 : (⟨(brow b r).val / 128, by have := (brow b r).isLt; omega⟩ : Fin 2) = b := Fin.ext (by simp only [brow]; omega)
  have e2 : (⟨(brow b r).val % 128, by omega⟩ : Fin 128) = r := Fin.ext (by simp only [brow]; omega)
  pointwise []
  rw [e1, e2]

theorem cast_kv (x : FVec Ideal S2x128x4x64 .f32) (b : Fin 2) (i : Fin 128) (h : Fin 4) (d : Fin 64) :
    shapeCast S2x128x256 x shapeCasts_S2x128x4x64_S2x128x256 (ix3 b i (hcol h d)) = x (ix4 b i h d) := by
  have e1 : (⟨(hcol h d).val / 64, by have := (hcol h d).isLt; omega⟩ : Fin 4) = h := Fin.ext (by simp only [hcol]; omega)
  have e2 : (⟨(hcol h d).val % 64, by omega⟩ : Fin 64) = d := Fin.ext (by simp only [hcol]; omega)
  pointwise []
  rw [e1, e2]

theorem cast_o (x : FVec Ideal S256x512 .f32) (b : Fin 2) (r : Fin 128) (n : Fin 512) :
    shapeCast S2x128x512 x shapeCasts_S256x512_S2x128x512 (ix3 b r n) = x (ix2 (brow b r) n) := by
  pointwise []
  rfl

/-- A device's rows among all the rows. -/
theorem block_kv (v : FVec Ideal ⟨4, ![2, 512, 4, 64]⟩ .f32) (c : Fin 4) (b : Fin 2) (i : Fin 128) (h : Fin 4) (d : Fin 64) :
    Layout.block ⟨4, ![2, 128, 4, 64]⟩ ⟨4, ![2, 512, 4, 64]⟩ 1 4 c v (by decide) (ix4 b i h d) = v (ix4 b (key c i) h d) := by
  rw [Layout.block_apply]
  congr 1
  funext a
  refine Fin.ext ?_
  rw [Layout.Tiles.idx_val]
  fin_cases a <;> rfl

/-- Arguments that agree with whole arrays are the problem's arrays. -/
theorem given (x : FVec Ideal S2x128x512 .f32) (wq : FVec Ideal S512x256 .f32) (k v : FVec Ideal ⟨4, ![2, 512, 4, 64]⟩ .f32)
    (wo : FVec Ideal S256x512 .f32)
    (h : ∀ c : Dev nD, m ((c : Thread nD τ).loc main_arg0) = x ∧ m ((c : Thread nD τ).loc main_arg1) = wq
      ∧ m ((c : Thread nD τ).loc main_arg2) = Layout.block ⟨4, ![2, 128, 4, 64]⟩ ⟨4, ![2, 512, 4, 64]⟩ 1 4 c k
      ∧ m ((c : Thread nD τ).loc main_arg3) = Layout.block ⟨4, ![2, 128, 4, 64]⟩ ⟨4, ![2, 512, 4, 64]⟩ 1 4 c v
      ∧ m ((c : Thread nD τ).loc main_arg4) = wo) :
    Given (inp m) (fun b r e => x (ix3 b r e)) (fun e n => wq (ix2 e n)) (fun b j h d => k (ix4 b j h d))
      (fun b j h d => v (ix4 b j h d)) (fun e n => wo (ix2 e n)) where
  x c b r e := by
    show V m c main_v1 _ = _
    rw [V_v1, (h c).1]
    exact cast_x x b r e
  wq c e n := by
    show V m c main_arg1 _ = _
    rw [V_main_arg1, (h c).2.1]
  k c b i g d := by
    show V m c main_v2 _ = _
    rw [V_v2, (h c).2.2.1]
    exact (cast_kv _ b i g d).trans (block_kv k c b i g d)
  v c b i g d := by
    show V m c main_v3 _ = _
    rw [V_v3, (h c).2.2.2.1]
    exact (cast_kv _ b i g d).trans (block_kv v c b i g d)
  wo c e n := by
    show V m c main_arg4 _ = _
    rw [V_main_arg4, (h c).2.2.2.2]

end Cert.KernelIdeal.Heads

namespace Cert.Proof.Values

/-! ## The precondition -/

instance pre_kernel : Cert.Pre_finite_KernelIdeal.Facts := ⟨by decide, by decide, by decide⟩
instance pre_reference : Cert.Pre_finite_ReferenceIdeal.Facts := ⟨by decide, by decide, by decide⟩

/-- A number whose size lies below infinity is real. -/
theorem real_of_lt (x : EReal) (h : FloatOps.cmpf (F := Ideal) (φ := .f32) .olt (FloatOps.hostAbsf (F := Ideal) (φ := .f32) x) (Ideal.ofBits .f32 0x7F800000#32) = 1#1) :
    ∃ r : ℝ, x = r := by
  have ht : Ideal.ofBits .f32 0x7F800000#32 = (⊤ : EReal) := by simp [Ideal.ofBits, Ideal.ieee]
  rw [ht] at h
  induction x with
  | coe r => exact ⟨r, rfl⟩
  | bot =>
    simp [FloatOps.cmpf, FloatOps.hostAbsf, Ideal.cmp] at h
  | top =>
    simp [FloatOps.cmpf, FloatOps.hostAbsf, Ideal.cmp] at h

theorem real_x (x : FVec Ideal Cert.Pre_finite_KernelIdeal.S2x128x512 .f32) (wq : FVec Ideal Cert.Pre_finite_KernelIdeal.S512x256 .f32)
    (k v : FVec Ideal Cert.Pre_finite_KernelIdeal.S2x128x4x64 .f32) (wo : FVec Ideal Cert.Pre_finite_KernelIdeal.S256x512 .f32)
    (h : (Cert.Pre_finite_KernelIdeal.fn (F := Ideal) x wq k v wo).1 = fun _ => 1#1) (b : Fin 2) (r : Fin 128) (e : Fin 512) :
    ∃ q : ℝ, x (ix3 b r e) = q := by
  have h := congrFun h (ix3 b r e)
  exact real_of_lt _ h

theorem real_wq (x : FVec Ideal Cert.Pre_finite_KernelIdeal.S2x128x512 .f32) (wq : FVec Ideal Cert.Pre_finite_KernelIdeal.S512x256 .f32)
    (k v : FVec Ideal Cert.Pre_finite_KernelIdeal.S2x128x4x64 .f32) (wo : FVec Ideal Cert.Pre_finite_KernelIdeal.S256x512 .f32)
    (h : (Cert.Pre_finite_KernelIdeal.fn (F := Ideal) x wq k v wo).2.1 = fun _ => 1#1) (e : Fin 512) (n : Fin 256) :
    ∃ q : ℝ, wq (ix2 e n) = q := by
  have h := congrFun h (ix2 e n)
  exact real_of_lt _ h

theorem real_k (x : FVec Ideal Cert.Pre_finite_KernelIdeal.S2x128x512 .f32) (wq : FVec Ideal Cert.Pre_finite_KernelIdeal.S512x256 .f32)
    (k v : FVec Ideal Cert.Pre_finite_KernelIdeal.S2x128x4x64 .f32) (wo : FVec Ideal Cert.Pre_finite_KernelIdeal.S256x512 .f32)
    (h : (Cert.Pre_finite_KernelIdeal.fn (F := Ideal) x wq k v wo).2.2 = fun _ => 1#1) (b : Fin 2) (i : Fin 128) (g : Fin 4) (d : Fin 64) :
    ∃ q : ℝ, k (ix4 b i g d) = q := by
  have h := congrFun h (ix4 b i g d)
  exact real_of_lt _ h

/-! ## The claim -/

/-- On finite queries' and keys' arguments every device's result is the reference's. -/
theorem algebraic : Cert.algebraic_KernelIdeal_ReferenceIdeal_pre_finite_KernelIdeal := by
  intro m g m' g' hp ha
  refine ⟨Cert.ReferenceIdeal.Value.res_main_v44 m' 0, ?_, ?_⟩
  · refine (θ_run Cert.KernelIdeal.defs _ _).mono (fun r h c => ⟨?_, (h.1 c).1, (h.1 c).2.1, (h.1 c).2.2.1, (h.1 c).2.2.2.1, (h.1 c).2.2.2.2.1⟩)
      (Cert.KernelIdeal.Talk.run_main (F := Ideal) m g)
    refine ((h.1 c).2.2.2.2.2.trans (Cert.KernelIdeal.Heads.W2_v5 m c)).trans ?_
    have G := Cert.KernelIdeal.Heads.given m _ _ _ _ _ ha
    have hX : ∀ b r e, ∃ q : ℝ, (m' (((0 : Dev Cert.ReferenceIdeal.nD).tc : Thread Cert.ReferenceIdeal.nD Cert.ReferenceIdeal.τ).loc Cert.ReferenceIdeal.main_arg0) (ix3 b r e) : EReal) = (q : EReal) := by
      intro b r e
      rw [← (ha 0).1]
      exact real_x _ _ _ _ _ (hp 0).1 b r e
    have hW : ∀ e n, ∃ q : ℝ, (m' (((0 : Dev Cert.ReferenceIdeal.nD).tc : Thread Cert.ReferenceIdeal.nD Cert.ReferenceIdeal.τ).loc Cert.ReferenceIdeal.main_arg1) (ix2 e n) : EReal) = (q : EReal) := by
      intro e n
      rw [← (ha 0).2.1]
      exact real_wq _ _ _ _ _ (hp 0).2.1 e n
    have hK : ∀ b j h d, ∃ q : ℝ, (m' (((0 : Dev Cert.ReferenceIdeal.nD).tc : Thread Cert.ReferenceIdeal.nD Cert.ReferenceIdeal.τ).loc Cert.ReferenceIdeal.main_arg2) (ix4 b j h d) : EReal) = (q : EReal) := by
      intro b j h d
      obtain ⟨o, i, rfl⟩ := key_surj j
      have := real_k _ _ _ _ _ (hp o).2.2 b i h d
      rw [(ha o).2.2.1] at this
      rwa [Cert.KernelIdeal.Heads.block_kv _ o b i h d] at this
    rw [Cert.ReferenceIdeal.Terms.res_eq]
    funext i
    obtain ⟨b, q, n, rfl⟩ : ∃ b q n, i = ix3 b q n := ⟨i 0, i 1, i 2, by funext a; fin_cases a <;> rfl⟩
    refine (Cert.KernelIdeal.Heads.cast_o _ b q n).trans ((Cert.KernelIdeal.Heads.out3_apply G c b q n).trans ?_)
    exact (Cert.ReferenceIdeal.Terms.rout_apply _ _ _ _ _ _ _ _ _ _ rfl rfl rfl rfl rfl
      (Cert.ReferenceIdeal.Terms.score_ne_top _ _ _ hX hW hK) (Cert.ReferenceIdeal.Terms.score_ne_bot _ _ _ hX hW hK) b q n).symm
  · exact (θ_run Cert.ReferenceIdeal.defs _ _).mono (fun _ h => h 0) (Cert.ReferenceIdeal.Value.run (F := Ideal) m' g')

theorem frame_pi_pre : Cert.quiescent_KernelIdeal_pre_finite_KernelIdeal := fun m ρ _ => Cert.Proof.Frames.frame_pi m ρ trivial

theorem frame_ri_pre : Cert.quiescent_ReferenceIdeal_pre_finite_ReferenceIdeal := fun m ρ _ => Cert.Proof.Frames.frame_ri m ρ trivial

end Cert.Proof.Values

end
-- ==== Proof.lean ====
/-
  The proof of `Cert.Claim`: the facts the programs state, then the claims in the order of their list.
-/
module

public import proofs.«01_k».proof.Defs
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts,
  Values.pre_kernel, Values.pre_reference, Frames.frame_p, Frames.frame_pi, Values.frame_pi_pre, Frames.frame_ri,
  Values.frame_ri_pre, Frames.preserves, Values.algebraic⟩

end Cert.Proof

end
